-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_is_finite [hPre_gain_is_finite : Cert.Pre_gain_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gain_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_is_finite [hPre_gain_is_finite : Cert.Pre_gain_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gain_is_finite [hKernelIdeal : Cert.KernelIdeal.Facts] [hPre_gain_is_finite : Cert.Pre_gain_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gain_is_finite [hReferenceIdeal : Cert.ReferenceIdeal.Facts] [hPre_gain_is_finite : Cert.Pre_gain_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x39924925#32 ((1 / 3584 : ℝ) : EReal)

def algebraic_KernelIdeal_ReferenceIdeal_pre_gain_is_finite [hKernelIdeal : Cert.KernelIdeal.Facts] [hReferenceIdeal : Cert.ReferenceIdeal.Facts] [hPre_gain_is_finite : Cert.Pre_gain_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gain_is_finite : Cert.Pre_gain_is_finite.Facts),
    quiescent_Kernel (hKernel := hKernel)
    ∧ quiescent_KernelIdeal (hKernelIdeal := hKernelIdeal)
    ∧ quiescent_KernelIdeal_pre_gain_is_finite (hKernelIdeal := hKernelIdeal) (hPre_gain_is_finite := hPre_gain_is_finite)
    ∧ quiescent_ReferenceIdeal (hReferenceIdeal := hReferenceIdeal)
    ∧ quiescent_ReferenceIdeal_pre_gain_is_finite (hReferenceIdeal := hReferenceIdeal) (hPre_gain_is_finite := hPre_gain_is_finite)
    ∧ preserves_Kernel_KernelIdeal
    ∧ algebraic_KernelIdeal_ReferenceIdeal_pre_gain_is_finite (hKernelIdeal := hKernelIdeal) (hReferenceIdeal := hReferenceIdeal) (hPre_gain_is_finite := hPre_gain_is_finite)
-- ==== Pre_gain_is_finite.lean ====
abbrev S4x4096x3584 : Shape := ⟨3, ![4, 4096, 3584]⟩
abbrev S3584 : Shape := ⟨1, ![3584]⟩
abbrev S3584x1152 : Shape := ⟨2, ![3584, 1152]⟩
abbrev S1152 : Shape := ⟨1, ![1152]⟩
abbrev S128 : Shape := ⟨1, ![128]⟩
abbrev S_ : Shape := ⟨0, ![]⟩

class Facts : Prop where
  bitsLt_bf16_f32 : FTy.bits .bf16 < FTy.bits .f32
  bcast_S_S3584 : S_.BroadcastsInDim S3584 (![] : Fin 0 → Fin S3584.rank)

variable [Facts]

def fn {F : FTy → Type} [FloatOps F] (main_arg0 : FVec F S4x4096x3584 .bf16) (main_arg1 : FVec F S3584 .bf16) (main_arg2 : FVec F S3584x1152 .fp8e4m3) (main_arg3 : FVec F S1152 .f32) (main_arg4 : FVec F S128 .bf16) (main_arg5 : FVec F S128 .bf16) : IVec S3584 1 :=
  let main_v0 : FVec F S3584 .f32 := (extf .f32 · bitsLt_bf16_f32) main_arg1
  let main_v1 : FVec F S3584 .f32 := Host.absf main_v0
  let main_cst : FVec F S_ .f32 := constant S_ .f32 0x7F7F0000#32
  let main_v2 : FVec F S3584 .f32 := broadcastInDim S3584 ![] bcast_S_S3584 main_cst
  let main_v3 : IVec S3584 1 := cmpf .ole main_v1 main_v2
  main_v3
-- ==== Kernel.lean ====
abbrev S4x4096x3584 : Shape := ⟨3, ![4, 4096, 3584]⟩
abbrev S3584 : Shape := ⟨1, ![3584]⟩
abbrev S3584x1152 : Shape := ⟨2, ![3584, 1152]⟩
abbrev S1152 : Shape := ⟨1, ![1152]⟩
abbrev S128 : Shape := ⟨1, ![128]⟩
abbrev S16384x3584 : Shape := ⟨2, ![16384, 3584]⟩
abbrev S4x7x4096x128 : Shape := ⟨4, ![4, 7, 4096, 128]⟩
abbrev S16384x128 : Shape := ⟨2, ![16384, 128]⟩
abbrev S4x1x4096 : Shape := ⟨3, ![4, 1, 4096]⟩
abbrev S256x3584 : Shape := ⟨2, ![256, 3584]⟩
abbrev S1x7x256x128 : Shape := ⟨4, ![1, 7, 256, 128]⟩
abbrev S256x128 : Shape := ⟨2, ![256, 128]⟩
abbrev S1x1x256 : Shape := ⟨3, ![1, 1, 256]⟩
abbrev S2x256x3584 : Shape := ⟨3, ![2, 256, 3584]⟩
abbrev S2x256x128 : Shape := ⟨3, ![2, 256, 128]⟩
abbrev S1x3584 : Shape := ⟨2, ![1, 3584]⟩
abbrev S1x1152 : Shape := ⟨2, ![1, 1152]⟩
abbrev S1x128 : Shape := ⟨2, ![1, 128]⟩
abbrev S8x256 : Shape := ⟨2, ![8, 256]⟩
abbrev S8x128 : Shape := ⟨2, ![8, 128]⟩
abbrev S8 : Shape := ⟨1, ![8]⟩
abbrev S8x1 : Shape := ⟨2, ![8, 1]⟩
abbrev S32x1 : Shape := ⟨2, ![32, 1]⟩
abbrev S32x128 : Shape := ⟨2, ![32, 128]⟩
abbrev S32 : Shape := ⟨1, ![32]⟩
abbrev S1x256x128 : Shape := ⟨3, ![1, 256, 128]⟩
abbrev S1x256x3584 : Shape := ⟨3, ![1, 256, 3584]⟩
abbrev S1x32x128 : Shape := ⟨3, ![1, 32, 128]⟩
abbrev S1x128x128 : Shape := ⟨3, ![1, 128, 128]⟩
abbrev S128x128 : Shape := ⟨2, ![128, 128]⟩
abbrev S1x1x128 : Shape := ⟨3, ![1, 1, 128]⟩
abbrev S3584x256 : Shape := ⟨2, ![3584, 256]⟩
abbrev S256x256 : Shape := ⟨2, ![256, 256]⟩
abbrev S256 : Shape := ⟨1, ![256]⟩
abbrev S256x1 : Shape := ⟨2, ![256, 1]⟩
abbrev S1x1x256x128 : Shape := ⟨4, ![1, 1, 256, 128]⟩
abbrev S3584x128 : Shape := ⟨2, ![3584, 128]⟩
abbrev S4x4096x7x128 : Shape := ⟨4, ![4, 4096, 7, 128]⟩
abbrev S4x4096x1x128 : Shape := ⟨4, ![4, 4096, 1, 128]⟩
abbrev S4x4096x1 : Shape := ⟨3, ![4, 4096, 1]⟩

abbrev nBuf : Space → Nat
  | .hbm => 17
  | .vmem => 24
  | .smem => 0
  | _ => 0

abbrev bufTy : (tb : Table) → Fin (tcTables nBuf tb) → BufTy
  | .hbm, ⟨0, _⟩ => ⟨S4x4096x3584, .bf16⟩
  | .hbm, ⟨1, _⟩ => ⟨S3584, .bf16⟩
  | .hbm, ⟨2, _⟩ => ⟨S3584x1152, .fp8e4m3⟩
  | .hbm, ⟨3, _⟩ => ⟨S1152, .f32⟩
  | .hbm, ⟨4, _⟩ => ⟨S128, .bf16⟩
  | .hbm, ⟨5, _⟩ => ⟨S128, .bf16⟩
  | .hbm, ⟨6, _⟩ => ⟨S16384x3584, .bf16⟩
  | .hbm, ⟨7, _⟩ => ⟨S4x7x4096x128, .bf16⟩
  | .hbm, ⟨8, _⟩ => ⟨S16384x128, .bf16⟩
  | .hbm, ⟨9, _⟩ => ⟨S16384x128, .bf16⟩
  | .hbm, ⟨10, _⟩ => ⟨S16384x3584, .fp8e4m3⟩
  | .hbm, ⟨11, _⟩ => ⟨S4x1x4096, .f32⟩
  | .hbm, ⟨12, _⟩ => ⟨S4x4096x7x128, .bf16⟩
  | .hbm, ⟨13, _⟩ => ⟨S4x4096x1x128, .bf16⟩
  | .hbm, ⟨14, _⟩ => ⟨S4x4096x1x128, .bf16⟩
  | .hbm, ⟨15, _⟩ => ⟨S4x4096x3584, .fp8e4m3⟩
  | .hbm, ⟨16, _⟩ => ⟨S4x4096x1, .f32⟩
  | .local _ .vmem, ⟨0, _⟩ => ⟨S256x3584, .bf16⟩
  | .local _ .vmem, ⟨1, _⟩ => ⟨S256x3584, .bf16⟩
  | .local _ .vmem, ⟨2, _⟩ => ⟨S3584, .bf16⟩
  | .local _ .vmem, ⟨3, _⟩ => ⟨S3584x1152, .fp8e4m3⟩
  | .local _ .vmem, ⟨4, _⟩ => ⟨S1152, .f32⟩
  | .local _ .vmem, ⟨5, _⟩ => ⟨S128, .bf16⟩
  | .local _ .vmem, ⟨6, _⟩ => ⟨S128, .bf16⟩
  | .local _ .vmem, ⟨7, _⟩ => ⟨S1x7x256x128, .bf16⟩
  | .local _ .vmem, ⟨8, _⟩ => ⟨S1x7x256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x3584, .fp8e4m3⟩
  | .local _ .vmem, ⟨14, _⟩ => ⟨S256x3584, .fp8e4m3⟩
  | .local _ .vmem, ⟨15, _⟩ => ⟨S1x1x256, .f32⟩
  | .local _ .vmem, ⟨16, _⟩ => ⟨S1x1x256, .f32⟩
  | .local _ .vmem, ⟨17, _⟩ => ⟨S256x3584, .f32⟩
  | .local _ .vmem, ⟨18, _⟩ => ⟨S2x256x3584, .fp8e4m3⟩
  | .local _ .vmem, ⟨19, _⟩ => ⟨S2x256x128, .f32⟩
  | .local _ .vmem, ⟨20, _⟩ => ⟨S1x3584, .f32⟩
  | .local _ .vmem, ⟨21, _⟩ => ⟨S1x1152, .f32⟩
  | .local _ .vmem, ⟨22, _⟩ => ⟨S1x128, .f32⟩
  | .local _ .vmem, ⟨23, _⟩ => ⟨S1x128, .f32⟩
  | _, _ => ⟨S4x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_0 : BitVec 32 := 0#32
  let v2 : BitVec 1 := Scalar.cmpi .sgt arg0 c0_i32_0
  let c64_i32 : BitVec 32 := 64#32
  let v3 : BitVec 1 := Scalar.cmpi .slt arg0 c64_i32
  let v4 : BitVec 1 := Scalar.andi v2 v3
  let c2_i32 : BitVec 32 := 2#32
  let v0 : BitVec 32 := Scalar.remsi arg0 c2_i32
  let c0_i32 : BitVec 32 := 0#32
  let v1 : BitVec 1 := Scalar.cmpi .eq v0 c0_i32
  let v8 : BitVec 1 := Scalar.andi v4 v1
  let v9 : BitVec 32 := Scalar.extui v8
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c0_i32_0 : BitVec 32 := 0#32
  let v2 : BitVec 1 := Scalar.cmpi .sgt arg0 c0_i32_0
  let c64_i32 : BitVec 32 := 64#32
  let v3 : BitVec 1 := Scalar.cmpi .slt arg0 c64_i32
  let v4 : BitVec 1 := Scalar.andi v2 v3
  let c2_i32 : BitVec 32 := 2#32
  let v0 : BitVec 32 := Scalar.remsi arg0 c2_i32
  let c0_i32 : BitVec 32 := 0#32
  let v1 : BitVec 1 := Scalar.cmpi .eq v0 c0_i32
  let v_true : BitVec 1 := 1#1
  let v11 : BitVec 1 := Scalar.xori v1 v_true
  let v12 : BitVec 1 := Scalar.andi v4 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c64_i32_5 : BitVec 32 := 64#32
  let v15 : BitVec 1 := Scalar.cmpi .eq arg0 c64_i32_5
  let v16 : BitVec 32 := Scalar.extui v15
  let c0_i32_6 : BitVec 32 := 0#32
  let v17 : BitVec 1 := Scalar.cmpi .ne v16 c0_i32_6
  v17

def k0_cond1 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c16_i32_0 : BitVec 32 := 16#32
  let v3 : BitVec 32 := Scalar.remsi v1 c16_i32_0
  let c0_i32_1 : BitVec 32 := 0#32
  let c0_i32_2 : BitVec 32 := 0#32
  let c0_i32_3 : BitVec 32 := 0#32
  ![v2.toNat, c0_i32_1.toNat, v3.toNat, c0_i32_2.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c16_i32_0 : BitVec 32 := 16#32
  let v2 : BitVec 32 := Scalar.remsi v0 c16_i32_0
  let c0_i32 : BitVec 32 := 0#32
  let c0_i32_1 : BitVec 32 := 0#32
  ![v1.toNat, c0_i32.toNat, v2.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x7x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3584 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_d" => some ((1 / 3584 : ℝ) : EReal)
  | _ => none
-- ==== ReferenceIdeal.lean ====
abbrev S4x4096x3584 : Shape := ⟨3, ![4, 4096, 3584]⟩
abbrev S3584 : Shape := ⟨1, ![3584]⟩
abbrev S3584x1152 : Shape := ⟨2, ![3584, 1152]⟩
abbrev S1152 : Shape := ⟨1, ![1152]⟩
abbrev S128 : Shape := ⟨1, ![128]⟩
abbrev S_ : Shape := ⟨0, ![]⟩
abbrev S4x4096 : Shape := ⟨2, ![4, 4096]⟩
abbrev S4x4096x1 : Shape := ⟨3, ![4, 4096, 1]⟩
abbrev S1x1x3584 : Shape := ⟨3, ![1, 1, 3584]⟩
abbrev S16384x3584 : Shape := ⟨2, ![16384, 3584]⟩
abbrev S16384x1 : Shape := ⟨2, ![16384, 1]⟩
abbrev S16384x1152 : Shape := ⟨2, ![16384, 1152]⟩
abbrev S4x4096x1152 : Shape := ⟨3, ![4, 4096, 1152]⟩
abbrev S1x1x1152 : Shape := ⟨3, ![1, 1, 1152]⟩
abbrev S4x4096x896 : Shape := ⟨3, ![4, 4096, 896]⟩
abbrev S4x4096x7x128 : Shape := ⟨4, ![4, 4096, 7, 128]⟩
abbrev S4x4096x128 : Shape := ⟨3, ![4, 4096, 128]⟩
abbrev S4x4096x1x128 : Shape := ⟨4, ![4, 4096, 1, 128]⟩
abbrev S4x4096x7 : Shape := ⟨3, ![4, 4096, 7]⟩
abbrev S4x4096x7x1 : Shape := ⟨4, ![4, 4096, 7, 1]⟩
abbrev S1x1x1x128 : Shape := ⟨4, ![1, 1, 1, 128]⟩
abbrev S4x4096x1x1 : Shape := ⟨4, ![4, 4096, 1, 1]⟩

abbrev nBuf : Space → Nat
  | .hbm => 108
  | .vmem => 5
  | .smem => 0
  | _ => 0

abbrev bufTy : (tb : Table) → Fin (tcTables nBuf tb) → BufTy
  | .hbm, ⟨0, _⟩ => ⟨S4x4096x3584, .bf16⟩
  | .hbm, ⟨1, _⟩ => ⟨S3584, .bf16⟩
  | .hbm, ⟨2, _⟩ => ⟨S3584x1152, .fp8e4m3⟩
  | .hbm, ⟨3, _⟩ => ⟨S1152, .f32⟩
  | .hbm, ⟨4, _⟩ => ⟨S128, .bf16⟩
  | .hbm, ⟨5, _⟩ => ⟨S128, .bf16⟩
  | .hbm, ⟨6, _⟩ => ⟨S4x4096x3584, .f32⟩
  | .hbm, ⟨7, _⟩ => ⟨S4x4096x3584, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x3584, .f32⟩
  | .hbm, ⟨19, _⟩ => ⟨S4x4096x3584, .f32⟩
  | .hbm, ⟨20, _⟩ => ⟨S3584, .f32⟩
  | .hbm, ⟨21, _⟩ => ⟨S1x1x3584, .f32⟩
  | .hbm, ⟨22, _⟩ => ⟨S4x4096x3584, .f32⟩
  | .hbm, ⟨23, _⟩ => ⟨S4x4096x3584, .f32⟩
  | .hbm, ⟨24, _⟩ => ⟨S4x4096x3584, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S_, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .i1⟩
  | .hbm, ⟨43, _⟩ => ⟨S_, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S16384x3584, .f32⟩
  | .hbm, ⟨55, _⟩ => ⟨S16384x1, .f32⟩
  | .hbm, ⟨56, _⟩ => ⟨S16384x3584, .fp8e4m3⟩
  | .hbm, ⟨57, _⟩ => ⟨S16384x1152, .f32⟩
  | .hbm, ⟨58, _⟩ => ⟨S4x4096x1152, .f32⟩
  | .hbm, ⟨59, _⟩ => ⟨S4x4096x1152, .f32⟩
  | .hbm, ⟨60, _⟩ => ⟨S4x4096x1152, .f32⟩
  | .hbm, ⟨61, _⟩ => ⟨S1x1x1152, .f32⟩
  | .hbm, ⟨62, _⟩ => ⟨S4x4096x1152, .f32⟩
  | .hbm, ⟨63, _⟩ => ⟨S4x4096x1152, .f32⟩
  | .hbm, ⟨64, _⟩ => ⟨S4x4096x896, .f32⟩
  | .hbm, ⟨65, _⟩ => ⟨S4x4096x7x128, .f32⟩
  | .hbm, ⟨66, _⟩ => ⟨S4x4096x128, .f32⟩
  | .hbm, ⟨67, _⟩ => ⟨S4x4096x1x128, .f32⟩
  | .hbm, ⟨68, _⟩ => ⟨S4x4096x128, .f32⟩
  | .hbm, ⟨69, _⟩ => ⟨S4x4096x1x128, .f32⟩
  | .hbm, ⟨70, _⟩ => ⟨S4x4096x7x128, .f32⟩
  | .hbm, ⟨71, _⟩ => ⟨S_, .f32⟩
  | .hbm, ⟨72, _⟩ => ⟨S4x4096x7, .f32⟩
  | .hbm, ⟨73, _⟩ => ⟨S4x4096x7x1, .f32⟩
  | .hbm, ⟨74, _⟩ => ⟨S_, .f32⟩
  | .hbm, ⟨75, _⟩ => ⟨S4x4096x7x1, .f32⟩
  | .hbm, ⟨76, _⟩ => ⟨S4x4096x7x1, .f32⟩
  | .hbm, ⟨77, _⟩ => ⟨S_, .f32⟩
  | .hbm, ⟨78, _⟩ => ⟨S4x4096x7x1, .f32⟩
  | .hbm, ⟨79, _⟩ => ⟨S4x4096x7x1, .f32⟩
  | .hbm, ⟨80, _⟩ => ⟨S4x4096x7x1, .f32⟩
  | .hbm, ⟨81, _⟩ => ⟨S4x4096x7x128, .f32⟩
  | .hbm, ⟨82, _⟩ => ⟨S4x4096x7x128, .f32⟩
  | .hbm, ⟨83, _⟩ => ⟨S128, .f32⟩
  | .hbm, ⟨84, _⟩ => ⟨S1x1x1x128, .f32⟩
  | .hbm, ⟨85, _⟩ => ⟨S4x4096x7x128, .f32⟩
  | .hbm, ⟨86, _⟩ => ⟨S4x4096x7x128, .f32⟩
  | .hbm, ⟨87, _⟩ => ⟨S4x4096x7x128, .bf16⟩
  | .hbm, ⟨88, _⟩ => ⟨S4x4096x1x128, .f32⟩
  | .hbm, ⟨89, _⟩ => ⟨S_, .f32⟩
  | .hbm, ⟨90, _⟩ => ⟨S4x4096x1, .f32⟩
  | .hbm, ⟨91, _⟩ => ⟨S4x4096x1x1, .f32⟩
  | .hbm, ⟨92, _⟩ => ⟨S_, .f32⟩
  | .hbm, ⟨93, _⟩ => ⟨S4x4096x1x1, .f32⟩
  | .hbm, ⟨94, _⟩ => ⟨S4x4096x1x1, .f32⟩
  | .hbm, ⟨95, _⟩ => ⟨S_, .f32⟩
  | .hbm, ⟨96, _⟩ => ⟨S4x4096x1x1, .f32⟩
  | .hbm, ⟨97, _⟩ => ⟨S4x4096x1x1, .f32⟩
  | .hbm, ⟨98, _⟩ => ⟨S4x4096x1x1, .f32⟩
  | .hbm, ⟨99, _⟩ => ⟨S4x4096x1x128, .f32⟩
  | .hbm, ⟨100, _⟩ => ⟨S4x4096x1x128, .f32⟩
  | .hbm, ⟨101, _⟩ => ⟨S128, .f32⟩
  | .hbm, ⟨102, _⟩ => ⟨S1x1x1x128, .f32⟩
  | .hbm, ⟨103, _⟩ => ⟨S4x4096x1x128, .f32⟩
  | .hbm, ⟨104, _⟩ => ⟨S4x4096x1x128, .f32⟩
  | .hbm, ⟨105, _⟩ => ⟨S4x4096x1x128, .bf16⟩
  | .hbm, ⟨106, _⟩ => ⟨S4x4096x1x128, .bf16⟩
  | .hbm, ⟨107, _⟩ => ⟨S4x4096x3584, .fp8e4m3⟩
  | .local _ .vmem, ⟨0, _⟩ => ⟨S16384x3584, .f32⟩
  | .local _ .vmem, ⟨1, _⟩ => ⟨S16384x1, .f32⟩
  | .local _ .vmem, ⟨2, _⟩ => ⟨S3584x1152, .fp8e4m3⟩
  | .local _ .vmem, ⟨3, _⟩ => ⟨S16384x3584, .fp8e4m3⟩
  | .local _ .vmem, ⟨4, _⟩ => ⟨S16384x1152, .f32⟩
  | _, _ => ⟨S4x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37_0 : Ref sig .tc := ⟨.hbm, 56, rfl⟩
abbrev main_v37_1 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16384x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
module

public import Idealize.ShloMosaic.Lib.Pipeline
public import Idealize.ShloMosaic.Lib.Sig
public import Idealize.ShloMosaic.PureOps
public import Idealize.ShloMosaic.PureOps.Ideal

/-! The kernel's body written with loops, in continuation passing style: the printed program is this one
    unrolled (`Same/*.lean` proves the two equal), and everything else is proved of this one. It is stated
    over any signature, so the kernel as printed and its idealization share it. -/

@[expose] public section

noncomputable section

namespace Cert.Spec

open Idealize.ShloMosaic Idealize.SL.Sem

abbrev S1152 : Shape := ⟨1, ![1152]⟩
abbrev S128 : Shape := ⟨1, ![128]⟩
abbrev S3584 : Shape := ⟨1, ![3584]⟩
abbrev S32 : Shape := ⟨1, ![32]⟩
abbrev S8 : Shape := ⟨1, ![8]⟩
abbrev S256 : Shape := ⟨1, ![256]⟩
abbrev S128x128 : Shape := ⟨2, ![128, 128]⟩
abbrev S1x1152 : Shape := ⟨2, ![1, 1152]⟩
abbrev S1x128 : Shape := ⟨2, ![1, 128]⟩
abbrev S1x3584 : Shape := ⟨2, ![1, 3584]⟩
abbrev S256x1 : Shape := ⟨2, ![256, 1]⟩
abbrev S256x128 : Shape := ⟨2, ![256, 128]⟩
abbrev S256x256 : Shape := ⟨2, ![256, 256]⟩
abbrev S256x3584 : Shape := ⟨2, ![256, 3584]⟩
abbrev S3584x1152 : Shape := ⟨2, ![3584, 1152]⟩
abbrev S3584x128 : Shape := ⟨2, ![3584, 128]⟩
abbrev S3584x256 : Shape := ⟨2, ![3584, 256]⟩
abbrev S32x1 : Shape := ⟨2, ![32, 1]⟩
abbrev S32x128 : Shape := ⟨2, ![32, 128]⟩
abbrev S8x1 : Shape := ⟨2, ![8, 1]⟩
abbrev S8x128 : Shape := ⟨2, ![8, 128]⟩
abbrev S8x256 : Shape := ⟨2, ![8, 256]⟩
abbrev S1x1x128 : Shape := ⟨3, ![1, 1, 128]⟩
abbrev S1x1x256 : Shape := ⟨3, ![1, 1, 256]⟩
abbrev S1x128x128 : Shape := ⟨3, ![1, 128, 128]⟩
abbrev S1x256x128 : Shape := ⟨3, ![1, 256, 128]⟩
abbrev S1x256x3584 : Shape := ⟨3, ![1, 256, 3584]⟩
abbrev S1x32x128 : Shape := ⟨3, ![1, 32, 128]⟩
abbrev S2x256x128 : Shape := ⟨3, ![2, 256, 128]⟩
abbrev S2x256x3584 : Shape := ⟨3, ![2, 256, 3584]⟩
abbrev S1x1x256x128 : Shape := ⟨4, ![1, 1, 256, 128]⟩
abbrev S1x7x256x128 : Shape := ⟨4, ![1, 7, 256, 128]⟩

/-- The matrix product of the activation with two heads' columns. -/
def dot256 : DotDims S256x3584 S3584x256 S256x256 where
  lhsContracting := [1]
  rhsContracting := [0]
  lhsNonContracting := [0]
  rhsNonContracting := [1]
  lhsBatch := []
  rhsBatch := []
  wf := by decide

/-- The matrix product of the activation with one head's columns. -/
def dot128 : DotDims S256x3584 S3584x128 S256x128 where
  lhsContracting := [1]
  rhsContracting := [0]
  lhsNonContracting := [0]
  rhsNonContracting := [1]
  lhsBatch := []
  rhsBatch := []
  wf := by decide

variable {nD : Nat} {τ : Topo} {sig : RefSig} {F : FTy → Type} [FloatOps F] [Named F] {Λ : Labels}

/-! ## Loops and single operations -/

/-- `n` turns of a counted loop from turn `c` on. -/
def loopFrom {N : Nat} {S R : Type _} (body : Fin N → S → (S → R) → R) (n : Nat) :
    (c : Nat) → c + n ≤ N → S → (S → R) → R :=
  Nat.rec (motive := fun n => (c : Nat) → c + n ≤ N → S → (S → R) → R)
    (fun _ _ s K => K s)
    (fun n ih c h s K => body ⟨c, by omega⟩ s (fun s' => ih (c + 1) (by omega) s' K)) n

theorem in1 {p a n : Nat} (h : p + a ≤ n) :
    ∀ i : Fin 1, (![p] : Fin 1 → Nat) i + (⟨1, ![a]⟩ : Shape).size i ≤ (⟨1, ![n]⟩ : Shape).size i :=
  Fin.forall_fin_one.mpr h

theorem in2 {p q a b n m : Nat} (h : p + a ≤ n) (h' : q + b ≤ m) :
    ∀ i : Fin 2, (![p, q] : Fin 2 → Nat) i + (⟨2, ![a, b]⟩ : Shape).size i ≤ (⟨2, ![n, m]⟩ : Shape).size i :=
  Fin.forall_fin_two.mpr ⟨h, h'⟩

theorem in3 {o p q s a b l n m : Nat} (h₀ : o + s ≤ l) (h : p + a ≤ n) (h' : q + b ≤ m) :
    ∀ i : Fin 3, (![o, p, q] : Fin 3 → Nat) i + (⟨3, ![s, a, b]⟩ : Shape).size i ≤ (⟨3, ![l, n, m]⟩ : Shape).size i := by
  intro i; fin_cases i <;> assumption

theorem in4 {k o p q t s a b j l n m : Nat} (h₁ : k + t ≤ j) (h₀ : o + s ≤ l) (h : p + a ≤ n) (h' : q + b ≤ m) :
    ∀ i : Fin 4, (![k, o, p, q] : Fin 4 → Nat) i + (⟨4, ![t, s, a, b]⟩ : Shape).size i ≤
      (⟨4, ![j, l, n, m]⟩ : Shape).size i := by
  intro i; fin_cases i <;> assumption

theorem packed2 {p q a b n m k : Nat} (h : ∀ i, (![p, q] : Fin 2 → Nat) i + (⟨2, ![a, b]⟩ : Shape).size i ≤ (⟨2, ![n, m]⟩ : Shape).size i)
    (hp : k ∣ p) (ha : k ∣ a) : (Rect.unit (s := ⟨2, ![n, m]⟩) ![p, q] (⟨2, ![a, b]⟩ : Shape).size h).PackedRows k :=
  Or.inr ⟨Nat.le_refl 2, rfl, .inl ⟨hp, ha⟩⟩

theorem packed3 {o p q s a b l n m k : Nat} (h : ∀ i, (![o, p, q] : Fin 3 → Nat) i + (⟨3, ![s, a, b]⟩ : Shape).size i ≤ (⟨3, ![l, n, m]⟩ : Shape).size i)
    (hp : k ∣ p) (ha : k ∣ a) : (Rect.unit (s := ⟨3, ![l, n, m]⟩) ![o, p, q] (⟨3, ![s, a, b]⟩ : Shape).size h).PackedRows k :=
  Or.inr ⟨Nat.le_add_left 2 _, rfl, .inl ⟨hp, ha⟩⟩

theorem packed4 {j o p q t s a b j' l n m k : Nat} (h : ∀ i, (![j, o, p, q] : Fin 4 → Nat) i + (⟨4, ![t, s, a, b]⟩ : Shape).size i ≤ (⟨4, ![j', l, n, m]⟩ : Shape).size i)
    (hp : k ∣ p) (ha : k ∣ a) : (Rect.unit (s := ⟨4, ![j', l, n, m]⟩) ![j, o, p, q] (⟨4, ![t, s, a, b]⟩ : Shape).size h).PackedRows k :=
  Or.inr ⟨Nat.le_add_left 2 _, rfl, .inl ⟨hp, ha⟩⟩

/-- A load of the block of sizes `t` at `off`. -/
@[reducible] def ld {s : Shape} {e : EltTy} {α : Type} (m : Memref sig .tc .vmem s e) (off size : Fin s.rank → Nat)
    (h : ∀ a, off a + size a ≤ s.size a) (hp : 0 < (⟨s.rank, size⟩ : Shape).numel)
    (K : ((⟨s.rank, size⟩ : Shape).Idx → Elt F e) → Prog (TpuEff nD τ sig (Elt F) Λ .tc) α) :
    Prog (TpuEff nD τ sig (Elt F) Λ .tc) α :=
  .op (.load m (Rect.unit (s := s) off size h).toLoadRect (View.loadsAt_vmem hp)) K

/-- A store of the whole block of sizes `t` at `off`. -/
@[reducible] def st {s : Shape} {e : EltTy} {α : Type} (m : Memref sig .tc .vmem s e) (off size : Fin s.rank → Nat)
    (h : ∀ a, off a + size a ≤ s.size a) (hp : 0 < (⟨s.rank, size⟩ : Shape).numel)
    (w : (⟨s.rank, size⟩ : Shape).Idx → Elt F e) (hx : (m.access (Rect.unit (s := s) off size h)).StoreExact Finset.univ)
    (K : Prog (TpuEff nD τ sig (Elt F) Λ .tc) α) : Prog (TpuEff nD τ sig (Elt F) Λ .tc) α :=
  .op (.store m (Rect.unit (s := s) off size h) w Finset.univ (View.stores_vmem hp hx (fun _ => rfl)) (.inl rfl)) (fun _ => K)

/-- A program of the kernel's core. -/
abbrev Pr (nD : Nat) (τ : Topo) (sig : RefSig) (F : FTy → Type) (Λ : Labels) (α : Type) := Prog (TpuEff nD τ sig (Elt F) Λ .tc) α

/-- The kernel's operands and scratch buffers, all of them whole. -/
structure Args (sig : RefSig) where
  a1 : Memref sig .tc .vmem S256x3584 .bf16
  a2 : Memref sig .tc .vmem S3584 .bf16
  a3 : Memref sig .tc .vmem S3584x1152 .fp8e4m3
  a4 : Memref sig .tc .vmem S1152 .f32
  a5 : Memref sig .tc .vmem S128 .bf16
  a6 : Memref sig .tc .vmem S128 .bf16
  a7 : Memref sig .tc .vmem S1x7x256x128 .bf16
  a8 : Memref sig .tc .vmem S256x128 .bf16
  a9 : Memref sig .tc .vmem S256x128 .bf16
  a10 : Memref sig .tc .vmem S256x3584 .fp8e4m3
  a11 : Memref sig .tc .vmem S1x1x256 .f32
  a12 : Memref sig .tc .vmem S256x3584 .f32
  a13 : Memref sig .tc .vmem S2x256x3584 .fp8e4m3
  a14 : Memref sig .tc .vmem S2x256x128 .f32
  a15 : Memref sig .tc .vmem S1x3584 .f32
  a16 : Memref sig .tc .vmem S1x1152 .f32
  a17 : Memref sig .tc .vmem S1x128 .f32
  a18 : Memref sig .tc .vmem S1x128 .f32
  h1 : a1.IsWhole
  h2 : a2.IsWhole
  h3 : a3.IsWhole
  h4 : a4.IsWhole
  h5 : a5.IsWhole
  h6 : a6.IsWhole
  h7 : a7.IsWhole
  h8 : a8.IsWhole
  h9 : a9.IsWhole
  h10 : a10.IsWhole
  h11 : a11.IsWhole
  h12 : a12.IsWhole
  h13 : a13.IsWhole
  h14 : a14.IsWhole
  h15 : a15.IsWhole
  h16 : a16.IsWhole
  h17 : a17.IsWhole
  h18 : a18.IsWhole

variable {α : Type} (A : Args sig)

/-! ## Quantizing one row group -/

/-- The squares of one block, added onto the sum so far. -/
def sqLoad (g : Fin 8) (k : Fin 4) (c : Fin 14) (K : FVec F S8x256 .f32 → Pr nD τ sig F Λ α) : Pr nD τ sig F Λ α :=
  ld A.a1 ![32 * g.val + 8 * k.val, 256 * c.val] ![8, 256] (in2 (by omega) (by omega)) (by decide) fun v =>
    K (mulf (extf .f32 (shapeCast S8x256 v (by decide)) (by decide)) (extf .f32 (shapeCast S8x256 v (by decide)) (by decide)))

/-- From the sums of squares of an eight-row strip to its row sums. -/
def foldSq (v : FVec F S8x256 .f32) : FVec F S8x1 .f32 :=
  shapeCast S8x1 (multiReduction .add [1] S8
    (addf (extractStridedSlice S8x128 ![0, 0] v (by decide)) (extractStridedSlice S8x128 ![0, 128] v (by decide)))
    0x00000000#32 (by decide) (.inl rfl) rfl) (by decide)

/-- The row sums of squares of one eight-row strip. -/
def strip (g : Fin 8) (k : Fin 4) (K : FVec F S8x1 .f32 → Pr nD τ sig F Λ α) : Pr nD τ sig F Λ α :=
  sqLoad A g k 0 fun v =>
    loopFrom (N := 14) (fun c acc K' => sqLoad A g k c fun v => K' (addf acc v)) 13 1 (by decide) v fun acc => K (foldSq acc)

theorem concat4 : Shape.Concatenates [S8x1, S8x1, S8x1, S8x1] S32x1 0 := by decide
theorem sq14 : S1x256x128.Squeezes S256x128 := by decide
theorem sq13 : S1x256x3584.Squeezes S256x3584 := by decide

/-- The mean of squares of each of the group's rows. -/
def meanSq (inv_d : F .f32) (a b c d : FVec F S8x1 .f32) : FVec F S32x1 .f32 :=
  mulf (concatenate S32x1 0 [⟨S8x1, a⟩, ⟨S8x1, b⟩, ⟨S8x1, c⟩, ⟨S8x1, d⟩] concat4) (broadcast S32x1 inv_d)

/-- One block of the row group times the gain, kept in scratch; what it was times. -/
def uStep (g : Fin 8) (c : Fin 28) (K : FVec F S32x128 .f32 → Pr nD τ sig F Λ α) : Pr nD τ sig F Λ α :=
  ld A.a1 ![32 * g.val, 128 * c.val] ![32, 128] (in2 (by omega) (by omega)) (by decide) fun v =>
  ld A.a15 ![0, 128 * c.val] ![1, 128] (in2 (by omega) (by omega)) (by decide) fun w =>
  ld A.a12 ![32 * g.val, 128 * c.val] ![32, 128] (in2 (by omega) (by omega)) (by decide) fun _ =>
  st A.a12 ![32 * g.val, 128 * c.val] ![32, 128] (in2 (by omega) (by omega)) (by decide)
    (shapeCast S32x128 (mulf (extf .f32 (shapeCast S32x128 v (by decide)) (by decide)) (broadcastTo S32x128 w (by decide))) (by decide))
    (View.storeExact_bits _ _ rfl) <|
  K (absf (mulf (extf .f32 (shapeCast S32x128 v (by decide)) (by decide)) (broadcastTo S32x128 w (by decide))))

/-- One bit of the search for the exponent field of `y`. -/
def bitStep (y : FVec F S32x1 .f32) (b : BitVec 32) (be : IVec S32x1 32) : IVec S32x1 32 :=
  select (cmpf .oge y (bitcastToFloat .f32 (shli (addi be (broadcast S32x1 b)) (broadcast S32x1 23#32))))
    (addi be (broadcast S32x1 b)) be

/-- The exponent field of a nonnegative `y`. -/
def expField (y : FVec F S32x1 .f32) : IVec S32x1 32 :=
  bitStep y 1#32 <| bitStep y 2#32 <| bitStep y 4#32 <| bitStep y 8#32 <| bitStep y 16#32 <| bitStep y 32#32 <|
  bitStep y 64#32 <| bitStep y 128#32 <| broadcast S32x1 0#32

/-- The exponent field, an all-zero row's scale being one. -/
def expOf (y : FVec F S32x1 .f32) : IVec S32x1 32 :=
  select (cmpi .eq (expField y) (broadcast S32x1 0#32)) (broadcast S32x1 126#32) (expField y)

/-- The row's scale. -/
def scaleOf (y : FVec F S32x1 .f32) : FVec F S32x1 .f32 :=
  bitcastToFloat .f32 (shli (addi (expOf y) (broadcast S32x1 1#32)) (broadcast S32x1 23#32))

/-- One over the row's scale. -/
def invOf (y : FVec F S32x1 .f32) : FVec F S32x1 .f32 :=
  bitcastToFloat .f32 (shli (subi (broadcast S32x1 253#32) (expOf y)) (broadcast S32x1 23#32))

/-- The reciprocal root mean square of each row. -/
def rOf (ms : FVec F S32x1 .f32) : FVec F S32x1 .f32 := rsqrt (addf ms (broadcast S32x1 (Scalar.ofBits .f32 0x358637BD#32)))

/-- The row's greatest magnitude after normalization, over 448. -/
def yOf (amax : FVec F S32x128 .f32) (r : FVec F S32x1 .f32) : FVec F S32x1 .f32 :=
  mulf (mulf (shapeCast S32x1 (multiReduction .maximumf [1] S32 amax 0xFF800000#32 (by decide) (.inl rfl) rfl) (by decide)) r)
    (broadcast S32x1 (Scalar.ofBits .f32 0x3B124925#32))

/-- One of the two halves of the scale scratch. -/
@[reducible] def half14 (k : Fin 2) : Memref sig .tc .vmem S256x128 .f32 :=
  (A.a14.slice (Rect.unit (s := S2x256x128) ![k.val, 0, 0] S1x256x128.size (in3 (by omega) (by omega) (by omega))) (fun _ => rfl)).squeeze
    S256x128 sq14

/-- One of the two halves of the code scratch. -/
@[reducible] def half13 (k : Fin 2) : Memref sig .tc .vmem S256x3584 .fp8e4m3 :=
  (A.a13.slice (Rect.unit (s := S2x256x3584) ![k.val, 0, 0] S1x256x3584.size (in3 (by omega) (by omega) (by omega))) (fun _ => rfl)).squeeze
    S256x3584 sq13

/-- The scales of one row group, kept in scratch. -/
def putScale (k : Fin 2) (g : Fin 8) (sc : FVec F S32x1 .f32) (K : Pr nD τ sig F Λ α) : Pr nD τ sig F Λ α :=
  ld (half14 A k) ![32 * g.val, 0] ![32, 128] (in2 (by omega) (by omega)) (by decide) fun _ =>
  st (half14 A k) ![32 * g.val, 0] ![32, 128] (in2 (by omega) (by omega)) (by decide)
    (shapeCast S32x128 (broadcastTo S32x128 (shapeCast S32x1 sc (by decide)) (by decide)) (by decide))
    (View.storeExact_bits _ _ rfl) K

/-- The codes of one block. -/
def codeOf (v : FVec F S32x128 .f32) (s : FVec F S32x1 .f32) : FVec F S32x128 .fp8e4m3 :=
  truncf .fp8e4m3 (minimumf (broadcast S32x128 (Scalar.ofBits .f32 0x43E00000#32))
    (maximumf (broadcast S32x128 (Scalar.ofBits .f32 0xC3E00000#32)) (mulf v (broadcastTo S32x128 s (by decide))))) (by decide)

/-- One block's codes, to the output block and to the scratch the next point multiplies. -/
def codeStep (k : Fin 2) (g : Fin 8) (s : FVec F S32x1 .f32) (c : Fin 28) (K : Pr nD τ sig F Λ α) : Pr nD τ sig F Λ α :=
  ld A.a12 ![32 * g.val, 128 * c.val] ![32, 128] (in2 (by omega) (by omega)) (by decide) fun v =>
  ld A.a10 ![32 * g.val, 128 * c.val] ![32, 128] (in2 (by omega) (by omega)) (by decide) fun _ =>
  st A.a10 ![32 * g.val, 128 * c.val] ![32, 128] (in2 (by omega) (by omega)) (by decide) (codeOf v s)
    (A.h10.storeExact_slice rfl _ (packed2 _ ⟨8 * g.val, by show 32 * g.val = 4 * _; omega⟩ (by decide))) <|
  ld (half13 A k) ![32 * g.val, 128 * c.val] ![32, 128] (in2 (by omega) (by omega)) (by decide) fun _ =>
  st A.a13 ![k.val, 32 * g.val, 128 * c.val] ![1, 32, 128] (in3 (by omega) (by omega) (by omega)) (by decide)
    (shapeCast S1x32x128 (shapeCast S32x128 (codeOf v s) (by decide)) (by decide))
    (A.h13.storeExact_slice rfl _ (packed3 _ ⟨8 * g.val, by show 32 * g.val = 4 * _; omega⟩ (by decide))) K

/-- One group of 32 rows: its scales, its codes. -/
def rowGroup (inv_d : F .f32) (k : Fin 2) (g : Fin 8) (K : Pr nD τ sig F Λ α) : Pr nD τ sig F Λ α :=
  strip A g 0 fun s₀ => strip A g 1 fun s₁ => strip A g 2 fun s₂ => strip A g 3 fun s₃ =>
  uStep A g 0 fun m₀ =>
  loopFrom (N := 28) (fun c m K' => uStep A g c fun v => K' (maximumf m v)) 27 1 (by decide) m₀ fun m =>
  putScale A k g (scaleOf (yOf m (rOf (meanSq inv_d s₀ s₁ s₂ s₃)))) <|
  loopFrom (N := 28) (S := Unit)
    (fun c _ K' => codeStep A k g (mulf (rOf (meanSq inv_d s₀ s₁ s₂ s₃)) (invOf (yOf m (rOf (meanSq inv_d s₀ s₁ s₂ s₃))))) c (K' ()))
    28 0 (by decide) () fun _ => K

/-- Half of the row scales, laid along the lanes. -/
def scaleOut (k : Fin 2) (r : Fin 2) (K : Pr nD τ sig F Λ α) : Pr nD τ sig F Λ α :=
  ld A.a14 ![k.val, 128 * r.val, 0] ![1, 128, 128] (in3 (by omega) (by omega) (by omega)) (by decide) fun v =>
  ld A.a11 ![0, 0, 128 * r.val] ![1, 1, 128] (in3 (by omega) (by omega) (by omega)) (by decide) fun _ =>
  st A.a11 ![0, 0, 128 * r.val] ![1, 1, 128] (in3 (by omega) (by omega) (by omega)) (by decide)
    (shapeCast S1x1x128 (extractStridedSlice S1x128 ![0, 0]
      (transpose S128x128 [1, 0] (shapeCast S128x128 v (by decide)) (by decide)) (by decide)) (by decide))
    (View.storeExact_bits _ _ rfl) K

/-- A whole tile of rows quantized. -/
def quant (inv_d : F .f32) (k : Fin 2) (K : Pr nD τ sig F Λ α) : Pr nD τ sig F Λ α :=
  rowGroup A inv_d k 0 <| rowGroup A inv_d k 1 <| rowGroup A inv_d k 2 <| rowGroup A inv_d k 3 <|
  rowGroup A inv_d k 4 <| rowGroup A inv_d k 5 <| rowGroup A inv_d k 6 <| rowGroup A inv_d k 7 <|
  scaleOut A k 0 <| scaleOut A k 1 K

/-! ## The projections of a quantized tile -/

/-- The products of one head, dequantized. -/
def deq (acc : FVec F S256x128 .f32) (ws : FVec F S1x128 .f32) (hs : FVec F S256x128 .f32) : FVec F S256x128 .f32 :=
  mulf (mulf acc (broadcastTo S256x128 ws (by decide))) hs

/-- One head normalized. -/
def headOf (y : FVec F S256x128 .f32) (gain : FVec F S1x128 .f32) : FVec F S256x128 .bf16 :=
  truncf .bf16 (mulf (mulf y (broadcastTo S256x128
    (rsqrt (addf (divf (shapeCast S256x1 (multiReduction .add [1] S256 (mulf y y) 0x00000000#32 (by decide) (.inl rfl) rfl) (by decide))
      (broadcast S256x1 (Scalar.ofBits .f32 0x43000000#32))) (broadcast S256x1 (Scalar.ofBits .f32 0x358637BD#32)))) (by decide)))
    (broadcastTo S256x128 gain (by decide))) (by decide)

/-- A query head. -/
def headQ (h : Fin 7) (acc hs : FVec F S256x128 .f32) (K : Pr nD τ sig F Λ α) : Pr nD τ sig F Λ α :=
  ld A.a16 ![0, 128 * h.val] ![1, 128] (in2 (by omega) (by omega)) (by decide) fun ws =>
  ld A.a17 ![0, 0] ![1, 128] (in2 (by omega) (by omega)) (by decide) fun gain =>
  ld A.a7 ![0, h.val, 0, 0] ![1, 1, 256, 128] (in4 (by omega) (by omega) (by omega) (by omega)) (by decide) fun _ =>
  st A.a7 ![0, h.val, 0, 0] ![1, 1, 256, 128] (in4 (by omega) (by omega) (by omega) (by omega)) (by decide)
    (shapeCast S1x1x256x128 (headOf (deq acc ws hs) gain) (by decide))
    (A.h7.storeExact_slice rfl _ (packed4 _ (by decide) (by decide))) K

/-- The key head. -/
def headK (acc hs : FVec F S256x128 .f32) (K : Pr nD τ sig F Λ α) : Pr nD τ sig F Λ α :=
  ld A.a16 ![0, 896] ![1, 128] (in2 (by omega) (by omega)) (by decide) fun ws =>
  ld A.a18 ![0, 0] ![1, 128] (in2 (by omega) (by omega)) (by decide) fun gain =>
  ld A.a8 ![0, 0] ![256, 128] (in2 (by omega) (by omega)) (by decide) fun _ =>
  st A.a8 ![0, 0] ![256, 128] (in2 (by omega) (by omega)) (by decide) (headOf (deq acc ws hs) gain)
    (A.h8.storeExact_slice rfl _ (packed2 _ (by decide) (by decide))) K

/-- Two heads' products. -/
def pairOf (act : FVec F S256x3584 .fp8e4m3) (p : Fin 4) (K : FVec F S256x256 .f32 → Pr nD τ sig F Λ α) : Pr nD τ sig F Λ α :=
  ld A.a3 ![0, 256 * p.val] ![3584, 256] (in2 (by omega) (by omega)) (by decide) fun w =>
  K (matmul dot256 none act w (constant S256x256 .f32 0x00000000#32))

/-- The left and the right head of two. -/
def lo (v : FVec F S256x256 .f32) : FVec F S256x128 .f32 := extractStridedSlice S256x128 ![0, 0] v (by decide)
@[inherit_doc lo] def hi (v : FVec F S256x256 .f32) : FVec F S256x128 .f32 := extractStridedSlice S256x128 ![0, 128] v (by decide)

/-- The value head, which is not normalized. -/
def headV (act : FVec F S256x3584 .fp8e4m3) (hs : FVec F S256x128 .f32) (K : Pr nD τ sig F Λ α) : Pr nD τ sig F Λ α :=
  ld A.a3 ![0, 1024] ![3584, 128] (in2 (by omega) (by omega)) (by decide) fun w =>
  ld A.a16 ![0, 1024] ![1, 128] (in2 (by omega) (by omega)) (by decide) fun ws =>
  ld A.a9 ![0, 0] ![256, 128] (in2 (by omega) (by omega)) (by decide) fun _ =>
  st A.a9 ![0, 0] ![256, 128] (in2 (by omega) (by omega)) (by decide)
    (truncf .bf16 (deq (matmul dot128 none act w (constant S256x128 .f32 0x00000000#32)) ws hs) (by decide))
    (A.h9.storeExact_slice rfl _ (packed2 _ (by decide) (by decide))) K

/-- The heads of the tile in half `k` of the scratch. -/
def project (k : Fin 2) (K : Pr nD τ sig F Λ α) : Pr nD τ sig F Λ α :=
  ld A.a13 ![k.val, 0, 0] ![1, 256, 3584] (in3 (by omega) (by omega) (by omega)) (by decide) fun a =>
  ld A.a14 ![k.val, 0, 0] ![1, 256, 128] (in3 (by omega) (by omega) (by omega)) (by decide) fun b =>
  pairOf A (shapeCast S256x3584 a (by decide)) 0 fun m₀ =>
  headQ A 0 (lo m₀) (shapeCast S256x128 b (by decide)) <| headQ A 1 (hi m₀) (shapeCast S256x128 b (by decide)) <|
  pairOf A (shapeCast S256x3584 a (by decide)) 1 fun m₁ =>
  headQ A 2 (lo m₁) (shapeCast S256x128 b (by decide)) <| headQ A 3 (hi m₁) (shapeCast S256x128 b (by decide)) <|
  pairOf A (shapeCast S256x3584 a (by decide)) 2 fun m₂ =>
  headQ A 4 (lo m₂) (shapeCast S256x128 b (by decide)) <| headQ A 5 (hi m₂) (shapeCast S256x128 b (by decide)) <|
  pairOf A (shapeCast S256x3584 a (by decide)) 3 fun m₃ =>
  headQ A 6 (lo m₃) (shapeCast S256x128 b (by decide)) <| headK A (hi m₃) (shapeCast S256x128 b (by decide)) <|
  headV A (shapeCast S256x3584 a (by decide)) (shapeCast S256x128 b (by decide)) K

/-! ## The four branches -/

/-- The gains and the column scales, widened once and kept in scratch. -/
def params (K : Pr nD τ sig F Λ α) : Pr nD τ sig F Λ α :=
  ld A.a2 ![0] ![3584] (in1 (by omega)) (by decide) fun v =>
  ld A.a15 ![0, 0] ![1, 3584] (in2 (by omega) (by omega)) (by decide) fun _ =>
  st A.a15 ![0, 0] ![1, 3584] (in2 (by omega) (by omega)) (by decide)
    (shapeCast S1x3584 (shapeCast S1x3584 (extf (φ := .bf16) (s := S3584) .f32 v (by decide)) (by decide)) (by decide)) (View.storeExact_bits _ _ rfl) <|
  ld A.a4 ![0] ![1152] (in1 (by omega)) (by decide) fun v =>
  ld A.a16 ![0, 0] ![1, 1152] (in2 (by omega) (by omega)) (by decide) fun _ =>
  st A.a16 ![0, 0] ![1, 1152] (in2 (by omega) (by omega)) (by decide)
    (shapeCast S1x1152 (shapeCast (s := S1152) S1x1152 v (by decide)) (by decide)) (View.storeExact_bits _ _ rfl) <|
  ld A.a5 ![0] ![128] (in1 (by omega)) (by decide) fun v =>
  ld A.a17 ![0, 0] ![1, 128] (in2 (by omega) (by omega)) (by decide) fun _ =>
  st A.a17 ![0, 0] ![1, 128] (in2 (by omega) (by omega)) (by decide)
    (shapeCast S1x128 (shapeCast S1x128 (extf (φ := .bf16) (s := S128) .f32 v (by decide)) (by decide)) (by decide)) (View.storeExact_bits _ _ rfl) <|
  ld A.a6 ![0] ![128] (in1 (by omega)) (by decide) fun v =>
  ld A.a18 ![0, 0] ![1, 128] (in2 (by omega) (by omega)) (by decide) fun _ =>
  st A.a18 ![0, 0] ![1, 128] (in2 (by omega) (by omega)) (by decide)
    (shapeCast S1x128 (shapeCast S1x128 (extf (φ := .bf16) (s := S128) .f32 v (by decide)) (by decide)) (by decide)) (View.storeExact_bits _ _ rfl) K

/-- `B` if the condition holds, and then the rest. -/
def cond (c : BitVec 1) (B : Pr nD τ sig F Λ α → Pr nD τ sig F Λ α) (K : Pr nD τ sig F Λ α) : Pr nD τ sig F Λ α :=
  if _h : c = 1#1 then B K else K

/-- The body: at the first point the parameters and the first tile's codes, at a point between, the heads of the
    last tile and the codes of this one, and at the last point the last tile's heads. -/
def body (inv_d : F .f32) (c₁ c₂ c₃ c₄ : BitVec 1) : Pr nD τ sig F Λ PUnit :=
  cond c₁ (fun K => params A (quant A inv_d 0 K)) <|
  cond c₂ (fun K => project A 1 (quant A inv_d 0 K)) <|
  cond c₃ (fun K => project A 0 (quant A inv_d 1 K)) <|
  cond c₄ (fun K => project A 1 K) <| pure ⟨⟩

end Cert.Spec
-- ==== Proof.Same.Kernel.lean ====
module

public import proofs.«01_k».proof.Proof.Spec
public import proofs.«01_k».proof.Kernel

/-! The printed body is `Spec.body`: both are one list of operations, so the equality is by unfolding. -/

@[expose] public section

set_option maxRecDepth 1000000
set_option maxHeartbeats 0

noncomputable section

namespace Cert.Kernel
open Idealize.ShloMosaic Idealize.SL.Sem
variable {F : FTy → Type} [FloatOps F] [Named F] [Facts]

theorem body_eq (i : grid0.Coords) (arg1 : Memref sig .tc .vmem S256x3584 .bf16) (harg1 : arg1.IsWhole) (arg2 : Memref sig .tc .vmem S3584 .bf16) (harg2 : arg2.IsWhole) (arg3 : Memref sig .tc .vmem S3584x1152 .fp8e4m3) (harg3 : arg3.IsWhole) (arg4 : Memref sig .tc .vmem S1152 .f32) (harg4 : arg4.IsWhole) (arg5 : Memref sig .tc .vmem S128 .bf16) (harg5 : arg5.IsWhole) (arg6 : Memref sig .tc .vmem S128 .bf16) (harg6 : arg6.IsWhole) (arg7 : Memref sig .tc .vmem S1x7x256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x3584 .fp8e4m3) (harg10 : arg10.IsWhole) (arg11 : Memref sig .tc .vmem S1x1x256 .f32) (harg11 : arg11.IsWhole) (arg12 : Memref sig .tc .vmem S256x3584 .f32) (harg12 : arg12.IsWhole) (arg13 : Memref sig .tc .vmem S2x256x3584 .fp8e4m3) (harg13 : arg13.IsWhole) (arg14 : Memref sig .tc .vmem S2x256x128 .f32) (harg14 : arg14.IsWhole) (arg15 : Memref sig .tc .vmem S1x3584 .f32) (harg15 : arg15.IsWhole) (arg16 : Memref sig .tc .vmem S1x1152 .f32) (harg16 : arg16.IsWhole) (arg17 : Memref sig .tc .vmem S1x128 .f32) (harg17 : arg17.IsWhole) (arg18 : Memref sig .tc .vmem S1x128 .f32) (harg18 : arg18.IsWhole) :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      Spec.body ⟨arg1, arg2, arg3, arg4, arg5, arg6, arg7, arg8, arg9, arg10, arg11, arg12, arg13, arg14, arg15, arg16, arg17, arg18, harg1, harg2, harg3, harg4, harg5, harg6, harg7, harg8, harg9, harg10, harg11, harg12, harg13, harg14, harg15, harg16, harg17, harg18⟩
        (Scalar.ofBits .f32 0x39924925#32) (k0_cond1 i) (k0_cond2 i) (k0_cond3 i) (k0_cond4 i) := by
  exact rfl

end Cert.Kernel
-- ==== Proof.Triple.lean ====
module

public import proofs.«01_k».proof.Proof.Spec
public import Idealize.ShloMosaic.Lib.Memref
public import Idealize.ShloMosaic.Lib.Writes
public import Idealize.ShloMosaic.Lib.Pipeline

/-! The eighteen buffers of the body held at once, and what a load and a store through each do. A statement
    `Ok s K` says that the program `K`, started with the buffers at `s`, runs to its end and meets the
    postcondition; the rules below it are about contents only. -/

@[expose] public section

noncomputable section

namespace Cert.Spec

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode

/-- The contents of the body's buffers. -/
structure St (F : FTy → Type) where
  x1 : S256x3584.Idx → Elt F .bf16
  x2 : S3584.Idx → Elt F .bf16
  x3 : S3584x1152.Idx → Elt F .fp8e4m3
  x4 : S1152.Idx → Elt F .f32
  x5 : S128.Idx → Elt F .bf16
  x6 : S128.Idx → Elt F .bf16
  x7 : S1x7x256x128.Idx → Elt F .bf16
  x8 : S256x128.Idx → Elt F .bf16
  x9 : S256x128.Idx → Elt F .bf16
  x10 : S256x3584.Idx → Elt F .fp8e4m3
  x11 : S1x1x256.Idx → Elt F .f32
  x12 : S256x3584.Idx → Elt F .f32
  x13 : S2x256x3584.Idx → Elt F .fp8e4m3
  x14 : S2x256x128.Idx → Elt F .f32
  x15 : S1x3584.Idx → Elt F .f32
  x16 : S1x1152.Idx → Elt F .f32
  x17 : S1x128.Idx → Elt F .f32
  x18 : S1x128.Idx → Elt F .f32

section Own
variable {nD : Nat} {τ : Topo} {sig : RefSig} {F : FTy → Type} [FloatOps F] [Named F] {Λ : Labels}
variable {Ix : Type} [DecidableEq Ix] {Name : Type} [DecidableEq Name] {U : Type} [URA U] {Lvl : Type} [Preorder Lvl]

local notation "𝕄" => MT nD τ sig Ix (Elt F) Name U Lvl

variable (c : Dev nD) (A : Args sig)

/-- The buffers held whole, at the contents `s`. -/
def own (s : St F) : sProp 𝕄 :=
  iprop(ownsTc c A.a1 fullShare s.x1 ∗ ownsTc c A.a2 fullShare s.x2 ∗ ownsTc c A.a3 fullShare s.x3 ∗ ownsTc c A.a4 fullShare s.x4
    ∗ ownsTc c A.a5 fullShare s.x5 ∗ ownsTc c A.a6 fullShare s.x6 ∗ ownsTc c A.a7 fullShare s.x7 ∗ ownsTc c A.a8 fullShare s.x8
    ∗ ownsTc c A.a9 fullShare s.x9 ∗ ownsTc c A.a10 fullShare s.x10 ∗ ownsTc c A.a11 fullShare s.x11 ∗ ownsTc c A.a12 fullShare s.x12
    ∗ ownsTc c A.a13 fullShare s.x13 ∗ ownsTc c A.a14 fullShare s.x14 ∗ ownsTc c A.a15 fullShare s.x15 ∗ ownsTc c A.a16 fullShare s.x16
    ∗ ownsTc c A.a17 fullShare s.x17 ∗ ownsTc c A.a18 fullShare s.x18)

omit [FloatOps F] [Named F] [Preorder Lvl] in
theorem here {β : Type} {P : β → sProp 𝕄} {R : sProp 𝕄} {x : β} :
    iprop(P x ∗ R) ⊢ iprop(P x ∗ ∀ y, P y -∗ P y ∗ R) := by
  iintro ⟨H, HR⟩
  isplitl [H]
  · iexact H
  iintro %y H
  isplitl [H]
  · iexact H
  iexact HR

omit [FloatOps F] [Named F] [Preorder Lvl] in
theorem last {β : Type} {P : β → sProp 𝕄} {x : β} : P x ⊢ iprop(P x ∗ ∀ y, P y -∗ P y) := by
  iintro H
  isplitl [H]
  · iexact H
  iintro %y H
  iexact H

omit [FloatOps F] [Named F] [Preorder Lvl] in
theorem there {β : Type} {P : β → sProp 𝕄} {L R : sProp 𝕄} {R' : β → sProp 𝕄} {x : β}
    (h : R ⊢ iprop(P x ∗ ∀ y, P y -∗ R' y)) : iprop(L ∗ R) ⊢ iprop(P x ∗ ∀ y, P y -∗ L ∗ R' y) := by
  iintro ⟨HL, HR⟩
  ihave H := h $$ HR
  icases H with ⟨H, HR⟩
  isplitl [H]
  · iexact H
  iintro %y H
  isplitl [HL]
  · iexact HL
  iapply HR
  iexact H

/-- Among the buffers held, the memref `m` is at `get s`, and with other contents there the buffers are at `set s y`. -/
structure Has {s : Shape} {e : EltTy} (m : Memref sig .tc .vmem s e) (get : St F → s.Idx → Elt F e)
    (set : St F → (s.Idx → Elt F e) → St F) : Prop where
  focus : ∀ t, (own c A t : sProp 𝕄) ⊢ iprop(ownsTc c m fullShare (get t) ∗ ∀ y, ownsTc c m fullShare y -∗ own c A (set t y))
  back : ∀ t, set t (get t) = t

local notation "HasA" => Has (nD := nD) (τ := τ) (F := F) (Ix := Ix) (Name := Name) (U := U) (Lvl := Lvl) c A

omit [FloatOps F] [Named F] [Preorder Lvl] in
theorem has1 : HasA A.a1 St.x1 (fun t y => { t with x1 := y }) :=
  ⟨fun t => here (P := fun y => ownsTc c A.a1 fullShare y), fun _ => rfl⟩

omit [FloatOps F] [Named F] [Preorder Lvl] in
theorem has2 : HasA A.a2 St.x2 (fun t y => { t with x2 := y }) :=
  ⟨fun t => there (here (P := fun y => ownsTc c A.a2 fullShare y)), fun _ => rfl⟩

omit [FloatOps F] [Named F] [Preorder Lvl] in
theorem has3 : HasA A.a3 St.x3 (fun t y => { t with x3 := y }) :=
  ⟨fun t => there (there (here (P := fun y => ownsTc c A.a3 fullShare y))), fun _ => rfl⟩

omit [FloatOps F] [Named F] [Preorder Lvl] in
theorem has4 : HasA A.a4 St.x4 (fun t y => { t with x4 := y }) :=
  ⟨fun t => there (there (there (here (P := fun y => ownsTc c A.a4 fullShare y)))), fun _ => rfl⟩

omit [FloatOps F] [Named F] [Preorder Lvl] in
theorem has5 : HasA A.a5 St.x5 (fun t y => { t with x5 := y }) :=
  ⟨fun t => there (there (there (there (here (P := fun y => ownsTc c A.a5 fullShare y))))), fun _ => rfl⟩

omit [FloatOps F] [Named F] [Preorder Lvl] in
theorem has6 : HasA A.a6 St.x6 (fun t y => { t with x6 := y }) :=
  ⟨fun t => there (there (there (there (there (here (P := fun y => ownsTc c A.a6 fullShare y)))))), fun _ => rfl⟩

omit [FloatOps F] [Named F] [Preorder Lvl] in
theorem has7 : HasA A.a7 St.x7 (fun t y => { t with x7 := y }) :=
  ⟨fun t => there (there (there (there (there (there (here (P := fun y => ownsTc c A.a7 fullShare y))))))), fun _ => rfl⟩

omit [FloatOps F] [Named F] [Preorder Lvl] in
theorem has8 : HasA A.a8 St.x8 (fun t y => { t with x8 := y }) :=
  ⟨fun t => there (there (there (there (there (there (there (here (P := fun y => ownsTc c A.a8 fullShare y)))))))), fun _ => rfl⟩

omit [FloatOps F] [Named F] [Preorder Lvl] in
theorem has9 : HasA A.a9 St.x9 (fun t y => { t with x9 := y }) :=
  ⟨fun t => there (there (there (there (there (there (there (there (here (P := fun y => ownsTc c A.a9 fullShare y))))))))), fun _ => rfl⟩

omit [FloatOps F] [Named F] [Preorder Lvl] in
theorem has10 : HasA A.a10 St.x10 (fun t y => { t with x10 := y }) :=
  ⟨fun t => there (there (there (there (there (there (there (there (there (here (P := fun y => ownsTc c A.a10 fullShare y)))))))))), fun _ => rfl⟩

omit [FloatOps F] [Named F] [Preorder Lvl] in
theorem has11 : HasA A.a11 St.x11 (fun t y => { t with x11 := y }) :=
  ⟨fun t => there (there (there (there (there (there (there (there (there (there (here (P := fun y => ownsTc c A.a11 fullShare y))))))))))), fun _ => rfl⟩

omit [FloatOps F] [Named F] [Preorder Lvl] in
theorem has12 : HasA A.a12 St.x12 (fun t y => { t with x12 := y }) :=
  ⟨fun t => there (there (there (there (there (there (there (there (there (there (there (here (P := fun y => ownsTc c A.a12 fullShare y)))))))))))), fun _ => rfl⟩

omit [FloatOps F] [Named F] [Preorder Lvl] in
theorem has13 : HasA A.a13 St.x13 (fun t y => { t with x13 := y }) :=
  ⟨fun t => there (there (there (there (there (there (there (there (there (there (there (there (here (P := fun y => ownsTc c A.a13 fullShare y))))))))))))), fun _ => rfl⟩

omit [FloatOps F] [Named F] [Preorder Lvl] in
theorem has14 : HasA A.a14 St.x14 (fun t y => { t with x14 := y }) :=
  ⟨fun t => there (there (there (there (there (there (there (there (there (there (there (there (there (here (P := fun y => ownsTc c A.a14 fullShare y)))))))))))))), fun _ => rfl⟩

omit [FloatOps F] [Named F] [Preorder Lvl] in
theorem has15 : HasA A.a15 St.x15 (fun t y => { t with x15 := y }) :=
  ⟨fun t => there (there (there (there (there (there (there (there (there (there (there (there (there (there (here (P := fun y => ownsTc c A.a15 fullShare y))))))))))))))), fun _ => rfl⟩

omit [FloatOps F] [Named F] [Preorder Lvl] in
theorem has16 : HasA A.a16 St.x16 (fun t y => { t with x16 := y }) :=
  ⟨fun t => there (there (there (there (there (there (there (there (there (there (there (there (there (there (there (here (P := fun y => ownsTc c A.a16 fullShare y)))))))))))))))), fun _ => rfl⟩

omit [FloatOps F] [Named F] [Preorder Lvl] in
theorem has17 : HasA A.a17 St.x17 (fun t y => { t with x17 := y }) :=
  ⟨fun t => there (there (there (there (there (there (there (there (there (there (there (there (there (there (there (there (here (P := fun y => ownsTc c A.a17 fullShare y))))))))))))))))), fun _ => rfl⟩

omit [FloatOps F] [Named F] [Preorder Lvl] in
theorem has18 : HasA A.a18 St.x18 (fun t y => { t with x18 := y }) :=
  ⟨fun t => there (there (there (there (there (there (there (there (there (there (there (there (there (there (there (there (there (last (P := fun y => ownsTc c A.a18 fullShare y)))))))))))))))))), fun _ => rfl⟩

omit [FloatOps F] [Named F] [Preorder Lvl] in
theorem owns_squeeze {s s' : Shape} {e : EltTy} (m : Memref sig .tc .vmem s e) (hs : s.Squeezes s') (X : s.Idx → Elt F e) :
    (ownsTc c m fullShare X : sProp 𝕄) ⊢ ownsTc c (m.squeeze s' hs) fullShare (fun i => X (Shape.reshapeEquiv hs.numel_eq i)) := by
  iintro H
  ihave H := (show ownsTc c m fullShare X ⊢ iprop(∃ f, ⌜m.view.read (Elt F) f = X⌝ ∗ (m.view.loc (c.tc : Thread nD τ) ↦[m.view.set]{fullShare} f)) from .rfl) $$ H
  icases H with ⟨%f, %hf, H⟩
  ihave H := (show (m.view.loc (c.tc : Thread nD τ) ↦[m.view.set]{fullShare} f : sProp 𝕄) ⊢
    ((m.squeeze s' hs).view.loc (c.tc : Thread nD τ) ↦[(m.squeeze s' hs).view.set]{fullShare} f) from
      by simp only [show (m.squeeze s' hs).view.set = m.view.set from View.set_reshape m.view hs.numel_eq]; exact .rfl) $$ H
  ihave H := (owns_intro (c.tc : Thread nD τ) (m.squeeze s' hs) fullShare f) $$ H
  subst hf
  iexact H

omit [FloatOps F] [Named F] [Preorder Lvl] in
theorem owns_unsqueeze {s s' : Shape} {e : EltTy} (m : Memref sig .tc .vmem s e) (hs : s.Squeezes s') (Y : s'.Idx → Elt F e) :
    (ownsTc c (m.squeeze s' hs) fullShare Y : sProp 𝕄) ⊢ ownsTc c m fullShare (fun i => Y ((Shape.reshapeEquiv hs.numel_eq).symm i)) := by
  iintro H
  ihave H := (show ownsTc c (m.squeeze s' hs) fullShare Y ⊢ iprop(∃ f, ⌜(m.squeeze s' hs).view.read (Elt F) f = Y⌝ ∗ ((m.squeeze s' hs).view.loc (c.tc : Thread nD τ) ↦[(m.squeeze s' hs).view.set]{fullShare} f)) from .rfl) $$ H
  icases H with ⟨%f, %hf, H⟩
  ihave H := (show ((m.squeeze s' hs).view.loc (c.tc : Thread nD τ) ↦[(m.squeeze s' hs).view.set]{fullShare} f : sProp 𝕄) ⊢
    (m.view.loc (c.tc : Thread nD τ) ↦[m.view.set]{fullShare} f) from
      by simp only [show (m.squeeze s' hs).view.set = m.view.set from View.set_reshape m.view hs.numel_eq]; exact .rfl) $$ H
  ihave H := (owns_intro (c.tc : Thread nD τ) m fullShare f) $$ H
  have e : m.view.read (Elt F) f = fun i => Y ((Shape.reshapeEquiv hs.numel_eq).symm i) := by
    subst hf; funext i
    show _ = m.view.read (Elt F) f (Shape.reshapeEquiv hs.numel_eq ((Shape.reshapeEquiv hs.numel_eq).symm i))
    rw [Equiv.apply_symm_apply]
  rw [← e]
  iexact H

omit [FloatOps F] [Named F] [Preorder Lvl] in
/-- A slice of a held memref, squeezed. -/
theorem Has.half {s s' : Shape} {e : EltTy} {m : Memref sig .tc .vmem s e} {get : St F → s.Idx → Elt F e}
    {set : St F → (s.Idx → Elt F e) → St F} (H : HasA m get set) (r : Rect s) (hr : ∀ a, r.stride a = 1) (hs : r.shape.Squeezes s') :
    HasA ((m.slice r hr).squeeze s' hs) (fun t i => get t (r.emb (Shape.reshapeEquiv hs.numel_eq i)))
      (fun t y => set t (r.overlay (get t) fun i => y ((Shape.reshapeEquiv hs.numel_eq).symm i))) where
  focus t := by
    refine (H.focus t).trans ?_
    iintro ⟨H1, HR⟩
    ihave H2 := (owns_slice_split (c.tc : Thread nD τ) m fullShare r hr (get t)) $$ H1
    icases H2 with ⟨H2, ⟨%f, %hf, H3⟩⟩
    isplitl [H2]
    · ihave H2 := (owns_squeeze c (m.slice r hr) hs (fun i => get t (r.emb i))) $$ H2
      iexact H2
    iintro %y H2
    ihave H2 := (owns_unsqueeze c (m.slice r hr) hs y) $$ H2
    ihave H4 := (owns_slice_join (c.tc : Thread nD τ) m fullShare r hr (fun i => y ((Shape.reshapeEquiv hs.numel_eq).symm i)) f) $$ [H2 H3]
    · isplitl [H2]
      · iexact H2
      iexact H3
    rw [hf]
    iapply HR
    iexact H4
  back t := by
    refine Eq.trans (congrArg (set t) ?_) (H.back t)
    funext i
    by_cases hi : i ∈ r.set
    · obtain ⟨j, rfl⟩ := r.exists_idx_of_mem hi
      show r.overlay _ _ (r.emb j) = get t (r.emb j)
      rw [Rect.overlay_emb]; beta_reduce; rw [Equiv.apply_symm_apply]
    · exact Rect.overlay_of_not_mem _ _ _ hi

/-! ## Loads and stores -/

variable {α : Type} (defs : Defs nD τ sig (Elt F) Λ) (𝒱 : Variants) (E : Set Name)

/-- The program runs from the buffers at `s` to the postcondition. -/
def Ok (R : α → sProp 𝕄) (s : St F) (K : Pr nD τ sig F Λ α) : Prop :=
  (own c A s : sProp 𝕄) ⊢ wp frame (wpE defs 𝒱 (c.tc : Thread nD τ) none) E K R

variable {c A defs 𝒱 E}

omit [Named F] in
theorem ok_ld {R : α → sProp 𝕄} {s : Shape} {e : EltTy} {m : Memref sig .tc .vmem s e} {get : St F → s.Idx → Elt F e}
    {set : St F → (s.Idx → Elt F e) → St F} (H : HasA m get set) {t : St F} {off size : Fin s.rank → Nat}
    {h : ∀ a, off a + size a ≤ s.size a}
    {hl : m.view.LoadsAt (Rect.unit (s := s) off size h).toLoadRect}
    {K : ((⟨s.rank, size⟩ : Shape).Idx → Elt F e) → Pr nD τ sig F Λ α}
    (hK : Ok c A defs 𝒱 E R t (K fun i => get t ((Rect.unit (s := s) off size h).emb i))) :
    Ok c A defs 𝒱 E R t (.op (.load m (Rect.unit (s := s) off size h).toLoadRect hl) K) := by
  unfold Ok at hK ⊢
  refine (H.focus t).trans ?_
  iintro ⟨H1, HR⟩
  ihave H1 := (show ownsTc c m fullShare (get t) ⊢ iprop(∃ f, ⌜m.view.read (Elt F) f = get t⌝ ∗ (m.view.loc (c.tc : Thread nD τ) ↦[m.view.set]{fullShare} f)) from .rfl) $$ H1
  icases H1 with ⟨%f, %hf, H1⟩
  iapply (wp_load 𝒱 (c.tc : Thread nD τ) none E (Q := R) (m := m) (r := (Rect.unit (s := s) off size h).toLoadRect) (k := K)
    (View.setOn_subset_set _ _)) $$ H1
  iintro H1
  ihave H2 := (owns_intro (c.tc : Thread nD τ) m fullShare f) $$ H1
  ihave H3 := HR $$ %(get t)
  rw [hf, H.back]
  ihave H4 := H3 $$ H2
  have e : m.view.readAt (Elt F) (Rect.unit (s := s) off size h).toLoadRect f =
      fun i => get t ((Rect.unit (s := s) off size h).emb i) := by
    rw [← hf]; rfl
  rw [e]
  iapply hK
  iexact H4

omit [Named F] in
theorem ok_st {R : α → sProp 𝕄} {s : Shape} {e : EltTy} {m : Memref sig .tc .vmem s e} {get : St F → s.Idx → Elt F e}
    {set : St F → (s.Idx → Elt F e) → St F} (H : HasA m get set) {t : St F} {off size : Fin s.rank → Nat}
    {h : ∀ a, off a + size a ≤ s.size a} {w : (⟨s.rank, size⟩ : Shape).Idx → Elt F e}

    {hx : (m.access (Rect.unit (s := s) off size h)).Stores Finset.univ}
    {hm : Finset.univ = Finset.univ ∨ ∀ a, (Rect.unit (s := s) off size h).stride a = 1} {K : Pr nD τ sig F Λ α}
    (hK : Ok c A defs 𝒱 E R (set t ((Rect.unit (s := s) off size h).overlay (get t) w)) K) :
    Ok c A defs 𝒱 E R t (.op (.store m (Rect.unit (s := s) off size h) w Finset.univ hx hm) (fun _ => K)) := by
  unfold Ok at hK ⊢
  refine (H.focus t).trans ?_
  iintro ⟨H1, HR⟩
  ihave H1 := (show ownsTc c m fullShare (get t) ⊢ iprop(∃ f, ⌜m.view.read (Elt F) f = get t⌝ ∗ (m.view.loc (c.tc : Thread nD τ) ↦[m.view.set]{fullShare} f)) from .rfl) $$ H1
  icases H1 with ⟨%f, %hf, H1⟩
  iapply (wp_store 𝒱 (c.tc : Thread nD τ) none E (Q := R) (m := m) (r := Rect.unit (s := s) off size h) (w := w) (k := fun _ => K)
    (Memref.setOn_access_subset m _ _)) $$ H1
  iintro H1
  ihave H2 := (owns_intro (c.tc : Thread nD τ) m fullShare _) $$ H1
  have e : m.view.read (Elt F) ((m.access (Rect.unit (s := s) off size h)).write (Elt F) f w Finset.univ) =
      (Rect.unit (s := s) off size h).overlay (get t) w := by
    funext j
    by_cases hj : j ∈ (Rect.unit (s := s) off size h).set
    · obtain ⟨i, rfl⟩ := (Rect.unit (s := s) off size h).exists_idx_of_mem hj
      change _ = Rect.overlay _ _ _ ((Rect.unit (s := s) off size h).emb i)
      rw [Rect.overlay_emb]
      exact View.read_write_of_mem (v := m.access (Rect.unit (s := s) off size h)) f w (Finset.mem_univ i)
    · rw [Rect.overlay_of_not_mem _ _ _ hj, ← hf]
      rw [View.read_apply, View.read_apply, View.write_of_not_mem]
      intro hc
      obtain ⟨i, -, hi⟩ := Finset.mem_map.mp hc
      exact hj (m.view.emb.injective hi ▸ LoadRect.idx_mem _ i)
  rw [e]
  ihave H3 := HR $$ %((Rect.unit (s := s) off size h).overlay (get t) w)
  ihave H4 := H3 $$ H2
  iapply hK
  iexact H4

omit [Named F] in
theorem ok_eq {R : α → sProp 𝕄} {t t' : St F} {K : Pr nD τ sig F Λ α} (e : t = t') (h : Ok c A defs 𝒱 E R t' K) :
    Ok c A defs 𝒱 E R t K := e ▸ h

omit [Named F] in
/-- A counted loop, each turn taking the buffers and the carried value one step along two given families. -/
theorem ok_loop {R : α → sProp 𝕄} {N : Nat} {S : Type} {body : Fin N → S → (S → Pr nD τ sig F Λ α) → Pr nD τ sig F Λ α}
    {K : S → Pr nD τ sig F Λ α} (T : Nat → St F) (V : Nat → S) (a₀ : Nat)
    (hstep : ∀ (c' : Fin N) (_ : a₀ ≤ c'.val) (K' : S → Pr nD τ sig F Λ α), Ok c A defs 𝒱 E R (T (c'.val + 1)) (K' (V (c'.val + 1))) →
      Ok c A defs 𝒱 E R (T c'.val) (body c' (V c'.val) K')) :
    ∀ (n a : Nat) (h : a + n ≤ N) (_ : a₀ ≤ a), Ok c A defs 𝒱 E R (T (a + n)) (K (V (a + n))) →
      Ok c A defs 𝒱 E R (T a) (loopFrom body n a h (V a) K)
  | 0, _, _, _, hK => hK
  | n + 1, a, h, ha, hK => hstep ⟨a, by omega⟩ ha _ (ok_loop T V a₀ hstep n (a + 1) (by omega) (by omega) (by
      rw [show a + 1 + n = a + (n + 1) by omega]; exact hK))

end Own
end Cert.Spec
-- ==== Proof.Tiles.lean ====
module

public import proofs.«01_k».proof.Proof.Spec
public import Idealize.ShloMosaic.Lib.Memref
public import Idealize.ShloMosaic.Lib.Pipeline
public import Idealize.ShloMosaic.Lib.Pipeline.Value

/-! Contents written block by block: what an array holds when some of its blocks have been written. -/

@[expose] public section

noncomputable section

namespace Cert.Spec

open Idealize.ShloMosaic

theorem overlay_unit {s : Shape} {α : Type} {off size : Fin s.rank → Nat} (h : ∀ a, off a + size a ≤ s.size a)
    (X : s.Idx → α) (w : (⟨s.rank, size⟩ : Shape).Idx → α) (i : s.Idx) (hh : ∀ a, off a ≤ (i a).val ∧ (i a).val < off a + size a) :
    (Rect.unit (s := s) off size h).overlay X w i = w (fun a => ⟨(i a).val - off a, by have := hh a; show _ < size a; omega⟩) := by
  have e : i = (Rect.unit (s := s) off size h).emb (fun a => ⟨(i a).val - off a, by have := hh a; show _ < size a; omega⟩) := by
    funext a; apply Fin.ext
    show (i a).val = off a + 1 * ((i a).val - off a)
    have := hh a; omega
  conv_lhs => rw [e]
  exact Rect.overlay_emb _ _ _ _

theorem overlay_unit_out {s : Shape} {α : Type} {off size : Fin s.rank → Nat} (h : ∀ a, off a + size a ≤ s.size a)
    (X : s.Idx → α) (w : (⟨s.rank, size⟩ : Shape).Idx → α) (i : s.Idx) (hh : ¬ ∀ a, off a ≤ (i a).val ∧ (i a).val < off a + size a) :
    (Rect.unit (s := s) off size h).overlay X w i = X i :=
  Rect.overlay_of_not_mem _ _ _ (by rw [Rect.mem_set_unit]; exact hh)

/-- A block laid over the whole array is the block. -/
theorem overlay_whole {s : Shape} {α : Type} {off : Fin s.rank → Nat} (h : ∀ a, off a + s.size a ≤ s.size a)
    (X : s.Idx → α) (w : s.Idx → α) : (Rect.unit (s := s) off s.size h).overlay X w = w := by
  funext i
  have h0 : ∀ a, off a = 0 := fun a => by have := h a; omega
  rw [overlay_unit h X w i (fun a => ⟨by rw [h0 a]; exact Nat.zero_le _, by have := (i a).isLt; rw [h0 a]; omega⟩)]
  congr 1; funext a; apply Fin.ext; show (i a).val - off a = _; rw [h0 a]; rfl

theorem emb_whole {s : Shape} {off : Fin s.rank → Nat} (h : ∀ a, off a + s.size a ≤ s.size a) (i : s.Idx) :
    (Rect.unit (s := s) off s.size h).emb i = i := by
  have h0 : ∀ a, off a = 0 := fun a => by have := h a; omega
  funext a; apply Fin.ext; show off a + 1 * (i a).val = _; rw [h0 a]; omega

section
variable {s : Shape} {α : Type} {size : Fin s.rank → Nat} (hb : ∀ a, 0 < size a)
  (f : (Fin s.rank → Nat) → (⟨s.rank, size⟩ : Shape).Idx → α) (D : (Fin s.rank → Nat) → Prop) (old : s.Idx → α)

/-- The block an index lies in. -/
def blkOf (size : Fin s.rank → Nat) (i : s.Idx) : Fin s.rank → Nat := fun a => (i a).val / size a

/-- Its place in the block. -/
def locOf (i : s.Idx) : (⟨s.rank, size⟩ : Shape).Idx := fun a => ⟨(i a).val % size a, Nat.mod_lt _ (hb a)⟩

/-- All blocks written. -/
def tiled : s.Idx → α := fun i => f (blkOf size i) (locOf hb i)

open Classical in
/-- The blocks in `D` written, over the old contents. -/
def mix : s.Idx → α := fun i => if D (blkOf size i) then f (blkOf size i) (locOf hb i) else old i

theorem mix_full (h : ∀ i : s.Idx, D (blkOf size i)) : mix hb f D old = tiled hb f := by
  funext i; exact if_pos (h i)

theorem mix_none (h : ∀ i : s.Idx, ¬ D (blkOf size i)) : mix hb f D old = old := by
  funext i; exact if_neg (h i)

theorem mix_congr {D'} (h : ∀ i : s.Idx, D (blkOf size i) ↔ D' (blkOf size i)) : mix hb f D old = mix hb f D' old := by
  classical
  funext i; unfold mix; simp only [propext (h i)]

/-- One more block written. -/
theorem mix_step {off : Fin s.rank → Nat} (h : ∀ a, off a + size a ≤ s.size a) (q : Fin s.rank → Nat)
    (hoff : ∀ a, off a = size a * q a) (D') (hD : ∀ i : s.Idx, D' (blkOf size i) ↔ D (blkOf size i) ∨ blkOf size i = q) :
    (Rect.unit (s := s) off size h).overlay (mix hb f D old) (f q) = mix hb f D' old := by
  funext i
  by_cases hi : ∀ a, off a ≤ (i a).val ∧ (i a).val < off a + size a
  · have hq : blkOf size i = q := by
      funext a; obtain ⟨h1, h2⟩ := hi a
      rw [hoff a] at h1 h2
      exact Nat.div_eq_of_lt_le (by rw [Nat.mul_comm]; exact h1) (by rw [Nat.mul_comm, Nat.mul_add]; omega)
    rw [overlay_unit h _ _ i hi]
    unfold mix
    rw [if_pos ((hD i).2 (.inr hq)), hq]
    congr 1; funext a; apply Fin.ext
    show (i a).val - off a = (i a).val % size a
    have h3 : (i a).val / size a = q a := congrFun hq a
    have := Nat.div_add_mod (i a).val (size a)
    rw [hoff a]; rw [h3] at this; omega
  · rw [overlay_unit_out h _ _ i hi]
    have hq : ¬ blkOf size i = q := fun e => hi fun a => by
      have h3 : (i a).val / size a = q a := congrFun e a
      have := Nat.div_add_mod (i a).val (size a)
      have h4 := Nat.mod_lt (i a).val (hb a)
      rw [hoff a]; rw [h3] at this; omega
    have : D' (blkOf size i) ↔ D (blkOf size i) := (hD i).trans ⟨fun h => h.resolve_right hq, .inl⟩
    unfold mix; beta_reduce; by_cases hd : D (blkOf size i)
    · rw [if_pos hd, if_pos (this.2 hd)]
    · rw [if_neg hd, if_neg (fun h => hd (this.1 h))]

/-- A written block read back. -/
theorem mix_read {off : Fin s.rank → Nat} (h : ∀ a, off a + size a ≤ s.size a) (q : Fin s.rank → Nat)
    (hoff : ∀ a, off a = size a * q a) (hq : D q) :
    (fun i => mix hb f D old ((Rect.unit (s := s) off size h).emb i)) = f q := by
  funext i
  have hq' : blkOf size ((Rect.unit (s := s) off size h).emb i) = q := by
    funext a
    show (off a + 1 * (i a).val) / size a = q a
    have h4 : (i a).val < size a := (i a).isLt
    rw [hoff a, Nat.one_mul, Nat.mul_add_div (hb a), Nat.div_eq_of_lt h4, Nat.add_zero]
  unfold mix
  rw [if_pos (by rw [hq']; exact hq), hq']
  congr 1; funext a; apply Fin.ext
  show (off a + 1 * (i a).val) % size a = (i a).val
  have h4 : (i a).val < size a := (i a).isLt
  rw [hoff a, Nat.one_mul, Nat.mul_add_mod, Nat.mod_eq_of_lt h4]

end

end Cert.Spec
-- ==== Proof.Vals.lean ====
module

public import proofs.«01_k».proof.Proof.Tiles

/-! What the body computes of a tile, as functions of the buffers it reads: each block's vector written with the
    body's own operations. -/

@[expose] public section

noncomputable section

namespace Cert.Spec

open Idealize.ShloMosaic

variable {F : FTy → Type} [FloatOps F] [Named F]

/-- The block of sizes `size` at `off`. -/
@[reducible] def blk {s : Shape} {α : Type} (X : s.Idx → α) (off size : Fin s.rank → Nat) (h : ∀ a, off a + size a ≤ s.size a) :
    (⟨s.rank, size⟩ : Shape).Idx → α := fun i => X ((Rect.unit (s := s) off size h).emb i)

/-! ## A tile's codes and scales, from its rows `x` and the gains `gw` -/

section Quant
variable (inv_d : F .f32) (x : S256x3584.Idx → Elt F .bf16) (gw : S1x3584.Idx → Elt F .f32)

/-- The squares of one block of an eight-row strip. -/
def sqV (g : Fin 8) (k : Fin 4) (c : Fin 14) : FVec F S8x256 .f32 :=
  mulf (extf (φ := .bf16) .f32 (shapeCast S8x256 (blk x ![32 * g.val + 8 * k.val, 256 * c.val] ![8, 256] (in2 (by omega) (by omega))) (by decide)) (by decide))
    (extf (φ := .bf16) .f32 (shapeCast S8x256 (blk x ![32 * g.val + 8 * k.val, 256 * c.val] ![8, 256] (in2 (by omega) (by omega))) (by decide)) (by decide))

/-- Their sum over the blocks up to block `n`. -/
def sqAcc (g : Fin 8) (k : Fin 4) : Nat → FVec F S8x256 .f32
  | 0 => sqV x g k 0
  | n + 1 => if h : n + 1 < 14 then addf (sqAcc g k n) (sqV x g k ⟨n + 1, h⟩) else sqAcc g k n

/-- The mean squares of a row group. -/
def msV (g : Fin 8) : FVec F S32x1 .f32 :=
  meanSq inv_d (foldSq (sqAcc x g 0 13)) (foldSq (sqAcc x g 1 13)) (foldSq (sqAcc x g 2 13)) (foldSq (sqAcc x g 3 13))

/-- One block times the gains. -/
def uV (g : Fin 8) (c : Fin 28) : FVec F S32x128 .f32 :=
  mulf (extf (φ := .bf16) .f32 (shapeCast S32x128 (blk x ![32 * g.val, 128 * c.val] ![32, 128] (in2 (by omega) (by omega))) (by decide)) (by decide))
    (broadcastTo S32x128 (blk gw ![0, 128 * c.val] ![1, 128] (in2 (by omega) (by omega))) (by decide))

/-- The greatest magnitude over the blocks up to block `n`. -/
def uMax (g : Fin 8) : Nat → FVec F S32x128 .f32
  | 0 => absf (uV x gw g 0)
  | n + 1 => if h : n + 1 < 28 then maximumf (uMax g n) (absf (uV x gw g ⟨n + 1, h⟩)) else uMax g n

def rV (g : Fin 8) : FVec F S32x1 .f32 := rOf (msV inv_d x g)
def yV (g : Fin 8) : FVec F S32x1 .f32 := yOf (uMax x gw g 27) (rV inv_d x g)
def scV (g : Fin 8) : FVec F S32x1 .f32 := scaleOf (yV inv_d x gw g)
def sV (g : Fin 8) : FVec F S32x1 .f32 := mulf (rV inv_d x g) (invOf (yV inv_d x gw g))
/-- The codes of one block. -/
def codeV (g : Fin 8) (c : Fin 28) : FVec F S32x128 .fp8e4m3 := codeOf (shapeCast S32x128 (uV x gw g c) (by decide)) (sV inv_d x gw g)

def f12 (q : Fin 2 → Nat) : S32x128.Idx → Elt F .f32 :=
  shapeCast S32x128 (uV x gw (Fin.ofNat 8 (q 0)) (Fin.ofNat 28 (q 1))) (by decide)
def f10 (q : Fin 2 → Nat) : S32x128.Idx → Elt F .fp8e4m3 := codeV inv_d x gw (Fin.ofNat 8 (q 0)) (Fin.ofNat 28 (q 1))
def f13 (q : Fin 3 → Nat) : S1x32x128.Idx → Elt F .fp8e4m3 :=
  shapeCast S1x32x128 (shapeCast S32x128 (codeV inv_d x gw (Fin.ofNat 8 (q 1)) (Fin.ofNat 28 (q 2))) (by decide)) (by decide)
/-- A row group's scales, one in every lane. -/
def scB (g : Fin 8) : S32x128.Idx → Elt F .f32 :=
  shapeCast S32x128 (broadcastTo S32x128 (shapeCast S32x1 (scV inv_d x gw g) (by decide)) (by decide)) (by decide)
/-- The rows and lanes of a block of one slot. -/
def tail2 {a b : Nat} (i : (⟨3, ![1, a, b]⟩ : Shape).Idx) : (⟨2, ![a, b]⟩ : Shape).Idx :=
  fun c => i c.succ
def f14 (q : Fin 3 → Nat) : S1x32x128.Idx → Elt F .f32 := fun i => scB inv_d x gw (Fin.ofNat 8 (q 1)) (tail2 i)

theorem pos2 : ∀ a, 0 < (![32, 128] : Fin 2 → Nat) a := by decide
theorem pos3 : ∀ a, 0 < (![1, 32, 128] : Fin 3 → Nat) a := by decide
theorem pos11 : ∀ a, 0 < (![1, 1, 128] : Fin 3 → Nat) a := by decide
theorem pos7 : ∀ a, 0 < (![1, 1, 256, 128] : Fin 4 → Nat) a := by decide

/-- The row scales of 128 rows laid along the lanes. -/
def lanesOf (v : S1x128x128.Idx → Elt F .f32) : S1x1x128.Idx → Elt F .f32 :=
  shapeCast S1x1x128 (extractStridedSlice S1x128 ![0, 0]
      (transpose S128x128 [1, 0] (shapeCast S128x128 v (by decide)) (by decide)) (by decide)) (by decide)

def f11 (q : Fin 3 → Nat) : S1x1x128.Idx → Elt F .f32 :=
  lanesOf (blk (s := S2x256x128) (tiled pos3 (f14 inv_d x gw)) ![0, 128 * (Fin.ofNat 2 (q 2)).val, 0] ![1, 128, 128] (in3 (by omega) (by omega) (by omega)))

/-- The tile's codes. -/
def codesOf : S256x3584.Idx → Elt F .fp8e4m3 := tiled pos2 (f10 inv_d x gw)
/-- The tile's row scales along the lanes. -/
def scalesOf : S1x1x256.Idx → Elt F .f32 := tiled pos11 (f11 inv_d x gw)

end Quant

/-! ## A tile's heads, from its codes and scales -/

section Project
variable (act : FVec F S256x3584 .fp8e4m3) (hs : FVec F S256x128 .f32) (w : S3584x1152.Idx → Elt F .fp8e4m3)
  (ws : S1x1152.Idx → Elt F .f32) (qg kg : S1x128.Idx → Elt F .f32)

/-- Two heads' products. -/
def pairV (p : Fin 4) : FVec F S256x256 .f32 :=
  matmul dot256 none act (blk w ![0, 256 * p.val] ![3584, 256] (in2 (by omega) (by omega)) : FVec F S3584x256 .fp8e4m3) (constant S256x256 .f32 0x00000000#32)

/-- One head's products. -/
def accV (h : Fin 8) : FVec F S256x128 .f32 :=
  if h.val % 2 = 0 then lo (pairV act w ⟨h.val / 2, by omega⟩) else hi (pairV act w ⟨h.val / 2, by omega⟩)

/-- One normalized head. -/
def headV7 (h : Fin 8) (gain : S1x128.Idx → Elt F .f32) : FVec F S256x128 .bf16 :=
  headOf (deq (accV act w h) (blk ws ![0, 128 * h.val] ![1, 128] (in2 (by omega) (by omega))) hs) gain

def f7 (q : Fin 4 → Nat) : S1x1x256x128.Idx → Elt F .bf16 :=
  shapeCast S1x1x256x128 (headV7 act hs w ws (Fin.ofNat 7 (q 1)).castSucc qg) (by decide)

/-- The query heads. -/
def qOf : S1x7x256x128.Idx → Elt F .bf16 := tiled pos7 (f7 act hs w ws qg)
/-- The key head. -/
def kOf : S256x128.Idx → Elt F .bf16 := headV7 act hs w ws 7 kg
/-- The value head. -/
def vOf : S256x128.Idx → Elt F .bf16 :=
  truncf .bf16 (deq (matmul dot128 none act (blk w ![0, 1024] ![3584, 128] (in2 (by omega) (by omega)) : FVec F S3584x128 .fp8e4m3)
    (constant S256x128 .f32 0x00000000#32)) (blk ws ![0, 1024] ![1, 128] (in2 (by omega) (by omega))) hs) (by decide)

end Project

/-! ## The parameters -/

def gwOf (v : S3584.Idx → Elt F .bf16) : S1x3584.Idx → Elt F .f32 :=
  shapeCast S1x3584 (shapeCast S1x3584 (extf (φ := .bf16) (s := S3584) .f32 v (by decide)) (by decide)) (by decide)
def wsOf (v : S1152.Idx → Elt F .f32) : S1x1152.Idx → Elt F .f32 := shapeCast S1x1152 (shapeCast (s := S1152) S1x1152 v (by decide)) (by decide)
def gainOf (v : S128.Idx → Elt F .bf16) : S1x128.Idx → Elt F .f32 :=
  shapeCast S1x128 (shapeCast S1x128 (extf (φ := .bf16) (s := S128) .f32 v (by decide)) (by decide)) (by decide)

end Cert.Spec
-- ==== Proof.Steps.lean ====
module

public import proofs.«01_k».proof.Proof.Triple
public import proofs.«01_k».proof.Proof.Vals

/-! The body's steps: what the buffers hold after each. -/

@[expose] public section

noncomputable section

namespace Cert.Spec

open Idealize.ShloMosaic Idealize.ShloMosaic.TcCoe Idealize.SL.Sem
open Idealize.SL Idealize.SL.RA Idealize.SL.BI

variable {nD : Nat} {τ : Topo} {sig : RefSig} {F : FTy → Type} [FloatOps F] [Named F] {Λ : Labels}
variable {Ix : Type} [DecidableEq Ix] {Name : Type} [DecidableEq Name] {U : Type} [URA U] {Lvl : Type} [Preorder Lvl]

local notation "𝕄" => MT nD τ sig Ix (Elt F) Name U Lvl

variable {c : Dev nD} {A : Args sig} {α : Type} {defs : Defs nD τ sig (Elt F) Λ} {𝒱 : Variants} {E : Set Name}

/-! ## Sums of squares -/

theorem ok_sq {R : α → sProp 𝕄} {t : St F} {g : Fin 8} {k : Fin 4} {b : Fin 14} {K : FVec F S8x256 .f32 → Pr nD τ sig F Λ α}
    (h : Ok c A defs 𝒱 E R t (K (sqV t.x1 g k b))) : Ok c A defs 𝒱 E R t (sqLoad A g k b K) :=
  ok_ld (has1 c A) h

theorem ok_strip {R : α → sProp 𝕄} {t : St F} {g : Fin 8} {k : Fin 4} {K : FVec F S8x1 .f32 → Pr nD τ sig F Λ α}
    (h : Ok c A defs 𝒱 E R t (K (foldSq (sqAcc t.x1 g k 13)))) : Ok c A defs 𝒱 E R t (strip A g k K) := by
  refine ok_sq ?_
  refine ok_loop (fun _ => t) (fun n => sqAcc t.x1 g k (n - 1)) 1 ?_ 13 1 (by decide) (by decide) h
  intro c' hc K' hK
  obtain ⟨m, hm⟩ : ∃ m, c'.val = m + 1 := ⟨c'.val - 1, by omega⟩
  refine ok_sq ?_
  have e : sqAcc t.x1 g k (c'.val + 1 - 1) = addf (sqAcc t.x1 g k (c'.val - 1)) (sqV t.x1 g k c') := by
    obtain ⟨v, hv⟩ := c'
    subst hm
    exact dif_pos hv
  beta_reduce at hK ⊢
  rw [e] at hK
  exact hK

/-! ## Products with the gains -/

section Quant
variable (inv_d : F .f32) (k : Fin 2) (t : St F)

/-- The buffers in the middle of a tile: the blocks of products, of codes and of scales written so far. -/
def stQ (D12 D10 : Nat → Nat → Prop) (D14 : Nat → Prop) : St F :=
  { t with
    x12 := mix pos2 (f12 t.x1 t.x15) (fun p => D12 (p 0) (p 1)) t.x12
    x10 := mix pos2 (f10 inv_d t.x1 t.x15) (fun p => D10 (p 0) (p 1)) t.x10
    x13 := mix pos3 (f13 inv_d t.x1 t.x15) (fun p => p 0 = k.val ∧ D10 (p 1) (p 2)) t.x13
    x14 := mix pos3 (f14 inv_d t.x1 t.x15) (fun p => p 0 = k.val ∧ D14 (p 1)) t.x14 }

variable {inv_d k t}

theorem blk2 (i : S256x3584.Idx) (q : Fin 2 → Nat) :
    blkOf ![32, 128] i = q ↔ blkOf ![32, 128] i 0 = q 0 ∧ blkOf ![32, 128] i 1 = q 1 := by
  constructor
  · rintro rfl; exact ⟨rfl, rfl⟩
  · rintro ⟨h, h'⟩; funext a; fin_cases a; exacts [h, h']

theorem blk3 {l n m : Nat} (i : (⟨3, ![l, n, m]⟩ : Shape).Idx) (size q : Fin 3 → Nat) :
    blkOf size i = q ↔ blkOf size i 0 = q 0 ∧ blkOf size i 1 = q 1 ∧ blkOf size i 2 = q 2 := by
  constructor
  · rintro rfl; exact ⟨rfl, rfl, rfl⟩
  · rintro ⟨h, h', h''⟩; funext a; fin_cases a; exacts [h, h', h'']

/-- The blocks before block `n` of row group `g`. -/
def upTo (g n : Nat) (a b : Nat) : Prop := a < g ∨ a = g ∧ b < n

theorem ok_u {R : α → sProp 𝕄} {g : Fin 8} {b : Fin 28} {D10 D14} {K : FVec F S32x128 .f32 → Pr nD τ sig F Λ α}
    (h : Ok c A defs 𝒱 E R (stQ inv_d k t (upTo g.val (b.val + 1)) D10 D14) (K (absf (uV t.x1 t.x15 g b)))) :
    Ok c A defs 𝒱 E R (stQ inv_d k t (upTo g.val b.val) D10 D14) (uStep A g b K) := by
  refine ok_ld (has1 c A) ?_
  refine ok_ld (has15 c A) ?_
  refine ok_ld (has12 c A) ?_
  refine ok_st (has12 c A) ?_
  refine ok_eq (t' := stQ inv_d k t (upTo g.val (b.val + 1)) D10 D14) ?_ h
  refine congrArg (fun y => ({ stQ inv_d k t (upTo g.val b.val) D10 D14 with x12 := y } : St F)) ?_
  have hq : f12 t.x1 t.x15 ![g.val, b.val] = shapeCast S32x128 (uV t.x1 t.x15 g b) (by decide) := by
    unfold f12
    simp
  refine Eq.trans ?_ (mix_step (size := ![32, 128]) (off := ![32 * g.val, 128 * b.val]) pos2 (f12 t.x1 t.x15)
    (fun p => upTo g.val b.val (p 0) (p 1)) t.x12 (in2 (by omega) (by omega)) ![g.val, b.val]
    (Fin.forall_fin_two.mpr ⟨rfl, rfl⟩) _ ?_)
  · rw [hq]; rfl
  · intro i
    rw [blk2]
    show upTo _ _ _ _ ↔ upTo _ _ _ _ ∨ (_ = g.val ∧ _ = b.val)
    unfold upTo; omega

/-! ## The scales of a row group -/

/-- A block laid through a slot of a two-slot array, as one laid into the array. -/
theorem overlay_slot {α : Type} {n : Nat} {o a : Nat} (k : Fin 2) (X : (⟨3, ![2, n, 128]⟩ : Shape).Idx → α)
    (h₁ : ∀ i, (![k.val, 0, 0] : Fin 3 → Nat) i + (⟨3, ![1, n, 128]⟩ : Shape).size i ≤ (⟨3, ![2, n, 128]⟩ : Shape).size i)
    (hs : (⟨3, ![1, n, 128]⟩ : Shape).Squeezes ⟨2, ![n, 128]⟩)
    (h₂ : ∀ i, (![o, 0] : Fin 2 → Nat) i + (![a, 128] : Fin 2 → Nat) i ≤ (⟨2, ![n, 128]⟩ : Shape).size i)
    (h₃ : ∀ i, (![k.val, o, 0] : Fin 3 → Nat) i + (![1, a, 128] : Fin 3 → Nat) i ≤ (⟨3, ![2, n, 128]⟩ : Shape).size i)
    (w : (⟨2, ![a, 128]⟩ : Shape).Idx → α) :
    (Rect.unit (s := ⟨3, ![2, n, 128]⟩) ![k.val, 0, 0] (⟨3, ![1, n, 128]⟩ : Shape).size h₁).overlay X
      (fun i => (Rect.unit (s := ⟨2, ![n, 128]⟩) ![o, 0] ![a, 128] h₂).overlay
        (fun j => X ((Rect.unit (s := ⟨3, ![2, n, 128]⟩) ![k.val, 0, 0] (⟨3, ![1, n, 128]⟩ : Shape).size h₁).emb (Shape.reshapeEquiv hs.numel_eq j))) w
        ((Shape.reshapeEquiv hs.numel_eq).symm i))
      = (Rect.unit (s := ⟨3, ![2, n, 128]⟩) ![k.val, o, 0] ![1, a, 128] h₃).overlay X (fun i => w (tail2 i)) := by
  have he : ∀ j : (⟨3, ![1, n, 128]⟩ : Shape).Idx, (Shape.reshapeEquiv hs.numel_eq).symm j = tail2 j := by
    intro j
    rw [Equiv.symm_apply_eq]
    refine (Shape.reshapeEquiv_eq_of_rowMajor _ ?_).symm
    rw [Shape.rowMajor_val_three, Shape.rowMajor_val_two]
    have h0 : (j 0).val = 0 := by have := (j 0).isLt; change _ < 1 at this; omega
    show ((j 0).val * n + (j 1).val) * 128 + (j 2).val = (j 1).val * 128 + (j 2).val
    rw [h0]; simp
  funext i
  by_cases hk : (i 0).val = k.val
  · have hin : ∀ b, (![k.val, 0, 0] : Fin 3 → Nat) b ≤ (i b).val ∧ (i b).val < (![k.val, 0, 0] : Fin 3 → Nat) b + (⟨3, ![1, n, 128]⟩ : Shape).size b := by
      intro b
      have h1 := (i 1).isLt
      have h2 := (i 2).isLt
      fin_cases b
      · show k.val ≤ (i 0).val ∧ (i 0).val < k.val + 1; omega
      · exact ⟨Nat.zero_le _, by show (i 1).val < 0 + n; rw [Nat.zero_add]; exact h1⟩
      · exact ⟨Nat.zero_le _, by show (i 2).val < 0 + 128; rw [Nat.zero_add]; exact h2⟩
    rw [overlay_unit h₁ _ _ i hin, he]
    by_cases ho : o ≤ (i 1).val ∧ (i 1).val < o + a
    · have h2 : (i 2).val < 128 := (i 2).isLt
      rw [overlay_unit h₃ _ _ i (by
        intro b; fin_cases b
        · show k.val ≤ (i 0).val ∧ (i 0).val < k.val + 1; omega
        · exact ho
        · exact ⟨Nat.zero_le _, by show (i 2).val < 0 + 128; omega⟩)]
      rw [overlay_unit h₂ _ _ _ (by
        intro b; fin_cases b
        · show o ≤ (i 1).val - 0 ∧ (i 1).val - 0 < o + a; omega
        · show 0 ≤ (i 2).val - 0 ∧ (i 2).val - 0 < 0 + 128; omega)]
      congr 1
      funext b; fin_cases b
      · apply Fin.ext; show (i 1).val - 0 - o = (i 1).val - o; omega
      · apply Fin.ext; show (i 2).val - 0 - 0 = (i 2).val - 0; omega
    · rw [overlay_unit_out h₃ _ _ i (fun h => ho (h 1)), overlay_unit_out h₂ _ _ _ (fun h => ho (by
        have h := h 0; change o ≤ (i 1).val - 0 ∧ (i 1).val - 0 < o + a at h; omega))]
      congr 1
      rw [← he, Equiv.apply_symm_apply]
      funext b; apply Fin.ext
      show (![k.val, 0, 0] : Fin 3 → Nat) b + 1 * ((i b).val - (![k.val, 0, 0] : Fin 3 → Nat) b) = (i b).val
      have := (hin b).1; omega
  · rw [overlay_unit_out h₁ _ _ i (fun h => hk (by have h := h 0; change k.val ≤ (i 0).val ∧ (i 0).val < k.val + 1 at h; omega)),
      overlay_unit_out h₃ _ _ i (fun h => hk (by have h := h 0; change k.val ≤ (i 0).val ∧ (i 0).val < k.val + 1 at h; omega))]

theorem ok_scale {R : α → sProp 𝕄} {g : Fin 8} {D12 D10} {K : Pr nD τ sig F Λ α}
    (h : Ok c A defs 𝒱 E R (stQ inv_d k t D12 D10 (fun a => a < g.val + 1)) K) :
    Ok c A defs 𝒱 E R (stQ inv_d k t D12 D10 (fun a => a < g.val)) (putScale A k g (scV inv_d t.x1 t.x15 g) K) := by
  have H := Has.half c A (has14 (Ix := Ix) (Name := Name) (U := U) (Lvl := Lvl) (nD := nD) (τ := τ) (F := F) c A)
    (Rect.unit (s := S2x256x128) ![k.val, 0, 0] S1x256x128.size (in3 (by omega) (by omega) (by omega))) (fun _ => rfl) sq14
  refine ok_ld H ?_
  refine ok_st H ?_
  refine ok_eq (t' := stQ inv_d k t D12 D10 (fun a => a < g.val + 1)) ?_ h
  refine congrArg (fun y => ({ stQ inv_d k t D12 D10 (fun a => a < g.val) with x14 := y } : St F)) ?_
  refine (overlay_slot (n := 256) k _ _ sq14 _ (in3 (by omega) (by omega) (by omega)) _).trans ?_
  have hq : f14 inv_d t.x1 t.x15 ![k.val, g.val, 0] = fun i => scB inv_d t.x1 t.x15 g (tail2 i) := by
    unfold f14
    simp
  refine Eq.trans ?_ (mix_step (size := ![1, 32, 128]) (off := ![k.val, 32 * g.val, 0]) pos3 (f14 inv_d t.x1 t.x15)
    (fun p => p 0 = k.val ∧ p 1 < g.val) t.x14 (in3 (by omega) (by omega) (by omega)) ![k.val, g.val, 0] (by intro a; fin_cases a <;> simp) _ ?_)
  · rw [hq]; rfl
  · intro i
    rw [blk3]
    have h2 : blkOf (s := S2x256x128) ![1, 32, 128] i 2 = 0 := Nat.div_eq_of_lt (i 2).isLt
    show _ ∧ _ < _ ↔ (_ ∧ _ < _) ∨ (_ = k.val ∧ _ = g.val ∧ _ = 0)
    rw [h2]; omega

/-! ## The codes -/

theorem ok_code {R : α → sProp 𝕄} {g : Fin 8} {b : Fin 28} {D12 : Nat → Nat → Prop} {D14} {K : Pr nD τ sig F Λ α} (hD : D12 g.val b.val)
    (h : Ok c A defs 𝒱 E R (stQ inv_d k t D12 (upTo g.val (b.val + 1)) D14) K) :
    Ok c A defs 𝒱 E R (stQ inv_d k t D12 (upTo g.val b.val) D14) (codeStep A k g (sV inv_d t.x1 t.x15 g) b K) := by
  have H := Has.half c A (has13 (Ix := Ix) (Name := Name) (U := U) (Lvl := Lvl) (nD := nD) (τ := τ) (F := F) c A)
    (Rect.unit (s := S2x256x3584) ![k.val, 0, 0] S1x256x3584.size (in3 (by omega) (by omega) (by omega))) (fun _ => rfl) sq13
  have hv : (fun i => mix pos2 (f12 t.x1 t.x15) (fun p => D12 (p 0) (p 1)) t.x12
      ((Rect.unit (s := S256x3584) ![32 * g.val, 128 * b.val] ![32, 128] (in2 (by omega) (by omega))).emb i)) =
      shapeCast S32x128 (uV t.x1 t.x15 g b) (by decide) := by
    refine (mix_read (size := ![32, 128]) pos2 (f12 t.x1 t.x15) _ t.x12 _ ![g.val, b.val] (Fin.forall_fin_two.mpr ⟨rfl, rfl⟩) hD).trans ?_
    unfold f12
    simp
  refine ok_ld (has12 c A) ?_
  refine ok_ld (has10 c A) ?_
  refine ok_st (has10 c A) ?_
  refine ok_ld H ?_
  refine ok_st (has13 c A) ?_
  refine ok_eq (t' := stQ inv_d k t D12 (upTo g.val (b.val + 1)) D14) ?_ h
  refine congrArg₂ (fun y z => ({ stQ inv_d k t D12 (upTo g.val b.val) D14 with x10 := y, x13 := z } : St F)) ?_ ?_
  · have hq : f10 inv_d t.x1 t.x15 ![g.val, b.val] = codeV inv_d t.x1 t.x15 g b := by
      unfold f10
      simp
    refine Eq.trans ?_ (mix_step (size := ![32, 128]) (off := ![32 * g.val, 128 * b.val]) pos2 (f10 inv_d t.x1 t.x15)
      (fun p => upTo g.val b.val (p 0) (p 1)) t.x10 (in2 (by omega) (by omega)) ![g.val, b.val] (Fin.forall_fin_two.mpr ⟨rfl, rfl⟩) _ ?_)
    · rw [hq]
      exact congrArg (Rect.overlay _ _) (congrArg (fun v => codeOf v (sV inv_d t.x1 t.x15 g)) hv)
    · intro i
      rw [blk2]
      show upTo _ _ _ _ ↔ upTo _ _ _ _ ∨ (_ = g.val ∧ _ = b.val)
      unfold upTo; omega
  · have hq : f13 inv_d t.x1 t.x15 ![k.val, g.val, b.val] =
        shapeCast S1x32x128 (shapeCast S32x128 (codeV inv_d t.x1 t.x15 g b) (by decide)) (by decide) := by
      unfold f13
      simp
    refine Eq.trans ?_ (mix_step (size := ![1, 32, 128]) (off := ![k.val, 32 * g.val, 128 * b.val]) pos3 (f13 inv_d t.x1 t.x15)
      (fun p => p 0 = k.val ∧ upTo g.val b.val (p 1) (p 2)) t.x13 (in3 (by omega) (by omega) (by omega)) ![k.val, g.val, b.val] (by intro a; fin_cases a <;> simp) _ ?_)
    · rw [hq]
      exact congrArg (Rect.overlay _ _) (congrArg (fun v => shapeCast S1x32x128 (shapeCast S32x128 (codeOf v (sV inv_d t.x1 t.x15 g)) (by decide)) (by decide)) hv)
    · intro i
      rw [blk3]
      show _ ∧ upTo _ _ _ _ ↔ (_ ∧ upTo _ _ _ _) ∨ (_ = k.val ∧ _ = g.val ∧ _ = b.val)
      unfold upTo; omega

/-! ## A row group and a tile -/

/-- The buffers after the first `g` row groups. -/
def stG (inv_d : F .f32) (k : Fin 2) (t : St F) (g : Nat) : St F := stQ inv_d k t (upTo g 0) (upTo g 0) (fun a => a < g)

theorem stQ_congr {D12 D12' D10 D10' : Nat → Nat → Prop} {D14 : Nat → Prop}
    (h : ∀ a b, a < 8 → b < 28 → (D12 a b ↔ D12' a b)) (h' : ∀ a b, a < 8 → b < 28 → (D10 a b ↔ D10' a b)) :
    stQ inv_d k t D12 D10 D14 = stQ inv_d k t D12' D10' D14 := by
  have e12 : mix pos2 (f12 t.x1 t.x15) (fun p => D12 (p 0) (p 1)) t.x12 = mix pos2 (f12 t.x1 t.x15) (fun p => D12' (p 0) (p 1)) t.x12 :=
    mix_congr pos2 _ _ _ fun i => h _ _ (Nat.div_lt_of_lt_mul (i 0).isLt) (Nat.div_lt_of_lt_mul (i 1).isLt)
  have e10 : mix pos2 (f10 inv_d t.x1 t.x15) (fun p => D10 (p 0) (p 1)) t.x10 = mix pos2 (f10 inv_d t.x1 t.x15) (fun p => D10' (p 0) (p 1)) t.x10 :=
    mix_congr pos2 _ _ _ fun i => h' _ _ (Nat.div_lt_of_lt_mul (i 0).isLt) (Nat.div_lt_of_lt_mul (i 1).isLt)
  have e13 : mix pos3 (f13 inv_d t.x1 t.x15) (fun p => p 0 = k.val ∧ D10 (p 1) (p 2)) t.x13 =
      mix pos3 (f13 inv_d t.x1 t.x15) (fun p => p 0 = k.val ∧ D10' (p 1) (p 2)) t.x13 :=
    mix_congr pos3 _ _ _ fun i => and_congr_right fun _ => h' _ _ (Nat.div_lt_of_lt_mul (i 1).isLt) (Nat.div_lt_of_lt_mul (i 2).isLt)
  unfold stQ
  rw [e12, e10, e13]

theorem ok_group {R : α → sProp 𝕄} {g : Fin 8} {K : Pr nD τ sig F Λ α}
    (h : Ok c A defs 𝒱 E R (stG inv_d k t (g.val + 1)) K) :
    Ok c A defs 𝒱 E R (stG inv_d k t g.val) (rowGroup A inv_d k g K) := by
  refine ok_strip ?_
  refine ok_strip ?_
  refine ok_strip ?_
  refine ok_strip ?_
  refine ok_u (b := 0) (D10 := upTo g.val 0) (D14 := fun a => a < g.val) ?_
  refine ok_loop (fun n => stQ inv_d k t (upTo g.val n) (upTo g.val 0) (fun a => a < g.val)) (fun n => uMax t.x1 t.x15 g (n - 1)) 1 ?_
    27 1 (by decide) (by decide) ?_
  · intro c' hc K' hK
    refine ok_u ?_
    obtain ⟨m, hm⟩ : ∃ m, c'.val = m + 1 := ⟨c'.val - 1, by omega⟩
    have e : uMax t.x1 t.x15 g (c'.val + 1 - 1) = maximumf (uMax t.x1 t.x15 g (c'.val - 1)) (absf (uV t.x1 t.x15 g c')) := by
      obtain ⟨v, hv⟩ := c'
      subst hm
      exact dif_pos hv
    beta_reduce at hK ⊢
    rw [e] at hK
    exact hK
  refine ok_scale ?_
  refine ok_loop (fun n => stQ inv_d k t (upTo g.val 28) (upTo g.val n) (fun a => a < g.val + 1)) (fun _ => ()) 0 ?_
    28 0 (by decide) (by decide) ?_
  · intro c' _ K' hK
    exact ok_code (.inr ⟨rfl, c'.isLt⟩) hK
  · refine ok_eq (t' := stG inv_d k t (g.val + 1)) ?_ h
    exact stQ_congr (fun a b _ hb => by unfold upTo; omega) (fun a b _ hb => by unfold upTo; omega)

end Quant

end Cert.Spec
-- ==== Proof.Body.lean ====
module

public import proofs.«01_k».proof.Proof.Steps

/-! What the body leaves in the buffers. -/

@[expose] public section

noncomputable section

namespace Cert.Spec

open Idealize.ShloMosaic Idealize.ShloMosaic.TcCoe Idealize.SL.Sem
open Idealize.SL Idealize.SL.RA Idealize.SL.BI

variable {nD : Nat} {τ : Topo} {sig : RefSig} {F : FTy → Type} [FloatOps F] [Named F] {Λ : Labels}
variable {Ix : Type} [DecidableEq Ix] {Name : Type} [DecidableEq Name] {U : Type} [URA U] {Lvl : Type} [Preorder Lvl]

local notation "𝕄" => MT nD τ sig Ix (Elt F) Name U Lvl

variable {c : Dev nD} {A : Args sig} {α : Type} {defs : Defs nD τ sig (Elt F) Λ} {𝒱 : Variants} {E : Set Name}

/-- The buffers once slot `k` holds the codes and scales of the rows in `x1`; `x11` apart. -/
def quantB (inv_d : F .f32) (k : Fin 2) (t : St F) : St F :=
  { t with
    x12 := tiled pos2 (f12 t.x1 t.x15)
    x10 := codesOf inv_d t.x1 t.x15
    x13 := mix pos3 (f13 inv_d t.x1 t.x15) (fun p => p 0 = k.val) t.x13
    x14 := mix pos3 (f14 inv_d t.x1 t.x15) (fun p => p 0 = k.val) t.x14 }

/-- The buffers once the rows in `x1` are quantized into slot `k`. -/
def quantSt (inv_d : F .f32) (k : Fin 2) (t : St F) : St F :=
  { quantB inv_d k t with x11 := scalesOf inv_d t.x1 t.x15 }

section Quant
variable {inv_d : F .f32} {k : Fin 2} {t : St F}

theorem stG_zero : stG inv_d k t 0 = t := by
  have e12 := mix_none pos2 (f12 t.x1 t.x15) (fun p => upTo 0 0 (p 0) (p 1)) t.x12 (fun i h => by unfold upTo at h; omega)
  have e10 := mix_none pos2 (f10 inv_d t.x1 t.x15) (fun p => upTo 0 0 (p 0) (p 1)) t.x10 (fun i h => by unfold upTo at h; omega)
  have e13 := mix_none pos3 (f13 inv_d t.x1 t.x15) (fun p => p 0 = k.val ∧ upTo 0 0 (p 1) (p 2)) t.x13 (fun i h => by unfold upTo at h; omega)
  have e14 := mix_none pos3 (f14 inv_d t.x1 t.x15) (fun p => p 0 = k.val ∧ p 1 < 0) t.x14 (fun i h => absurd h.2 (Nat.not_lt_zero _))
  unfold stG stQ
  beta_reduce
  rw [e12, e10, e13, e14]

theorem stG_eight : stG inv_d k t 8 = quantB inv_d k t := by
  have e12 := mix_full pos2 (f12 t.x1 t.x15) (fun p => upTo 8 0 (p 0) (p 1)) t.x12
    (fun i => .inl (Nat.div_lt_of_lt_mul (i 0).isLt))
  have e10 := mix_full pos2 (f10 inv_d t.x1 t.x15) (fun p => upTo 8 0 (p 0) (p 1)) t.x10
    (fun i => .inl (Nat.div_lt_of_lt_mul (i 0).isLt))
  have e13 := mix_congr pos3 (f13 inv_d t.x1 t.x15) (fun p => p 0 = k.val ∧ upTo 8 0 (p 1) (p 2)) t.x13 (D' := fun p => p 0 = k.val)
    (fun i => and_iff_left (.inl (Nat.div_lt_of_lt_mul (i 1).isLt)))
  have e14 := mix_congr pos3 (f14 inv_d t.x1 t.x15) (fun p => p 0 = k.val ∧ p 1 < 8) t.x14 (D' := fun p => p 0 = k.val)
    (fun i => and_iff_left (Nat.div_lt_of_lt_mul (i 1).isLt))
  unfold stG stQ
  beta_reduce
  rw [e12, e10, e13, e14]
  rfl

theorem blk14_eq (r : Fin 2) (h : ∀ a, (![k.val, 128 * r.val, 0] : Fin 3 → Nat) a + (![1, 128, 128] : Fin 3 → Nat) a ≤ S2x256x128.size a) (X) :
    blk (s := S2x256x128) (mix pos3 (f14 inv_d t.x1 t.x15) (fun p => p 0 = k.val) X) ![k.val, 128 * r.val, 0] ![1, 128, 128] h =
      blk (s := S2x256x128) (tiled pos3 (f14 inv_d t.x1 t.x15)) ![0, 128 * r.val, 0] ![1, 128, 128] (in3 (by omega) (by omega) (by omega)) := by
  funext j
  have hk : blkOf (s := S2x256x128) ![1, 32, 128] ((Rect.unit (s := S2x256x128) ![k.val, 128 * r.val, 0] ![1, 128, 128] h).emb j) 0 = k.val := by
    have h0 : (j 0).val < 1 := (j 0).isLt
    show (k.val + 1 * (j 0).val) / 1 = k.val
    omega
  refine (if_pos hk).trans ?_
  unfold tiled f14
  beta_reduce
  refine congrArg (scB inv_d t.x1 t.x15 _) ?_
  funext a
  fin_cases a <;> rfl

/-- The buffers once `n` halves of the scales are laid along the lanes. -/
def stS (inv_d : F .f32) (k : Fin 2) (t : St F) (n : Nat) : St F :=
  { quantB inv_d k t with x11 := mix pos11 (f11 inv_d t.x1 t.x15) (fun p => p 2 < n) t.x11 }

theorem stS_zero : stS inv_d k t 0 = quantB inv_d k t := by
  have e := mix_none pos11 (f11 inv_d t.x1 t.x15) (fun p => p 2 < 0) t.x11 (fun i h => Nat.not_lt_zero _ h)
  unfold stS
  rw [e]
  rfl

theorem stS_two : stS inv_d k t 2 = quantSt inv_d k t := by
  have e := mix_full pos11 (f11 inv_d t.x1 t.x15) (fun p => p 2 < 2) t.x11 (fun i => Nat.div_lt_of_lt_mul (i 2).isLt)
  unfold stS
  rw [e]
  rfl

theorem ok_scaleOut {R : α → sProp 𝕄} {r : Fin 2} {K : Pr nD τ sig F Λ α}
    (h : Ok c A defs 𝒱 E R (stS inv_d k t (r.val + 1)) K) :
    Ok c A defs 𝒱 E R (stS inv_d k t r.val) (scaleOut A k r K) := by
  refine ok_ld (has14 c A) ?_
  refine ok_ld (has11 c A) ?_
  refine ok_st (has11 c A) ?_
  refine ok_eq (t' := stS inv_d k t (r.val + 1)) ?_ h
  refine congrArg (fun y => ({ stS inv_d k t r.val with x11 := y } : St F)) ?_
  have hq : f11 inv_d t.x1 t.x15 ![0, 0, r.val] = lanesOf (blk (s := S2x256x128) (mix pos3 (f14 inv_d t.x1 t.x15) (fun p => p 0 = k.val) t.x14)
      ![k.val, 128 * r.val, 0] ![1, 128, 128] (in3 (by omega) (by omega) (by omega))) := by
    rw [blk14_eq]
    exact congrArg (fun r' : Fin 2 => lanesOf (blk (s := S2x256x128) (tiled pos3 (f14 inv_d t.x1 t.x15)) ![0, 128 * r'.val, 0] ![1, 128, 128]
      (in3 (by omega) (by omega) (by omega)))) (by simp : Fin.ofNat 2 r.val = r)
  refine Eq.trans ?_ (mix_step (size := ![1, 1, 128]) (off := ![0, 0, 128 * r.val]) pos11 (f11 inv_d t.x1 t.x15)
    (fun p => p 2 < r.val) t.x11 (in3 (by omega) (by omega) (by omega)) ![0, 0, r.val] (by intro a; fin_cases a <;> simp) _ ?_)
  · rw [hq]; rfl
  · intro i
    rw [blk3]
    have h0 : blkOf (s := S1x1x256) ![1, 1, 128] i 0 = 0 := Nat.div_eq_of_lt (i 0).isLt
    have h1 : blkOf (s := S1x1x256) ![1, 1, 128] i 1 = 0 := Nat.div_eq_of_lt (i 1).isLt
    show _ < _ ↔ _ < _ ∨ (_ = 0 ∧ _ = 0 ∧ _ = r.val)
    rw [h0, h1]; omega

theorem ok_quant {R : α → sProp 𝕄} {K : Pr nD τ sig F Λ α} (h : Ok c A defs 𝒱 E R (quantSt inv_d k t) K) :
    Ok c A defs 𝒱 E R t (quant A inv_d k K) := by
  refine ok_eq (t' := stG inv_d k t 0) stG_zero.symm ?_
  refine ok_group (g := 0) ?_
  refine ok_group (g := 1) ?_
  refine ok_group (g := 2) ?_
  refine ok_group (g := 3) ?_
  refine ok_group (g := 4) ?_
  refine ok_group (g := 5) ?_
  refine ok_group (g := 6) ?_
  refine ok_group (g := 7) ?_
  refine ok_eq (t' := stS inv_d k t 0) (stG_eight.trans stS_zero.symm) ?_
  refine ok_scaleOut (r := 0) ?_
  refine ok_scaleOut (r := 1) ?_
  exact ok_eq stS_two h

end Quant

/-! ## The heads -/

/-- The codes in slot `k`. -/
def actOf (k : Fin 2) (X : S2x256x3584.Idx → Elt F .fp8e4m3) : FVec F S256x3584 .fp8e4m3 :=
  shapeCast S256x3584 (blk X ![k.val, 0, 0] ![1, 256, 3584] (in3 (by omega) (by omega) (by omega))) (by decide)
/-- The scales in slot `k`. -/
def hsOf (k : Fin 2) (X : S2x256x128.Idx → Elt F .f32) : FVec F S256x128 .f32 :=
  shapeCast S256x128 (blk X ![k.val, 0, 0] ![1, 256, 128] (in3 (by omega) (by omega) (by omega))) (by decide)

/-- The buffers once the heads of the tile in slot `k` are written. -/
def projSt (k : Fin 2) (t : St F) : St F :=
  { t with
    x7 := qOf (actOf k t.x13) (hsOf k t.x14) t.x3 t.x16 t.x17
    x8 := kOf (actOf k t.x13) (hsOf k t.x14) t.x3 t.x16 t.x18
    x9 := vOf (actOf k t.x13) (hsOf k t.x14) t.x3 t.x16 }

section Project
variable {t : St F} {act : FVec F S256x3584 .fp8e4m3} {hs : FVec F S256x128 .f32}

/-- The buffers once `n` query heads are written. -/
def stH (act : FVec F S256x3584 .fp8e4m3) (hs : FVec F S256x128 .f32) (t : St F) (n : Nat) : St F :=
  { t with x7 := mix pos7 (f7 act hs t.x3 t.x16 t.x17) (fun p => p 1 < n) t.x7 }

theorem stH_zero : stH act hs t 0 = t := by
  have e := mix_none pos7 (f7 act hs t.x3 t.x16 t.x17) (fun p => p 1 < 0) t.x7 (fun i h => Nat.not_lt_zero _ h)
  unfold stH
  rw [e]

theorem stH_seven : stH act hs t 7 = { t with x7 := qOf act hs t.x3 t.x16 t.x17 } := by
  have e := mix_full pos7 (f7 act hs t.x3 t.x16 t.x17) (fun p => p 1 < 7) t.x7 (fun i => Nat.div_lt_of_lt_mul (by
    have h : (i 1).val < 7 := (i 1).isLt
    show (i 1).val < 1 * 7; omega))
  unfold stH
  rw [e]
  rfl

theorem blk4 {j l n m : Nat} (i : (⟨4, ![j, l, n, m]⟩ : Shape).Idx) (size q : Fin 4 → Nat) :
    blkOf size i = q ↔ blkOf size i 0 = q 0 ∧ blkOf size i 1 = q 1 ∧ blkOf size i 2 = q 2 ∧ blkOf size i 3 = q 3 := by
  constructor
  · rintro rfl; exact ⟨rfl, rfl, rfl, rfl⟩
  · rintro ⟨h, h', h'', h'''⟩; funext a; fin_cases a; exacts [h, h', h'', h''']

theorem ok_headQ {R : α → sProp 𝕄} {h : Fin 7} {acc : FVec F S256x128 .f32} {K : Pr nD τ sig F Λ α}
    (hacc : acc = accV act t.x3 h.castSucc) (hK : Ok c A defs 𝒱 E R (stH act hs t (h.val + 1)) K) :
    Ok c A defs 𝒱 E R (stH act hs t h.val) (headQ A h acc hs K) := by
  refine ok_ld (has16 c A) ?_
  refine ok_ld (has17 c A) ?_
  refine ok_ld (has7 c A) ?_
  refine ok_st (has7 c A) ?_
  refine ok_eq (t' := stH act hs t (h.val + 1)) ?_ hK
  refine congrArg (fun y => ({ stH act hs t h.val with x7 := y } : St F)) ?_
  have hq : f7 act hs t.x3 t.x16 t.x17 ![0, h.val, 0, 0] = shapeCast S1x1x256x128 (headV7 act hs t.x3 t.x16 h.castSucc t.x17) (by decide) := by
    unfold f7
    simp
  refine Eq.trans ?_ (mix_step (size := ![1, 1, 256, 128]) (off := ![0, h.val, 0, 0]) pos7 (f7 act hs t.x3 t.x16 t.x17)
    (fun p => p 1 < h.val) t.x7 (in4 (by omega) (by omega) (by omega) (by omega)) ![0, h.val, 0, 0] (by intro a; fin_cases a <;> simp) _ ?_)
  · rw [hq, hacc]
    refine congrArg (Rect.overlay _ _) (congrArg (fun gain => shapeCast S1x1x256x128 (headV7 act hs t.x3 t.x16 h.castSucc gain) (by decide)) ?_)
    funext i
    exact congrArg t.x17 (emb_whole (s := S1x128) (off := ![0, 0]) _ i)
  · intro i
    rw [blk4]
    have h0 : blkOf (s := S1x7x256x128) ![1, 1, 256, 128] i 0 = 0 := Nat.div_eq_of_lt (i 0).isLt
    have h2 : blkOf (s := S1x7x256x128) ![1, 1, 256, 128] i 2 = 0 := Nat.div_eq_of_lt (i 2).isLt
    have h3 : blkOf (s := S1x7x256x128) ![1, 1, 256, 128] i 3 = 0 := Nat.div_eq_of_lt (i 3).isLt
    show _ < _ ↔ _ < _ ∨ (_ = 0 ∧ _ = h.val ∧ _ = 0 ∧ _ = 0)
    rw [h0, h2, h3]; omega

theorem ok_headK {R : α → sProp 𝕄} {acc : FVec F S256x128 .f32} {K : Pr nD τ sig F Λ α}
    (hacc : acc = accV act t.x3 7) (hK : Ok c A defs 𝒱 E R { t with x8 := kOf act hs t.x3 t.x16 t.x18 } K) :
    Ok c A defs 𝒱 E R t (headK A acc hs K) := by
  refine ok_ld (has16 c A) ?_
  refine ok_ld (has18 c A) ?_
  refine ok_ld (has8 c A) ?_
  refine ok_st (has8 c A) ?_
  refine ok_eq (t' := { t with x8 := kOf act hs t.x3 t.x16 t.x18 }) ?_ hK
  refine congrArg (fun y => ({ t with x8 := y } : St F)) ?_
  refine (overlay_whole (s := S256x128) (off := ![0, 0]) _ _ _).trans ?_
  subst hacc
  refine congrArg (fun gain => headV7 act hs t.x3 t.x16 7 gain) ?_
  funext i
  exact congrArg t.x18 (emb_whole (s := S1x128) (off := ![0, 0]) _ i)

theorem ok_headV {R : α → sProp 𝕄} {K : Pr nD τ sig F Λ α}
    (hK : Ok c A defs 𝒱 E R { t with x9 := vOf act hs t.x3 t.x16 } K) :
    Ok c A defs 𝒱 E R t (headV A act hs K) := by
  refine ok_ld (has3 c A) ?_
  refine ok_ld (has16 c A) ?_
  refine ok_ld (has9 c A) ?_
  refine ok_st (has9 c A) ?_
  refine ok_eq (t' := { t with x9 := vOf act hs t.x3 t.x16 }) ?_ hK
  refine congrArg (fun y => ({ t with x9 := y } : St F)) ?_
  exact overlay_whole (s := S256x128) (off := ![0, 0]) _ _ _

theorem ok_pair {R : α → sProp 𝕄} {p : Fin 4} {K : FVec F S256x256 .f32 → Pr nD τ sig F Λ α}
    (hK : Ok c A defs 𝒱 E R t (K (pairV act t.x3 p))) : Ok c A defs 𝒱 E R t (pairOf A act p K) :=
  ok_ld (has3 c A) hK

theorem ok_project {R : α → sProp 𝕄} {k : Fin 2} {K : Pr nD τ sig F Λ α} (h : Ok c A defs 𝒱 E R (projSt k t) K) :
    Ok c A defs 𝒱 E R t (project A k K) := by
  refine ok_ld (has13 c A) ?_
  refine ok_ld (has14 c A) ?_
  refine ok_eq (t' := stH (actOf k t.x13) (hsOf k t.x14) t 0) stH_zero.symm ?_
  refine ok_pair (act := actOf k t.x13) (p := 0) ?_
  refine ok_headQ (h := 0) rfl ?_
  refine ok_headQ (h := 1) rfl ?_
  refine ok_pair (act := actOf k t.x13) (p := 1) ?_
  refine ok_headQ (h := 2) rfl ?_
  refine ok_headQ (h := 3) rfl ?_
  refine ok_pair (act := actOf k t.x13) (p := 2) ?_
  refine ok_headQ (h := 4) rfl ?_
  refine ok_headQ (h := 5) rfl ?_
  refine ok_pair (act := actOf k t.x13) (p := 3) ?_
  refine ok_headQ (h := 6) rfl ?_
  refine ok_eq stH_seven ?_
  refine ok_headK (act := actOf k t.x13) (hs := hsOf k t.x14) rfl ?_
  exact ok_headV (act := actOf k t.x13) (hs := hsOf k t.x14) h

end Project

/-! ## The parameters -/

/-- The buffers once the parameters are widened. -/
def paramsSt (t : St F) : St F :=
  { t with x15 := gwOf t.x2, x16 := wsOf t.x4, x17 := gainOf t.x5, x18 := gainOf t.x6 }

theorem ok_params {t : St F} {R : α → sProp 𝕄} {K : Pr nD τ sig F Λ α} (h : Ok c A defs 𝒱 E R (paramsSt t) K) :
    Ok c A defs 𝒱 E R t (params A K) := by
  have e2 : blk (s := S3584) t.x2 ![0] ![3584] (in1 (by omega)) = t.x2 := funext fun i => congrArg t.x2 (emb_whole (s := S3584) (off := ![0]) _ i)
  have e4 : blk (s := S1152) t.x4 ![0] ![1152] (in1 (by omega)) = t.x4 := funext fun i => congrArg t.x4 (emb_whole (s := S1152) (off := ![0]) _ i)
  have e5 : blk (s := S128) t.x5 ![0] ![128] (in1 (by omega)) = t.x5 := funext fun i => congrArg t.x5 (emb_whole (s := S128) (off := ![0]) _ i)
  have e6 : blk (s := S128) t.x6 ![0] ![128] (in1 (by omega)) = t.x6 := funext fun i => congrArg t.x6 (emb_whole (s := S128) (off := ![0]) _ i)
  refine ok_ld (has2 c A) ?_
  refine ok_ld (has15 c A) ?_
  refine ok_st (has15 c A) ?_
  refine ok_eq (t' := { t with x15 := gwOf t.x2 }) (congrArg (fun y => ({ t with x15 := y } : St F))
    ((overlay_whole (s := S1x3584) (off := ![0, 0]) _ _ _).trans (congrArg gwOf e2))) ?_
  refine ok_ld (has4 c A) ?_
  refine ok_ld (has16 c A) ?_
  refine ok_st (has16 c A) ?_
  refine ok_eq (t' := { t with x15 := gwOf t.x2, x16 := wsOf t.x4 }) (congrArg (fun y => ({ t with x15 := gwOf t.x2, x16 := y } : St F))
    ((overlay_whole (s := S1x1152) (off := ![0, 0]) _ _ _).trans (congrArg wsOf e4))) ?_
  refine ok_ld (has5 c A) ?_
  refine ok_ld (has17 c A) ?_
  refine ok_st (has17 c A) ?_
  refine ok_eq (t' := { t with x15 := gwOf t.x2, x16 := wsOf t.x4, x17 := gainOf t.x5 })
    (congrArg (fun y => ({ t with x15 := gwOf t.x2, x16 := wsOf t.x4, x17 := y } : St F))
    ((overlay_whole (s := S1x128) (off := ![0, 0]) _ _ _).trans (congrArg gainOf e5))) ?_
  refine ok_ld (has6 c A) ?_
  refine ok_ld (has18 c A) ?_
  refine ok_st (has18 c A) ?_
  refine ok_eq (t' := paramsSt t)
    (congrArg (fun y => ({ t with x15 := gwOf t.x2, x16 := wsOf t.x4, x17 := gainOf t.x5, x18 := y } : St F))
    ((overlay_whole (s := S1x128) (off := ![0, 0]) _ _ _).trans (congrArg gainOf e6))) ?_
  exact h

/-! ## The body -/

/-- The buffers after the body, by which of its branches it takes. -/
def bodySt (inv_d : F .f32) (c₁ c₂ c₃ c₄ : BitVec 1) (t : St F) : St F :=
  if c₁ = 1#1 then quantSt inv_d 0 (paramsSt t)
  else if c₂ = 1#1 then quantSt inv_d 0 (projSt 1 t)
  else if c₃ = 1#1 then quantSt inv_d 1 (projSt 0 t)
  else if c₄ = 1#1 then projSt 1 t
  else t

/-- At most one of the body's branches is taken. -/
def One (c₁ c₂ c₃ c₄ : BitVec 1) : Prop :=
  (c₁ = 1#1 → c₂ ≠ 1#1 ∧ c₃ ≠ 1#1 ∧ c₄ ≠ 1#1) ∧ (c₂ = 1#1 → c₃ ≠ 1#1 ∧ c₄ ≠ 1#1) ∧ (c₃ = 1#1 → c₄ ≠ 1#1)

theorem ok_body {inv_d : F .f32} {c₁ c₂ c₃ c₄ : BitVec 1} (hone : One c₁ c₂ c₃ c₄) (t : St F) :
    Ok c A defs 𝒱 E (fun _ : PUnit => (own c A (bodySt inv_d c₁ c₂ c₃ c₄ t) : sProp 𝕄)) t
      (body (Λ := Λ) A inv_d c₁ c₂ c₃ c₄) := by
  have hpure : ∀ s : St F, Ok c A defs 𝒱 E (fun _ : PUnit => (own c A s : sProp 𝕄)) s (pure ⟨⟩ : Pr nD τ sig F Λ PUnit) :=
    fun s => by
      unfold Ok
      rw [wp_pure]
      exact fupd_intro
  obtain ⟨h1, h2, h3⟩ := hone
  unfold body cond bodySt
  by_cases e1 : c₁ = 1#1
  · obtain ⟨n2, n3, n4⟩ := h1 e1
    rw [dif_pos e1, if_pos e1, dif_neg n2, dif_neg n3, dif_neg n4]
    exact ok_params (ok_quant (hpure _))
  rw [dif_neg e1, if_neg e1]
  by_cases e2 : c₂ = 1#1
  · obtain ⟨n3, n4⟩ := h2 e2
    rw [dif_pos e2, if_pos e2, dif_neg n3, dif_neg n4]
    exact ok_project (ok_quant (hpure _))
  rw [dif_neg e2, if_neg e2]
  by_cases e3 : c₃ = 1#1
  · have n4 := h3 e3
    rw [dif_pos e3, if_pos e3, dif_neg n4]
    exact ok_project (ok_quant (hpure _))
  rw [dif_neg e3, if_neg e3]
  by_cases e4 : c₄ = 1#1
  · rw [dif_pos e4, if_pos e4]
    exact ok_project (hpure _)
  rw [dif_neg e4, if_neg e4]
  exact hpure _

end Cert.Spec
-- ==== Proof.Slot.lean ====
module

public import proofs.«01_k».proof.Proof.Body

/-! What a slot holds once a tile is quantized into it, and what one run of the body makes of a slot known. -/

@[expose] public section

noncomputable section

namespace Cert.Spec

open Idealize.ShloMosaic

variable {F : FTy → Type} [FloatOps F] [Named F]

section
variable {e : EltTy} (k : Fin 2)

/-- A place in a block. -/
def ix2 (a : Fin 32) (b : Fin 128) : S32x128.Idx := fun | 0 => a | 1 => b
/-- The same place in a block with a leading unit axis. -/
def ix3 (a : Fin 32) (b : Fin 128) : S1x32x128.Idx := fun | 0 => (0 : Fin 1) | 1 => a | 2 => b

/-- Reading slot `k` of the codes, its blocks just written. -/
theorem slot_codes (f : (Fin 3 → Nat) → S1x32x128.Idx → Elt F e) (X : S2x256x3584.Idx → Elt F e) (i : S256x3584.Idx) :
    shapeCast S256x3584 (blk (mix pos3 f (fun p => p 0 = k.val) X) ![k.val, 0, 0] ![1, 256, 3584]
        (in3 (by omega) (by omega) (by omega))) (by decide) i
      = f ![k.val, (i 0).val / 32, (i 1).val / 128] (ix3 ⟨(i 0).val % 32, Nat.mod_lt _ (by decide)⟩ ⟨(i 1).val % 128, Nat.mod_lt _ (by decide)⟩) := by
  have hi0 : (i 0).val < 256 := (i 0).isLt
  have hi1 : (i 1).val < 3584 := (i 1).isLt
  let j : S1x256x3584.Idx := fun | 0 => (0 : Fin 1) | 1 => i 0 | 2 => i 1
  have hj : Shape.reshapeEquiv (s := S1x256x3584) (by decide : S256x3584.numel = S1x256x3584.numel) i = j := by
    apply Shape.reshapeEquiv_eq_of_rowMajor
    rw [Shape.rowMajor_val_three, Shape.rowMajor_val_two]
    show ((0 : Nat) * 256 + (i 0).val) * 3584 + (i 1).val = (i 0).val * 3584 + (i 1).val
    omega
  unfold shapeCast
  rw [hj]
  have hk : blkOf (s := S2x256x3584) ![1, 32, 128]
      ((Rect.unit (s := S2x256x3584) ![k.val, 0, 0] ![1, 256, 3584] (in3 (by omega) (by omega) (by omega))).emb j)
        = ![k.val, (i 0).val / 32, (i 1).val / 128] := by
    funext a
    fin_cases a
    · show (k.val + 1 * 0) / 1 = k.val; omega
    · show (0 + 1 * (i 0).val) / 32 = (i 0).val / 32; simp
    · show (0 + 1 * (i 1).val) / 128 = (i 1).val / 128; simp
  unfold blk mix
  rw [hk]
  refine (if_pos rfl).trans ?_
  congr 1
  funext a
  fin_cases a
  · exact Subsingleton.elim (α := Fin 1) _ _
  · apply Fin.ext; show (0 + 1 * (i 0).val) % 32 = (i 0).val % 32; simp
  · apply Fin.ext; show (0 + 1 * (i 1).val) % 128 = (i 1).val % 128; simp

/-- Reading slot `k` of the scales, its blocks just written. -/
theorem slot_scales (f : (Fin 3 → Nat) → S1x32x128.Idx → Elt F e) (X : S2x256x128.Idx → Elt F e) (i : S256x128.Idx) :
    shapeCast S256x128 (blk (mix pos3 f (fun p => p 0 = k.val) X) ![k.val, 0, 0] ![1, 256, 128]
        (in3 (by omega) (by omega) (by omega))) (by decide) i
      = f ![k.val, (i 0).val / 32, (i 1).val / 128] (ix3 ⟨(i 0).val % 32, Nat.mod_lt _ (by decide)⟩ ⟨(i 1).val % 128, Nat.mod_lt _ (by decide)⟩) := by
  have hi0 : (i 0).val < 256 := (i 0).isLt
  have hi1 : (i 1).val < 128 := (i 1).isLt
  let j : S1x256x128.Idx := fun | 0 => (0 : Fin 1) | 1 => i 0 | 2 => i 1
  have hj : Shape.reshapeEquiv (s := S1x256x128) (by decide : S256x128.numel = S1x256x128.numel) i = j := by
    apply Shape.reshapeEquiv_eq_of_rowMajor
    rw [Shape.rowMajor_val_three, Shape.rowMajor_val_two]
    show ((0 : Nat) * 256 + (i 0).val) * 128 + (i 1).val = (i 0).val * 128 + (i 1).val
    omega
  unfold shapeCast
  rw [hj]
  have hk : blkOf (s := S2x256x128) ![1, 32, 128]
      ((Rect.unit (s := S2x256x128) ![k.val, 0, 0] ![1, 256, 128] (in3 (by omega) (by omega) (by omega))).emb j)
        = ![k.val, (i 0).val / 32, (i 1).val / 128] := by
    funext a
    fin_cases a
    · show (k.val + 1 * 0) / 1 = k.val; omega
    · show (0 + 1 * (i 0).val) / 32 = (i 0).val / 32; simp
    · show (0 + 1 * (i 1).val) / 128 = (i 1).val / 128; simp
  unfold blk mix
  rw [hk]
  refine (if_pos rfl).trans ?_
  congr 1
  funext a
  fin_cases a
  · exact Subsingleton.elim (α := Fin 1) _ _
  · apply Fin.ext; show (0 + 1 * (i 0).val) % 32 = (i 0).val % 32; simp
  · apply Fin.ext; show (0 + 1 * (i 1).val) % 128 = (i 1).val % 128; simp

/-- A block's leading unit axis dropped and put back. -/
theorem lead_unit (v : S32x128.Idx → Elt F e) (a : Fin 32) (b : Fin 128) :
    shapeCast S1x32x128 (shapeCast S32x128 v (by decide)) (by decide) (ix3 a b) = v (ix2 a b) := by
  rw [shapeCast_self]
  unfold shapeCast
  congr 1
  apply Shape.reshapeEquiv_eq_of_rowMajor
  rw [Shape.rowMajor_val_three, Shape.rowMajor_val_two]
  show a.val * 128 + b.val = (0 * 32 + a.val) * 128 + b.val
  omega

end

section
variable (inv_d : F .f32) (x : S256x3584.Idx → Elt F .bf16) (gw : S1x3584.Idx → Elt F .f32)

/-- A tile's row scales, one in every lane. -/
def hsT : FVec F S256x128 .f32 := tiled (s := S256x128) pos2 (fun q => scB inv_d x gw (Fin.ofNat 8 (q 0)))

/-- Slot `k`, a tile quantized into it, holds its codes. -/
theorem actOf_mix (k : Fin 2) (X) :
    actOf k (mix pos3 (f13 inv_d x gw) (fun p => p 0 = k.val) X) = (codesOf inv_d x gw : S256x3584.Idx → Elt F .fp8e4m3) := by
  funext i
  refine (slot_codes k (f13 inv_d x gw) X i).trans ?_
  refine (lead_unit (e := .fp8e4m3) (codeV inv_d x gw (Fin.ofNat 8 ((i 0).val / 32)) (Fin.ofNat 28 ((i 1).val / 128))) _ _).trans ?_
  refine congrArg (codeV inv_d x gw (Fin.ofNat 8 ((i 0).val / 32)) (Fin.ofNat 28 ((i 1).val / 128))) ?_
  funext a
  fin_cases a <;> rfl

/-- Slot `k`, a tile quantized into it, holds its scales. -/
theorem hsOf_mix (k : Fin 2) (X) :
    hsOf k (mix pos3 (f14 inv_d x gw) (fun p => p 0 = k.val) X) = hsT inv_d x gw := by
  funext i
  refine (slot_scales k (f14 inv_d x gw) X i).trans ?_
  refine congrArg (scB inv_d x gw (Fin.ofNat 8 ((i 0).val / 32))) ?_
  funext a
  fin_cases a
  · rfl
  · rfl

end

/-- What the scratch is known to hold between two points: the parameters, and in slot `k` the codes and scales of `x`. -/
structure Known (inv_d : F .f32) (k : Fin 2) (x : S256x3584.Idx → Elt F .bf16) (gw : S1x3584.Idx → Elt F .f32) (ws : S1x1152.Idx → Elt F .f32)
    (qg kg : S1x128.Idx → Elt F .f32) (s : St F) : Prop where
  act : actOf k s.x13 = codesOf inv_d x gw
  hs : hsOf k s.x14 = hsT inv_d x gw
  gw : s.x15 = gw
  ws : s.x16 = ws
  qg : s.x17 = qg
  kg : s.x18 = kg

section
variable (inv_d : F .f32) (x : S256x3584.Idx → Elt F .bf16) (gw : S1x3584.Idx → Elt F .f32) (w : S3584x1152.Idx → Elt F .fp8e4m3)
  (ws : S1x1152.Idx → Elt F .f32) (g : S1x128.Idx → Elt F .f32)

/-- A tile's query heads. -/
def qT : S1x7x256x128.Idx → Elt F .bf16 := qOf (codesOf inv_d x gw) (hsT inv_d x gw) w ws g
/-- A tile's key head. -/
def kT : S256x128.Idx → Elt F .bf16 := kOf (codesOf inv_d x gw) (hsT inv_d x gw) w ws g
/-- A tile's value head. -/
def vT : S256x128.Idx → Elt F .bf16 := vOf (codesOf inv_d x gw) (hsT inv_d x gw) w ws

end

variable {inv_d : F .f32} {k : Fin 2} {x : S256x3584.Idx → Elt F .bf16} {gw : S1x3584.Idx → Elt F .f32} {ws : S1x1152.Idx → Elt F .f32}
    {qg kg : S1x128.Idx → Elt F .f32}

theorem known_quant (k' : Fin 2) {s : St F} (h5 : s.x15 = gw) (h6 : s.x16 = ws) (h7 : s.x17 = qg) (h8 : s.x18 = kg) :
    Known inv_d k' s.x1 gw ws qg kg (quantSt inv_d k' s) where
  act := by subst h5; exact actOf_mix inv_d s.x1 s.x15 k' s.x13
  hs := by subst h5; exact hsOf_mix inv_d s.x1 s.x15 k' s.x14
  gw := h5
  ws := h6
  qg := h7
  kg := h8

theorem known_proj {s : St F} (h : Known inv_d k x gw ws qg kg s) :
    projSt k s = { s with x7 := qT inv_d x gw s.x3 ws qg, x8 := kT inv_d x gw s.x3 ws kg, x9 := vT inv_d x gw s.x3 ws } := by
  obtain ⟨h1, h2, h3, h4, h5, h6⟩ := h
  unfold projSt qT kT vT
  rw [h1, h2, h4, h5, h6]

end Cert.Spec
-- ==== Proof.Run.Kernel.lean ====
module

public import proofs.«01_k».proof.Proof.Gen.Kernel.Frame
public import proofs.«01_k».proof.Proof.Same.Kernel
public import proofs.«01_k».proof.Proof.Slot

/-! The run of the kernel: what every staging buffer holds at every point, the invariant on the scratch, and the
    launch. -/

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The reciprocal the mean of the squares is taken with. -/
abbrev inv : F .f32 := Scalar.ofBits .f32 0x39924925#32

variable (m : (ℓ : Loc nD τ sig) → Buf (Elt F) ℓ) (ρ : Dev nD → PrngReg) (c : Dev nD)

/-- Point `n` of the grid, the last one from there on. -/
def pt (n : Nat) : Fin cfg0.N := ⟨min n 64, by rw [show cfg0.N = 65 from N_0]; omega⟩
theorem pt_val (t : Fin cfg0.N) : pt t.val = t := Fin.ext (by
  have := t.isLt; have h : cfg0.N = 65 := N_0; show min t.val 64 = t.val; omega)

/-- Tile `n` of the activations. -/
abbrev X (n : Nat) : Spec.S256x3584.Idx → Elt F .bf16 := iblk m c 0 (pt n)
abbrev W (t : Fin cfg0.N) : Spec.S3584x1152.Idx → Elt F .fp8e4m3 := iblk m c 2 t
abbrev gw : Spec.S1x3584.Idx → Elt F .f32 := Spec.gwOf (iblk m c 1 (pt 0))
abbrev ws : Spec.S1x1152.Idx → Elt F .f32 := Spec.wsOf (iblk m c 3 (pt 0))
abbrev qg : Spec.S1x128.Idx → Elt F .f32 := Spec.gainOf (iblk m c 4 (pt 0))
abbrev kg : Spec.S1x128.Idx → Elt F .f32 := Spec.gainOf (iblk m c 5 (pt 0))

/-- The slot tile `n` is quantized into. -/
def slot (n : Nat) : Fin 2 := ⟨n % 2, Nat.mod_lt _ (by decide)⟩

/-- What the body leaves in each window's buffer. -/
def after (w : Fin cfg0.W) (t : Fin cfg0.N) : (cfg0.win w).block.Idx → Elt F (cfg0.win w).elt :=
  match w with
  | 0 => iblk m c 0 t
  | 1 => iblk m c 1 t
  | 2 => iblk m c 2 t
  | 3 => iblk m c 3 t
  | 4 => iblk m c 4 t
  | 5 => iblk m c 5 t
  | 6 => Spec.qT inv (X m c (t.val - 1)) (gw m c) (W m c t) (ws m c) (qg m c)
  | 7 => Spec.kT inv (X m c (t.val - 1)) (gw m c) (W m c t) (ws m c) (kg m c)
  | 8 => Spec.vT inv (X m c (t.val - 1)) (gw m c) (W m c t) (ws m c)
  | 9 => Spec.codesOf inv (X m c (min t.val 63)) (gw m c)
  | 10 => Spec.scalesOf inv (X m c (min t.val 63)) (gw m c)
  | ⟨_ + 11, h⟩ => absurd h (Nat.not_lt.2 (Nat.le_add_left _ _))

/-- The scratch buffers. -/
def scr (s : Spec.St F) : sProp 𝕄 :=
  iprop(ownsTc c (Memref.whole cc0_scratch0) fullShare s.x12 ∗ ownsTc c (Memref.whole cc0_scratch1) fullShare s.x13
    ∗ ownsTc c (Memref.whole cc0_scratch2) fullShare s.x14 ∗ ownsTc c (Memref.whole cc0_scratch3) fullShare s.x15
    ∗ ownsTc c (Memref.whole cc0_scratch4) fullShare s.x16 ∗ ownsTc c (Memref.whole cc0_scratch5) fullShare s.x17
    ∗ ownsTc c (Memref.whole cc0_scratch6) fullShare s.x18)

/-- What is known of the scratch before point `n`: nothing at first and at last. -/
def Kn (n : Nat) (s : Spec.St F) : Prop :=
  1 ≤ n → n ≤ 64 → Spec.Known inv (slot (n - 1)) (X m c (n - 1)) (gw m c) (ws m c) (qg m c) (kg m c) s

/-- The invariant before point `n`. -/
def Ph (n : Nat) : sProp 𝕄 := iprop((∃ s, ⌜Kn m c n s⌝ ∗ scr c s) ∗ ∃ r, prngReg c r)

def dats : (p : Fin 1) → (c : Dev nD) → Dat τ (Elt F) Unit ℕ (UR sig nD τ) ℕ (cfgs p) c := fun _ c =>
  { A := fun w => V m c (Pipeline.arrRef spec0 w)
    after := after m c
    Φ := fun j => Ph m c j.val
    q := fun _ => fullShare
    owed := fun _ => 0 }

/-- The body's buffers at point `t`. -/
abbrev Args (t : Fin cfg0.N) : Spec.Args sig :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), win0_7.stage (cfg0.slots t 7),
    win0_8.stage (cfg0.slots t 8), win0_9.stage (cfg0.slots t 9), win0_10.stage (cfg0.slots t 10),
    Memref.whole cc0_scratch0, Memref.whole cc0_scratch1, Memref.whole cc0_scratch2, Memref.whole cc0_scratch3,
    Memref.whole cc0_scratch4, Memref.whole cc0_scratch5, Memref.whole cc0_scratch6,
    hstage0_0 ((cfg0.slots t 0).cast nbuf0_0), hstage0_1 ((cfg0.slots t 1).cast nbuf0_1), hstage0_2 ((cfg0.slots t 2).cast nbuf0_2),
    hstage0_3 ((cfg0.slots t 3).cast nbuf0_3), hstage0_4 ((cfg0.slots t 4).cast nbuf0_4), hstage0_5 ((cfg0.slots t 5).cast nbuf0_5),
    hstage0_6 ((cfg0.slots t 6).cast nbuf0_6), hstage0_7 ((cfg0.slots t 7).cast nbuf0_7), hstage0_8 ((cfg0.slots t 8).cast nbuf0_8),
    hstage0_9 ((cfg0.slots t 9).cast nbuf0_9), hstage0_10 ((cfg0.slots t 10).cast nbuf0_10),
    Memref.isWhole_whole _, Memref.isWhole_whole _, Memref.isWhole_whole _, Memref.isWhole_whole _, Memref.isWhole_whole _,
    Memref.isWhole_whole _, Memref.isWhole_whole _⟩

theorem body_at (t : Fin cfg0.N) : (defs₀ (F := F)) .tc cfg0.body (cfg0.bodyArgs t (cfg0.slots t))
    = Spec.body (Args t) inv (k0_cond1 (grid0.coords t)) (k0_cond2 (grid0.coords t)) (k0_cond3 (grid0.coords t)) (k0_cond4 (grid0.coords t)) :=
  body_eq (grid0.coords t) _ _ _ _ _ _ _ _ _ _ _ _ _ _ _ _ _ _ _ _ _ _ _ _ _ _ _ _ _ _ _ _ _ _ _ _

/-! ## The grid's facts -/

theorem cond1_iff : ∀ t : Fin grid0.N, k0_cond1 (grid0.coords t) = 1#1 ↔ t.val = 0 := by decide +kernel
theorem cond2_iff : ∀ t : Fin grid0.N, k0_cond2 (grid0.coords t) = 1#1 ↔ (0 < t.val ∧ t.val < 64 ∧ t.val % 2 = 0) := by decide +kernel
theorem cond3_iff : ∀ t : Fin grid0.N, k0_cond3 (grid0.coords t) = 1#1 ↔ (0 < t.val ∧ t.val < 64 ∧ t.val % 2 = 1) := by decide +kernel
theorem cond4_iff : ∀ t : Fin grid0.N, k0_cond4 (grid0.coords t) = 1#1 ↔ t.val = 64 := by decide +kernel

theorem flush_q : ∀ t : Fin grid0.N, (win0_6.flush t = true ↔ 0 < t.val) ∧ (win0_7.flush t = true ↔ 0 < t.val) ∧ (win0_8.flush t = true ↔ 0 < t.val) := by decide +kernel
theorem flush_c : ∀ t : Fin grid0.N, (win0_9.flush t = true ↔ t.val ≠ 63) ∧ (win0_10.flush t = true ↔ t.val ≠ 63) := by decide +kernel

/-! ## The body at a point -/

theorem one_at (t : Fin grid0.N) : Spec.One (k0_cond1 (grid0.coords t)) (k0_cond2 (grid0.coords t)) (k0_cond3 (grid0.coords t)) (k0_cond4 (grid0.coords t)) := by
  have h1 := cond1_iff t; have h2 := cond2_iff t; have h3 := cond3_iff t; have h4 := cond4_iff t
  refine ⟨fun h => ⟨fun h' => ?_, fun h' => ?_, fun h' => ?_⟩, fun h => ⟨fun h' => ?_, fun h' => ?_⟩, fun h h' => ?_⟩ <;>
    (simp only [h, h', true_iff] at h1 h2 h3 h4; omega)

/-- What a point makes of buffers that hold the point's blocks and a scratch known so far. -/
theorem point (t : Fin cfg0.N) (s : Spec.St F) (hk : Kn m c t.val s)
    (e1 : s.x1 = iblk m c 0 t) (e2 : s.x2 = iblk m c 1 t) (e3 : s.x3 = iblk m c 2 t) (e4 : s.x4 = iblk m c 3 t)
    (e5 : s.x5 = iblk m c 4 t) (e6 : s.x6 = iblk m c 5 t)
    (e10 : t.val = 64 → s.x10 = after m c 9 t) (e11 : t.val = 64 → s.x11 = after m c 10 t) :
    ∃ s' : Spec.St F, Spec.bodySt inv (k0_cond1 (grid0.coords t)) (k0_cond2 (grid0.coords t)) (k0_cond3 (grid0.coords t)) (k0_cond4 (grid0.coords t)) s = s'
      ∧ Kn m c (t.val + 1) s' ∧ s'.x1 = s.x1 ∧ s'.x2 = s.x2 ∧ s'.x3 = s.x3 ∧ s'.x4 = s.x4 ∧ s'.x5 = s.x5 ∧ s'.x6 = s.x6
      ∧ (if t.val = 0 then s'.x7 = s.x7 ∧ s'.x8 = s.x8 ∧ s'.x9 = s.x9
          else s'.x7 = after m c 6 t ∧ s'.x8 = after m c 7 t ∧ s'.x9 = after m c 8 t)
      ∧ s'.x10 = after m c 9 t ∧ s'.x11 = after m c 10 t := by
  have h1 := cond1_iff t; have h2 := cond2_iff t; have h3 := cond3_iff t; have h4 := cond4_iff t
  have hN : t.val < 65 := by have := t.isLt; have h : cfg0.N = 65 := N_0; omega
  refine ⟨_, rfl, ?_⟩
  unfold Spec.bodySt
  have hX : iblk m c 0 t = X m c t.val := by unfold X; rw [pt_val]
  by_cases z : t.val = 0
  · rw [if_pos (h1.2 z), if_pos z]
    obtain rfl : t = pt 0 := Fin.ext z
    refine ⟨fun _ _ => ?_, rfl, rfl, rfl, rfl, rfl, rfl, ⟨rfl, rfl, rfl⟩, ?_, ?_⟩
    · have := Spec.known_quant (inv_d := (inv : F .f32)) (s := Spec.paramsSt s) (gw := gw m c) (ws := ws m c) (qg := qg m c) (kg := kg m c) 0
        (congrArg Spec.gwOf e2) (congrArg Spec.wsOf e4) (congrArg Spec.gainOf e5) (congrArg Spec.gainOf e6)
      rw [show (Spec.paramsSt s).x1 = X m c 0 from e1] at this
      exact this
    · show Spec.codesOf inv s.x1 (Spec.gwOf s.x2) = _
      rw [e1, e2]; rfl
    · show Spec.scalesOf inv s.x1 (Spec.gwOf s.x2) = _
      rw [e1, e2]; rfl
  rw [if_neg (fun h => z (h1.1 h)), if_neg z]
  have hk := hk (by omega) (by omega)
  have hW : s.x3 = W m c t := e3
  by_cases l : t.val = 64
  · rw [if_neg (fun h => by have := h2.1 h; omega), if_neg (fun h => by have := h3.1 h; omega), if_pos (h4.2 l)]
    rw [show slot (t.val - 1) = 1 from Fin.ext (by show (t.val - 1) % 2 = 1; omega)] at hk
    rw [Spec.known_proj hk, hW]
    exact ⟨fun _ h => by omega, rfl, rfl, rfl, rfl, rfl, rfl, ⟨rfl, rfl, rfl⟩, e10 l, e11 l⟩
  have hm : min t.val 63 = t.val := by omega
  by_cases o : t.val % 2 = 0
  · rw [if_pos (h2.2 ⟨by omega, by omega, o⟩)]
    rw [show slot (t.val - 1) = 1 from Fin.ext (by show (t.val - 1) % 2 = 1; omega)] at hk
    rw [Spec.known_proj hk, hW]
    refine ⟨fun _ _ => ?_, rfl, rfl, rfl, rfl, rfl, rfl, ⟨rfl, rfl, rfl⟩, ?_, ?_⟩
    · rw [show t.val + 1 - 1 = t.val from rfl, show slot t.val = 0 from Fin.ext o, ← hX, ← e1]
      exact Spec.known_quant (inv_d := (inv : F .f32)) (s := { s with x3 := W m c t, x7 := _, x8 := _, x9 := _ }) 0 hk.gw hk.ws hk.qg hk.kg
    · show Spec.codesOf inv s.x1 s.x15 = Spec.codesOf inv (X m c (min t.val 63)) (gw m c)
      rw [e1, hk.gw, hX, hm]
    · show Spec.scalesOf inv s.x1 s.x15 = Spec.scalesOf inv (X m c (min t.val 63)) (gw m c)
      rw [e1, hk.gw, hX, hm]
  · rw [if_neg (fun h => by have := h2.1 h; omega), if_pos (h3.2 ⟨by omega, by omega, by omega⟩)]
    rw [show slot (t.val - 1) = 0 from Fin.ext (by show (t.val - 1) % 2 = 0; omega)] at hk
    rw [Spec.known_proj hk, hW]
    refine ⟨fun _ _ => ?_, rfl, rfl, rfl, rfl, rfl, rfl, ⟨rfl, rfl, rfl⟩, ?_, ?_⟩
    · rw [show t.val + 1 - 1 = t.val from rfl, show slot t.val = 1 from Fin.ext (by show t.val % 2 = 1; omega), ← hX, ← e1]
      exact Spec.known_quant (inv_d := (inv : F .f32)) (s := { s with x3 := W m c t, x7 := _, x8 := _, x9 := _ }) 1 hk.gw hk.ws hk.qg hk.kg
    · show Spec.codesOf inv s.x1 s.x15 = Spec.codesOf inv (X m c (min t.val 63)) (gw m c)
      rw [e1, hk.gw, hX, hm]
    · show Spec.scalesOf inv s.x1 s.x15 = Spec.scalesOf inv (X m c (min t.val 63)) (gw m c)
      rw [e1, hk.gw, hX, hm]

/-! ## The body obligation -/

theorem idle_q : ∀ t : Fin grid0.N, (idle0 6 (grid0.coords t) = true ↔ t.val = 0) ∧ (idle0 7 (grid0.coords t) = true ↔ t.val = 0)
    ∧ (idle0 8 (grid0.coords t) = true ↔ t.val = 0) := by decide +kernel
theorem idle_c : ∀ t : Fin grid0.N, (idle0 9 (grid0.coords t) = true ↔ t.val = 64) ∧ (idle0 10 (grid0.coords t) = true ↔ t.val = 64) := by
  decide +kernel

variable (p : Fin 1)

/-- At the last point the codes' buffer still holds the last tile's. -/
theorem before_9 (t : Fin cfg0.N) (l : t.val = 64) (d) : (dats m 0 c).before 9 t d = after m c 9 t := by
  obtain rfl : t = pt 64 := Fin.ext l
  unfold Dat.before
  have hf : (cfg0.win 9).fetch (pt 64) = false := rfl
  have hfl : (cfg0.win 9).flush (pt 63) = false := by
    have := (flush_c (pt 63)).1
    cases h : (cfg0.win 9).flush (pt 63)
    · rfl
    · exact absurd rfl (this.1 h)
  have hi : cfg0.idle 9 (cfg0.grid.coords (pt 63)) = false := by
    have := (idle_c (pt 63)).1
    cases h : cfg0.idle 9 (cfg0.grid.coords (pt 63))
    · rfl
    · exact absurd (this.1 h) (by decide)
  rw [if_neg (by rw [hf]; decide), if_neg (by decide)]
  show (if (cfg0.win 9).flush (pt 63) = true then d else match cfg0.idle 9 (cfg0.grid.coords (pt 63)) with
      | true => (dats m 0 c).found 9 (pt 63) d
      | false => (dats m 0 c).kept 9 (pt 63) d) = _
  rw [hfl, hi]
  rfl
theorem before_10 (t : Fin cfg0.N) (l : t.val = 64) (d) : (dats m 0 c).before 10 t d = after m c 10 t := by
  obtain rfl : t = pt 64 := Fin.ext l
  unfold Dat.before
  have hf : (cfg0.win 10).fetch (pt 64) = false := rfl
  have hfl : (cfg0.win 10).flush (pt 63) = false := by
    have := (flush_c (pt 63)).2
    cases h : (cfg0.win 10).flush (pt 63)
    · rfl
    · exact absurd rfl (this.1 h)
  have hi : cfg0.idle 10 (cfg0.grid.coords (pt 63)) = false := by
    have := (idle_c (pt 63)).2
    cases h : cfg0.idle 10 (cfg0.grid.coords (pt 63))
    · rfl
    · exact absurd (this.1 h) (by decide)
  rw [if_neg (by rw [hf]; decide), if_neg (by decide)]
  show (if (cfg0.win 10).flush (pt 63) = true then d else match cfg0.idle 10 (cfg0.grid.coords (pt 63)) with
      | true => (dats m 0 c).found 10 (pt 63) d
      | false => (dats m 0 c).kept 10 (pt 63) d) = _
  rw [hfl, hi]
  rfl

/-- The body at point `t`, from what the pipeline hands it to what it hands back. -/
theorem body_run (t : Fin cfg0.N) (d0 d1 d2 d3 d4 d5 d6 d7 d8 d9 d10) (s : Spec.St F) (hk : Kn m c t.val s) (𝒱₀ : Variants) :
    ∃ s' : Spec.St F, Kn m c (t.val + 1) s'
      ∧ (if t.val = 0 then s'.x7 = (dats m 0 c).before 6 t d6 ∧ s'.x8 = (dats m 0 c).before 7 t d7 ∧ s'.x9 = (dats m 0 c).before 8 t d8
          else s'.x7 = after m c 6 t ∧ s'.x8 = after m c 7 t ∧ s'.x9 = after m c 8 t)
      ∧ (iprop(scr c s ∗ owns c ((cfg0.win 0).stage (cfg0.slots t 0)) fullShare ((dats m 0 c).before 0 t d0)
          ∗ owns c ((cfg0.win 1).stage (cfg0.slots t 1)) fullShare ((dats m 0 c).before 1 t d1)
          ∗ owns c ((cfg0.win 2).stage (cfg0.slots t 2)) fullShare ((dats m 0 c).before 2 t d2)
          ∗ owns c ((cfg0.win 3).stage (cfg0.slots t 3)) fullShare ((dats m 0 c).before 3 t d3)
          ∗ owns c ((cfg0.win 4).stage (cfg0.slots t 4)) fullShare ((dats m 0 c).before 4 t d4)
          ∗ owns c ((cfg0.win 5).stage (cfg0.slots t 5)) fullShare ((dats m 0 c).before 5 t d5)
          ∗ owns c ((cfg0.win 6).stage (cfg0.slots t 6)) fullShare ((dats m 0 c).before 6 t d6)
          ∗ owns c ((cfg0.win 7).stage (cfg0.slots t 7)) fullShare ((dats m 0 c).before 7 t d7)
          ∗ owns c ((cfg0.win 8).stage (cfg0.slots t 8)) fullShare ((dats m 0 c).before 8 t d8)
          ∗ owns c ((cfg0.win 9).stage (cfg0.slots t 9)) fullShare ((dats m 0 c).before 9 t d9)
          ∗ owns c ((cfg0.win 10).stage (cfg0.slots t 10)) fullShare ((dats m 0 c).before 10 t d10) : sProp 𝕄)
        ⊢ wp frame (wpE (defs₀ (F := F)) 𝒱₀ (c : Thread nD τ) none) Set.univ ((defs₀ (F := F)) .tc cfg0.body (cfg0.bodyArgs t (cfg0.slots t))) fun _ =>
          iprop(scr c s' ∗ owns c ((cfg0.win 0).stage (cfg0.slots t 0)) fullShare (after m c 0 t)
          ∗ owns c ((cfg0.win 1).stage (cfg0.slots t 1)) fullShare (after m c 1 t)
          ∗ owns c ((cfg0.win 2).stage (cfg0.slots t 2)) fullShare (after m c 2 t)
          ∗ owns c ((cfg0.win 3).stage (cfg0.slots t 3)) fullShare (after m c 3 t)
          ∗ owns c ((cfg0.win 4).stage (cfg0.slots t 4)) fullShare (after m c 4 t)
          ∗ owns c ((cfg0.win 5).stage (cfg0.slots t 5)) fullShare (after m c 5 t)
          ∗ owns c ((cfg0.win 6).stage (cfg0.slots t 6)) fullShare s'.x7
          ∗ owns c ((cfg0.win 7).stage (cfg0.slots t 7)) fullShare s'.x8
          ∗ owns c ((cfg0.win 8).stage (cfg0.slots t 8)) fullShare s'.x9
          ∗ owns c ((cfg0.win 9).stage (cfg0.slots t 9)) fullShare (after m c 9 t)
          ∗ owns c ((cfg0.win 10).stage (cfg0.slots t 10)) fullShare (after m c 10 t))) := by
  have b0 := before0_0_of m (dats m 0 c) rfl (fun _ => rfl) t d0
  have b1 := before0_1_of m (dats m 0 c) rfl (fun _ => rfl) t d1
  have b2 := before0_2_of m (dats m 0 c) rfl (fun _ => rfl) t d2
  have b3 := before0_3_of m (dats m 0 c) rfl (fun _ => rfl) t d3
  have b4 := before0_4_of m (dats m 0 c) rfl (fun _ => rfl) t d4
  have b5 := before0_5_of m (dats m 0 c) rfl (fun _ => rfl) t d5
  let s₀ : Spec.St F := { s with
    x1 := (dats m 0 c).before 0 t d0, x2 := (dats m 0 c).before 1 t d1, x3 := (dats m 0 c).before 2 t d2
    x4 := (dats m 0 c).before 3 t d3, x5 := (dats m 0 c).before 4 t d4, x6 := (dats m 0 c).before 5 t d5
    x7 := (dats m 0 c).before 6 t d6, x8 := (dats m 0 c).before 7 t d7, x9 := (dats m 0 c).before 8 t d8
    x10 := (dats m 0 c).before 9 t d9, x11 := (dats m 0 c).before 10 t d10 }
  have hk₀ : Kn m c t.val s₀ := fun h h' => ⟨(hk h h').act, (hk h h').hs, (hk h h').gw, (hk h h').ws, (hk h h').qg, (hk h h').kg⟩
  obtain ⟨s', hs', hk', f1, f2, f3, f4, f5, f6, f7, f10, f11⟩ := point m c t s₀ hk₀ b0 b1 b2 b3 b4 b5
    (fun l => before_9 m c t l d9) (fun l => before_10 m c t l d10)
  refine ⟨s', hk', f7, ?_⟩
  have hb := Spec.ok_body (nD := nD) (τ := τ) (Ix := Unit) (Name := ℕ) (U := UR sig nD τ) (Lvl := ℕ) (c := c) (A := Args t)
    (defs := (defs₀ (F := F))) (𝒱 := 𝒱₀) (E := Set.univ) (inv_d := (inv : F .f32)) (one_at t) s₀
  rw [hs'] at hb
  unfold Spec.Ok at hb
  rw [body_at]
  have g1 : s'.x1 = after m c 0 t := f1.trans b0
  have g2 : s'.x2 = after m c 1 t := f2.trans b1
  have g3 : s'.x3 = after m c 2 t := f3.trans b2
  have g4 : s'.x4 = after m c 3 t := f4.trans b3
  have g5 : s'.x5 = after m c 4 t := f5.trans b4
  have g6 : s'.x6 = after m c 5 t := f6.trans b5
  rw [← g1, ← g2, ← g3, ← g4, ← g5, ← g6, ← f10, ← f11]
  refine (show _ ⊢ Spec.own c (Args t) s₀ from ?_).trans (hb.trans (wp_mono _ _ _ fun _ => ?_))
  · unfold scr Spec.own
    iintro ⟨⟨H12, H13, H14, H15, H16, H17, H18⟩, H1, H2, H3, H4, H5, H6, H7, H8, H9, H10, H11⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · unfold scr Spec.own
    iintro ⟨H1, H2, H3, H4, H5, H6, H7, H8, H9, H10, H11, H12, H13, H14, H15, H16, H17, H18⟩
    isplitl [H12 H13 H14 H15 H16 H17 H18]
    · isplitl [H12]; · iexact H12
      isplitl [H13]; · iexact H13
      isplitl [H14]; · iexact H14
      isplitl [H15]; · iexact H15
      isplitl [H16]; · iexact H16
      isplitl [H17]; · iexact H17
      iexact H18
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem obligation (𝒱₀ : Variants) : BodyObligationLoose (dats m 0 c) (defs₀ (F := F)) 𝒱₀ () Set.univ := fun t => by
  rw [bigSep_W0, bigSep_W0]
  simp only
  rw [show (dats m 0 c).owesAt () t.succ = (dats m 0 c).owesAt () t.castSucc from rfl,
    show (dats m 0 c).Φ t.castSucc = Ph m c t.val from rfl, show (dats m 0 c).Φ t.succ = Ph m c (t.val + 1) from rfl]
  unfold Ph
  iintro ⟨⟨⟨%s, %hk, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨s', hk', h7, hrun⟩ := body_run m c t d0 d1 d2 d3 d4 d5 d6 d7 d8 d9 d10 s hk 𝒱₀
  iapply (wp_wand_r _ _ _)
  isplitl [Hs H0 H1 H2 H3 H4 H5 H6 H7 H8 H9 H10]
  · iapply hrun
    isplitl [Hs]; · iexact Hs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %a ⟨Hs, H0, H1, H2, H3, H4, H5, H6, H7, H8, H9, H10⟩
  isplitl [Hs Hr]
  · isplitl [Hs]
    · iexists s'
      isplitr
      · ipureintro; exact hk'
      iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  have h9 : idle0 9 (grid0.coords t) = true → (win0 9).flush t = true := fun h => (flush_c t).1.2 (by have := (idle_c t).1.1 h; omega)
  have h10 : idle0 10 (grid0.coords t) = true → (win0 10).flush t = true := fun h => (flush_c t).2.2 (by have := (idle_c t).2.1 h; omega)
  isplitl [H6]
  · by_cases z : t.val = 0
    · rw [if_pos z] at h7
      rw [show idle0 6 (grid0.coords t) = true from (idle_q t).1.2 z,
        show (win0 6).flush t = false from Bool.eq_false_iff.2 fun h => absurd ((flush_q t).1.1 h) (by omega)]
      simp only
      iexists d6
      rw [h7.1]
      iexact H6
    · rw [if_neg z] at h7
      rw [show idle0 6 (grid0.coords t) = false from Bool.eq_false_iff.2 fun h => z ((idle_q t).1.1 h)]
      rw [h7.1]
      iexact H6
  isplitl [H7]
  · by_cases z : t.val = 0
    · rw [if_pos z] at h7
      rw [show idle0 7 (grid0.coords t) = true from (idle_q t).2.1.2 z,
        show (win0 7).flush t = false from Bool.eq_false_iff.2 fun h => absurd ((flush_q t).2.1.1 h) (by omega)]
      simp only
      iexists d7
      rw [h7.2.1]
      iexact H7
    · rw [if_neg z] at h7
      rw [show idle0 7 (grid0.coords t) = false from Bool.eq_false_iff.2 fun h => z ((idle_q t).2.1.1 h)]
      rw [h7.2.1]
      iexact H7
  isplitl [H8]
  · by_cases z : t.val = 0
    · rw [if_pos z] at h7
      rw [show idle0 8 (grid0.coords t) = true from (idle_q t).2.2.2 z,
        show (win0 8).flush t = false from Bool.eq_false_iff.2 fun h => absurd ((flush_q t).2.2.1 h) (by omega)]
      simp only
      iexists d8
      rw [h7.2.2]
      iexact H8
    · rw [if_neg z] at h7
      rw [show idle0 8 (grid0.coords t) = false from Bool.eq_false_iff.2 fun h => z ((idle_q t).2.2.1 h)]
      rw [h7.2.2]
      iexact H8
  isplitl [H9]
  · cases hi : idle0 9 (grid0.coords t)
    · iexact H9
    · rw [h9 hi]
      iexact H9
  · cases hi : idle0 10 (grid0.coords t)
    · iexact H10
    · rw [h10 hi]
      iexact H10

/-! ## The launch -/

theorem enter : (Pipeline.ΦA spec0 c : sProp 𝕄) ⊢ (dats m 0 c).Φ 0 := by
  rw [show (dats m 0 c).Φ 0 = Ph m c 0 from rfl]
  unfold Pipeline.ΦA Ph
  rw [scopedRest0_eq]
  iintro ⟨⟨⟨%f0, H0⟩, ⟨%f1, H1⟩, ⟨%f2, H2⟩, ⟨%f3, H3⟩, ⟨%f4, H4⟩, ⟨%f5, H5⟩, ⟨%f6, H6⟩⟩, Hr⟩
  isplitr [Hr]
  · iexists (⟨iblk m c 0 (pt 0), iblk m c 1 (pt 0), iblk m c 2 (pt 0), iblk m c 3 (pt 0), iblk m c 4 (pt 0), iblk m c 5 (pt 0),
      after m c 6 (pt 0), after m c 7 (pt 0), after m c 8 (pt 0), after m c 9 (pt 0), after m c 10 (pt 0), f0, f1, f2, f3, f4, f5, f6⟩ : Spec.St F)
    isplitr
    · ipureintro; exact fun h => absurd h (by decide)
    unfold scr
    simp only [ownsTc, owns_whole]
    isplitl [H0]; · iexact H0
    isplitl [H1]; · iexact H1
    isplitl [H2]; · iexact H2
    isplitl [H3]; · iexact H3
    isplitl [H4]; · iexact H4
    isplitl [H5]; · iexact H5
    iexact H6
  iexact Hr

theorem leave : (dats m 0 c).Φ (Fin.last cfg0.N) ⊢ (Pipeline.ΦA spec0 c : sProp 𝕄) := by
  rw [show (dats m 0 c).Φ (Fin.last cfg0.N) = Ph m c cfg0.N from rfl]
  unfold Pipeline.ΦA Ph
  rw [scopedRest0_eq]
  iintro ⟨⟨%s, %hk, Hs⟩, Hr⟩
  isplitr [Hr]
  · unfold scr
    simp only [ownsTc, owns_whole]
    icases Hs with ⟨H0, H1, H2, H3, H4, H5, H6⟩
    isplitl [H0]; · iexists s.x12; iexact H0
    isplitl [H1]; · iexists s.x13; iexact H1
    isplitl [H2]; · iexists s.x14; iexact H2
    isplitl [H3]; · iexists s.x15; iexact H3
    isplitl [H4]; · iexists s.x16; iexact H4
    isplitl [H5]; · iexists s.x17; iexact H5
    iexists s.x18; iexact H6
  iexact Hr

/-- What every buffer outside the windows holds after the host lines that follow the kernel. -/
abbrev tail : (c : Dev nD) → (b : Ref sig .tc) → Buf (Elt F) ((c : Thread nD τ).loc b) :=
  Pipeline.afterTail₀ cfgs (dats m) 0 (V0 m) [hostOps1]

theorem run (𝒱₀ : Variants) : θ_run defs (onTc (τ := τ) (main (F := F))) ⟨m, fun _ => 0, ρ⟩
    (fun r => Pipeline.FramePost cfgs (dats m) 0 (tail m) r ∧ r.2.sem = fun _ => 0) :=
  Pipeline.θ_run_frame_around_track cfgs (dats m) 0 launch0 defs₀ 𝒱₀ m ρ main
    (fun c => obligation m c 𝒱₀) (fun c => (dats m 0 c).share_full fun _ => rfl) (fun _ _ => rfl)
    (V0 m) [hostOps1] sfx_sub sfx_fresh sfx_keeps (hmain m 𝒱₀) (fun _ _ => rfl)
    (fun c => enter m c) (fun c => leave m c)
    (Q' := fun r => Pipeline.FramePost cfgs (dats m) 0 (tail m) r ∧ r.2.sem = fun _ => 0) (hQ' := fun _ h => h)

/-- The arguments end as they were, and nothing is left signalled. -/
theorem quiet (𝒱₀ : Variants) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).1 1).trans (((dats m 0 c).arrAt_in 1 rfl _).trans (V_main_arg1 m c)),
      ((h.1 c).1 2).trans (((dats m 0 c).arrAt_in 2 rfl _).trans (V_main_arg2 m c)),
      ((h.1 c).1 3).trans (((dats m 0 c).arrAt_in 3 rfl _).trans (V_main_arg3 m c)),
      ((h.1 c).1 4).trans (((dats m 0 c).arrAt_in 4 rfl _).trans (V_main_arg4 m c)),
      ((h.1 c).1 5).trans (((dats m 0 c).arrAt_in 5 rfl _).trans (V_main_arg5 m c))⟩, h.2⟩) (run m ρ 𝒱₀)

end Cert.Kernel.Run
-- ==== Proof.Same.KernelIdeal.lean ====
module

public import proofs.«01_k».proof.Proof.Spec
public import proofs.«01_k».proof.KernelIdeal

/-! The printed body is `Spec.body`: both are one list of operations, so the equality is by unfolding. -/

@[expose] public section

set_option maxRecDepth 1000000
set_option maxHeartbeats 0

noncomputable section

namespace Cert.KernelIdeal
open Idealize.ShloMosaic Idealize.SL.Sem
variable {F : FTy → Type} [FloatOps F] [Named F] [Facts]

theorem body_eq (i : grid0.Coords) (arg1 : Memref sig .tc .vmem S256x3584 .bf16) (harg1 : arg1.IsWhole) (arg2 : Memref sig .tc .vmem S3584 .bf16) (harg2 : arg2.IsWhole) (arg3 : Memref sig .tc .vmem S3584x1152 .fp8e4m3) (harg3 : arg3.IsWhole) (arg4 : Memref sig .tc .vmem S1152 .f32) (harg4 : arg4.IsWhole) (arg5 : Memref sig .tc .vmem S128 .bf16) (harg5 : arg5.IsWhole) (arg6 : Memref sig .tc .vmem S128 .bf16) (harg6 : arg6.IsWhole) (arg7 : Memref sig .tc .vmem S1x7x256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x3584 .fp8e4m3) (harg10 : arg10.IsWhole) (arg11 : Memref sig .tc .vmem S1x1x256 .f32) (harg11 : arg11.IsWhole) (arg12 : Memref sig .tc .vmem S256x3584 .f32) (harg12 : arg12.IsWhole) (arg13 : Memref sig .tc .vmem S2x256x3584 .fp8e4m3) (harg13 : arg13.IsWhole) (arg14 : Memref sig .tc .vmem S2x256x128 .f32) (harg14 : arg14.IsWhole) (arg15 : Memref sig .tc .vmem S1x3584 .f32) (harg15 : arg15.IsWhole) (arg16 : Memref sig .tc .vmem S1x1152 .f32) (harg16 : arg16.IsWhole) (arg17 : Memref sig .tc .vmem S1x128 .f32) (harg17 : arg17.IsWhole) (arg18 : Memref sig .tc .vmem S1x128 .f32) (harg18 : arg18.IsWhole) :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      Spec.body ⟨arg1, arg2, arg3, arg4, arg5, arg6, arg7, arg8, arg9, arg10, arg11, arg12, arg13, arg14, arg15, arg16, arg17, arg18, harg1, harg2, harg3, harg4, harg5, harg6, harg7, harg8, harg9, harg10, harg11, harg12, harg13, harg14, harg15, harg16, harg17, harg18⟩
        (Named.named κ "inv_d" 0x39924925#32) (k0_cond1 i) (k0_cond2 i) (k0_cond3 i) (k0_cond4 i) := by
  exact rfl

end Cert.KernelIdeal
-- ==== Proof.Run.KernelIdeal.lean ====
module

public import proofs.«01_k».proof.Proof.Gen.KernelIdeal.Frame
public import proofs.«01_k».proof.Proof.Same.KernelIdeal
public import proofs.«01_k».proof.Proof.Slot

/-! The run of the kernel: what every staging buffer holds at every point, the invariant on the scratch, and the
    launch. -/

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The reciprocal the mean of the squares is taken with. -/
abbrev inv : F .f32 := Named.named κ "inv_d" 0x39924925#32

variable (m : (ℓ : Loc nD τ sig) → Buf (Elt F) ℓ) (ρ : Dev nD → PrngReg) (c : Dev nD)

/-- Point `n` of the grid, the last one from there on. -/
def pt (n : Nat) : Fin cfg0.N := ⟨min n 64, by rw [show cfg0.N = 65 from N_0]; omega⟩
theorem pt_val (t : Fin cfg0.N) : pt t.val = t := Fin.ext (by
  have := t.isLt; have h : cfg0.N = 65 := N_0; show min t.val 64 = t.val; omega)

/-- Tile `n` of the activations. -/
abbrev X (n : Nat) : Spec.S256x3584.Idx → Elt F .bf16 := iblk m c 0 (pt n)
abbrev W (t : Fin cfg0.N) : Spec.S3584x1152.Idx → Elt F .fp8e4m3 := iblk m c 2 t
abbrev gw : Spec.S1x3584.Idx → Elt F .f32 := Spec.gwOf (iblk m c 1 (pt 0))
abbrev ws : Spec.S1x1152.Idx → Elt F .f32 := Spec.wsOf (iblk m c 3 (pt 0))
abbrev qg : Spec.S1x128.Idx → Elt F .f32 := Spec.gainOf (iblk m c 4 (pt 0))
abbrev kg : Spec.S1x128.Idx → Elt F .f32 := Spec.gainOf (iblk m c 5 (pt 0))

/-- The slot tile `n` is quantized into. -/
def slot (n : Nat) : Fin 2 := ⟨n % 2, Nat.mod_lt _ (by decide)⟩

/-- What the body leaves in each window's buffer. -/
def after (w : Fin cfg0.W) (t : Fin cfg0.N) : (cfg0.win w).block.Idx → Elt F (cfg0.win w).elt :=
  match w with
  | 0 => iblk m c 0 t
  | 1 => iblk m c 1 t
  | 2 => iblk m c 2 t
  | 3 => iblk m c 3 t
  | 4 => iblk m c 4 t
  | 5 => iblk m c 5 t
  | 6 => Spec.qT inv (X m c (t.val - 1)) (gw m c) (W m c t) (ws m c) (qg m c)
  | 7 => Spec.kT inv (X m c (t.val - 1)) (gw m c) (W m c t) (ws m c) (kg m c)
  | 8 => Spec.vT inv (X m c (t.val - 1)) (gw m c) (W m c t) (ws m c)
  | 9 => Spec.codesOf inv (X m c (min t.val 63)) (gw m c)
  | 10 => Spec.scalesOf inv (X m c (min t.val 63)) (gw m c)
  | ⟨_ + 11, h⟩ => absurd h (Nat.not_lt.2 (Nat.le_add_left _ _))

/-- The scratch buffers. -/
def scr (s : Spec.St F) : sProp 𝕄 :=
  iprop(ownsTc c (Memref.whole cc0_scratch0) fullShare s.x12 ∗ ownsTc c (Memref.whole cc0_scratch1) fullShare s.x13
    ∗ ownsTc c (Memref.whole cc0_scratch2) fullShare s.x14 ∗ ownsTc c (Memref.whole cc0_scratch3) fullShare s.x15
    ∗ ownsTc c (Memref.whole cc0_scratch4) fullShare s.x16 ∗ ownsTc c (Memref.whole cc0_scratch5) fullShare s.x17
    ∗ ownsTc c (Memref.whole cc0_scratch6) fullShare s.x18)

/-- What is known of the scratch before point `n`: nothing at first and at last. -/
def Kn (n : Nat) (s : Spec.St F) : Prop :=
  1 ≤ n → n ≤ 64 → Spec.Known inv (slot (n - 1)) (X m c (n - 1)) (gw m c) (ws m c) (qg m c) (kg m c) s

/-- The invariant before point `n`. -/
def Ph (n : Nat) : sProp 𝕄 := iprop((∃ s, ⌜Kn m c n s⌝ ∗ scr c s) ∗ ∃ r, prngReg c r)

def dats : (p : Fin 1) → (c : Dev nD) → Dat τ (Elt F) Unit ℕ (UR sig nD τ) ℕ (cfgs p) c := fun _ c =>
  { A := fun w => V m c (Pipeline.arrRef spec0 w)
    after := after m c
    Φ := fun j => Ph m c j.val
    q := fun _ => fullShare
    owed := fun _ => 0 }

/-- The body's buffers at point `t`. -/
abbrev Args (t : Fin cfg0.N) : Spec.Args sig :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), win0_7.stage (cfg0.slots t 7),
    win0_8.stage (cfg0.slots t 8), win0_9.stage (cfg0.slots t 9), win0_10.stage (cfg0.slots t 10),
    Memref.whole cc0_scratch0, Memref.whole cc0_scratch1, Memref.whole cc0_scratch2, Memref.whole cc0_scratch3,
    Memref.whole cc0_scratch4, Memref.whole cc0_scratch5, Memref.whole cc0_scratch6,
    hstage0_0 ((cfg0.slots t 0).cast nbuf0_0), hstage0_1 ((cfg0.slots t 1).cast nbuf0_1), hstage0_2 ((cfg0.slots t 2).cast nbuf0_2),
    hstage0_3 ((cfg0.slots t 3).cast nbuf0_3), hstage0_4 ((cfg0.slots t 4).cast nbuf0_4), hstage0_5 ((cfg0.slots t 5).cast nbuf0_5),
    hstage0_6 ((cfg0.slots t 6).cast nbuf0_6), hstage0_7 ((cfg0.slots t 7).cast nbuf0_7), hstage0_8 ((cfg0.slots t 8).cast nbuf0_8),
    hstage0_9 ((cfg0.slots t 9).cast nbuf0_9), hstage0_10 ((cfg0.slots t 10).cast nbuf0_10),
    Memref.isWhole_whole _, Memref.isWhole_whole _, Memref.isWhole_whole _, Memref.isWhole_whole _, Memref.isWhole_whole _,
    Memref.isWhole_whole _, Memref.isWhole_whole _⟩

theorem body_at (t : Fin cfg0.N) : (defs₀ (F := F)) .tc cfg0.body (cfg0.bodyArgs t (cfg0.slots t))
    = Spec.body (Args t) inv (k0_cond1 (grid0.coords t)) (k0_cond2 (grid0.coords t)) (k0_cond3 (grid0.coords t)) (k0_cond4 (grid0.coords t)) :=
  body_eq (grid0.coords t) _ _ _ _ _ _ _ _ _ _ _ _ _ _ _ _ _ _ _ _ _ _ _ _ _ _ _ _ _ _ _ _ _ _ _ _

/-! ## The grid's facts -/

theorem cond1_iff : ∀ t : Fin grid0.N, k0_cond1 (grid0.coords t) = 1#1 ↔ t.val = 0 := by decide +kernel
theorem cond2_iff : ∀ t : Fin grid0.N, k0_cond2 (grid0.coords t) = 1#1 ↔ (0 < t.val ∧ t.val < 64 ∧ t.val % 2 = 0) := by decide +kernel
theorem cond3_iff : ∀ t : Fin grid0.N, k0_cond3 (grid0.coords t) = 1#1 ↔ (0 < t.val ∧ t.val < 64 ∧ t.val % 2 = 1) := by decide +kernel
theorem cond4_iff : ∀ t : Fin grid0.N, k0_cond4 (grid0.coords t) = 1#1 ↔ t.val = 64 := by decide +kernel

theorem flush_q : ∀ t : Fin grid0.N, (win0_6.flush t = true ↔ 0 < t.val) ∧ (win0_7.flush t = true ↔ 0 < t.val) ∧ (win0_8.flush t = true ↔ 0 < t.val) := by decide +kernel
theorem flush_c : ∀ t : Fin grid0.N, (win0_9.flush t = true ↔ t.val ≠ 63) ∧ (win0_10.flush t = true ↔ t.val ≠ 63) := by decide +kernel

/-! ## The body at a point -/

theorem one_at (t : Fin grid0.N) : Spec.One (k0_cond1 (grid0.coords t)) (k0_cond2 (grid0.coords t)) (k0_cond3 (grid0.coords t)) (k0_cond4 (grid0.coords t)) := by
  have h1 := cond1_iff t; have h2 := cond2_iff t; have h3 := cond3_iff t; have h4 := cond4_iff t
  refine ⟨fun h => ⟨fun h' => ?_, fun h' => ?_, fun h' => ?_⟩, fun h => ⟨fun h' => ?_, fun h' => ?_⟩, fun h h' => ?_⟩ <;>
    (simp only [h, h', true_iff] at h1 h2 h3 h4; omega)

/-- What a point makes of buffers that hold the point's blocks and a scratch known so far. -/
theorem point (t : Fin cfg0.N) (s : Spec.St F) (hk : Kn m c t.val s)
    (e1 : s.x1 = iblk m c 0 t) (e2 : s.x2 = iblk m c 1 t) (e3 : s.x3 = iblk m c 2 t) (e4 : s.x4 = iblk m c 3 t)
    (e5 : s.x5 = iblk m c 4 t) (e6 : s.x6 = iblk m c 5 t)
    (e10 : t.val = 64 → s.x10 = after m c 9 t) (e11 : t.val = 64 → s.x11 = after m c 10 t) :
    ∃ s' : Spec.St F, Spec.bodySt inv (k0_cond1 (grid0.coords t)) (k0_cond2 (grid0.coords t)) (k0_cond3 (grid0.coords t)) (k0_cond4 (grid0.coords t)) s = s'
      ∧ Kn m c (t.val + 1) s' ∧ s'.x1 = s.x1 ∧ s'.x2 = s.x2 ∧ s'.x3 = s.x3 ∧ s'.x4 = s.x4 ∧ s'.x5 = s.x5 ∧ s'.x6 = s.x6
      ∧ (if t.val = 0 then s'.x7 = s.x7 ∧ s'.x8 = s.x8 ∧ s'.x9 = s.x9
          else s'.x7 = after m c 6 t ∧ s'.x8 = after m c 7 t ∧ s'.x9 = after m c 8 t)
      ∧ s'.x10 = after m c 9 t ∧ s'.x11 = after m c 10 t := by
  have h1 := cond1_iff t; have h2 := cond2_iff t; have h3 := cond3_iff t; have h4 := cond4_iff t
  have hN : t.val < 65 := by have := t.isLt; have h : cfg0.N = 65 := N_0; omega
  refine ⟨_, rfl, ?_⟩
  unfold Spec.bodySt
  have hX : iblk m c 0 t = X m c t.val := by unfold X; rw [pt_val]
  by_cases z : t.val = 0
  · rw [if_pos (h1.2 z), if_pos z]
    obtain rfl : t = pt 0 := Fin.ext z
    refine ⟨fun _ _ => ?_, rfl, rfl, rfl, rfl, rfl, rfl, ⟨rfl, rfl, rfl⟩, ?_, ?_⟩
    · have := Spec.known_quant (inv_d := (inv : F .f32)) (s := Spec.paramsSt s) (gw := gw m c) (ws := ws m c) (qg := qg m c) (kg := kg m c) 0
        (congrArg Spec.gwOf e2) (congrArg Spec.wsOf e4) (congrArg Spec.gainOf e5) (congrArg Spec.gainOf e6)
      rw [show (Spec.paramsSt s).x1 = X m c 0 from e1] at this
      exact this
    · show Spec.codesOf inv s.x1 (Spec.gwOf s.x2) = _
      rw [e1, e2]; rfl
    · show Spec.scalesOf inv s.x1 (Spec.gwOf s.x2) = _
      rw [e1, e2]; rfl
  rw [if_neg (fun h => z (h1.1 h)), if_neg z]
  have hk := hk (by omega) (by omega)
  have hW : s.x3 = W m c t := e3
  by_cases l : t.val = 64
  · rw [if_neg (fun h => by have := h2.1 h; omega), if_neg (fun h => by have := h3.1 h; omega), if_pos (h4.2 l)]
    rw [show slot (t.val - 1) = 1 from Fin.ext (by show (t.val - 1) % 2 = 1; omega)] at hk
    rw [Spec.known_proj hk, hW]
    exact ⟨fun _ h => by omega, rfl, rfl, rfl, rfl, rfl, rfl, ⟨rfl, rfl, rfl⟩, e10 l, e11 l⟩
  have hm : min t.val 63 = t.val := by omega
  by_cases o : t.val % 2 = 0
  · rw [if_pos (h2.2 ⟨by omega, by omega, o⟩)]
    rw [show slot (t.val - 1) = 1 from Fin.ext (by show (t.val - 1) % 2 = 1; omega)] at hk
    rw [Spec.known_proj hk, hW]
    refine ⟨fun _ _ => ?_, rfl, rfl, rfl, rfl, rfl, rfl, ⟨rfl, rfl, rfl⟩, ?_, ?_⟩
    · rw [show t.val + 1 - 1 = t.val from rfl, show slot t.val = 0 from Fin.ext o, ← hX, ← e1]
      exact Spec.known_quant (inv_d := (inv : F .f32)) (s := { s with x3 := W m c t, x7 := _, x8 := _, x9 := _ }) 0 hk.gw hk.ws hk.qg hk.kg
    · show Spec.codesOf inv s.x1 s.x15 = Spec.codesOf inv (X m c (min t.val 63)) (gw m c)
      rw [e1, hk.gw, hX, hm]
    · show Spec.scalesOf inv s.x1 s.x15 = Spec.scalesOf inv (X m c (min t.val 63)) (gw m c)
      rw [e1, hk.gw, hX, hm]
  · rw [if_neg (fun h => by have := h2.1 h; omega), if_pos (h3.2 ⟨by omega, by omega, by omega⟩)]
    rw [show slot (t.val - 1) = 0 from Fin.ext (by show (t.val - 1) % 2 = 0; omega)] at hk
    rw [Spec.known_proj hk, hW]
    refine ⟨fun _ _ => ?_, rfl, rfl, rfl, rfl, rfl, rfl, ⟨rfl, rfl, rfl⟩, ?_, ?_⟩
    · rw [show t.val + 1 - 1 = t.val from rfl, show slot t.val = 1 from Fin.ext (by show t.val % 2 = 1; omega), ← hX, ← e1]
      exact Spec.known_quant (inv_d := (inv : F .f32)) (s := { s with x3 := W m c t, x7 := _, x8 := _, x9 := _ }) 1 hk.gw hk.ws hk.qg hk.kg
    · show Spec.codesOf inv s.x1 s.x15 = Spec.codesOf inv (X m c (min t.val 63)) (gw m c)
      rw [e1, hk.gw, hX, hm]
    · show Spec.scalesOf inv s.x1 s.x15 = Spec.scalesOf inv (X m c (min t.val 63)) (gw m c)
      rw [e1, hk.gw, hX, hm]

/-! ## The body obligation -/

theorem idle_q : ∀ t : Fin grid0.N, (idle0 6 (grid0.coords t) = true ↔ t.val = 0) ∧ (idle0 7 (grid0.coords t) = true ↔ t.val = 0)
    ∧ (idle0 8 (grid0.coords t) = true ↔ t.val = 0) := by decide +kernel
theorem idle_c : ∀ t : Fin grid0.N, (idle0 9 (grid0.coords t) = true ↔ t.val = 64) ∧ (idle0 10 (grid0.coords t) = true ↔ t.val = 64) := by
  decide +kernel

variable (p : Fin 1)

/-- At the last point the codes' buffer still holds the last tile's. -/
theorem before_9 (t : Fin cfg0.N) (l : t.val = 64) (d) : (dats m 0 c).before 9 t d = after m c 9 t := by
  obtain rfl : t = pt 64 := Fin.ext l
  unfold Dat.before
  have hf : (cfg0.win 9).fetch (pt 64) = false := rfl
  have hfl : (cfg0.win 9).flush (pt 63) = false := by
    have := (flush_c (pt 63)).1
    cases h : (cfg0.win 9).flush (pt 63)
    · rfl
    · exact absurd rfl (this.1 h)
  have hi : cfg0.idle 9 (cfg0.grid.coords (pt 63)) = false := by
    have := (idle_c (pt 63)).1
    cases h : cfg0.idle 9 (cfg0.grid.coords (pt 63))
    · rfl
    · exact absurd (this.1 h) (by decide)
  rw [if_neg (by rw [hf]; decide), if_neg (by decide)]
  show (if (cfg0.win 9).flush (pt 63) = true then d else match cfg0.idle 9 (cfg0.grid.coords (pt 63)) with
      | true => (dats m 0 c).found 9 (pt 63) d
      | false => (dats m 0 c).kept 9 (pt 63) d) = _
  rw [hfl, hi]
  rfl
theorem before_10 (t : Fin cfg0.N) (l : t.val = 64) (d) : (dats m 0 c).before 10 t d = after m c 10 t := by
  obtain rfl : t = pt 64 := Fin.ext l
  unfold Dat.before
  have hf : (cfg0.win 10).fetch (pt 64) = false := rfl
  have hfl : (cfg0.win 10).flush (pt 63) = false := by
    have := (flush_c (pt 63)).2
    cases h : (cfg0.win 10).flush (pt 63)
    · rfl
    · exact absurd rfl (this.1 h)
  have hi : cfg0.idle 10 (cfg0.grid.coords (pt 63)) = false := by
    have := (idle_c (pt 63)).2
    cases h : cfg0.idle 10 (cfg0.grid.coords (pt 63))
    · rfl
    · exact absurd (this.1 h) (by decide)
  rw [if_neg (by rw [hf]; decide), if_neg (by decide)]
  show (if (cfg0.win 10).flush (pt 63) = true then d else match cfg0.idle 10 (cfg0.grid.coords (pt 63)) with
      | true => (dats m 0 c).found 10 (pt 63) d
      | false => (dats m 0 c).kept 10 (pt 63) d) = _
  rw [hfl, hi]
  rfl

/-- The body at point `t`, from what the pipeline hands it to what it hands back. -/
theorem body_run (t : Fin cfg0.N) (d0 d1 d2 d3 d4 d5 d6 d7 d8 d9 d10) (s : Spec.St F) (hk : Kn m c t.val s) (𝒱₀ : Variants) :
    ∃ s' : Spec.St F, Kn m c (t.val + 1) s'
      ∧ (if t.val = 0 then s'.x7 = (dats m 0 c).before 6 t d6 ∧ s'.x8 = (dats m 0 c).before 7 t d7 ∧ s'.x9 = (dats m 0 c).before 8 t d8
          else s'.x7 = after m c 6 t ∧ s'.x8 = after m c 7 t ∧ s'.x9 = after m c 8 t)
      ∧ (iprop(scr c s ∗ owns c ((cfg0.win 0).stage (cfg0.slots t 0)) fullShare ((dats m 0 c).before 0 t d0)
          ∗ owns c ((cfg0.win 1).stage (cfg0.slots t 1)) fullShare ((dats m 0 c).before 1 t d1)
          ∗ owns c ((cfg0.win 2).stage (cfg0.slots t 2)) fullShare ((dats m 0 c).before 2 t d2)
          ∗ owns c ((cfg0.win 3).stage (cfg0.slots t 3)) fullShare ((dats m 0 c).before 3 t d3)
          ∗ owns c ((cfg0.win 4).stage (cfg0.slots t 4)) fullShare ((dats m 0 c).before 4 t d4)
          ∗ owns c ((cfg0.win 5).stage (cfg0.slots t 5)) fullShare ((dats m 0 c).before 5 t d5)
          ∗ owns c ((cfg0.win 6).stage (cfg0.slots t 6)) fullShare ((dats m 0 c).before 6 t d6)
          ∗ owns c ((cfg0.win 7).stage (cfg0.slots t 7)) fullShare ((dats m 0 c).before 7 t d7)
          ∗ owns c ((cfg0.win 8).stage (cfg0.slots t 8)) fullShare ((dats m 0 c).before 8 t d8)
          ∗ owns c ((cfg0.win 9).stage (cfg0.slots t 9)) fullShare ((dats m 0 c).before 9 t d9)
          ∗ owns c ((cfg0.win 10).stage (cfg0.slots t 10)) fullShare ((dats m 0 c).before 10 t d10) : sProp 𝕄)
        ⊢ wp frame (wpE (defs₀ (F := F)) 𝒱₀ (c : Thread nD τ) none) Set.univ ((defs₀ (F := F)) .tc cfg0.body (cfg0.bodyArgs t (cfg0.slots t))) fun _ =>
          iprop(scr c s' ∗ owns c ((cfg0.win 0).stage (cfg0.slots t 0)) fullShare (after m c 0 t)
          ∗ owns c ((cfg0.win 1).stage (cfg0.slots t 1)) fullShare (after m c 1 t)
          ∗ owns c ((cfg0.win 2).stage (cfg0.slots t 2)) fullShare (after m c 2 t)
          ∗ owns c ((cfg0.win 3).stage (cfg0.slots t 3)) fullShare (after m c 3 t)
          ∗ owns c ((cfg0.win 4).stage (cfg0.slots t 4)) fullShare (after m c 4 t)
          ∗ owns c ((cfg0.win 5).stage (cfg0.slots t 5)) fullShare (after m c 5 t)
          ∗ owns c ((cfg0.win 6).stage (cfg0.slots t 6)) fullShare s'.x7
          ∗ owns c ((cfg0.win 7).stage (cfg0.slots t 7)) fullShare s'.x8
          ∗ owns c ((cfg0.win 8).stage (cfg0.slots t 8)) fullShare s'.x9
          ∗ owns c ((cfg0.win 9).stage (cfg0.slots t 9)) fullShare (after m c 9 t)
          ∗ owns c ((cfg0.win 10).stage (cfg0.slots t 10)) fullShare (after m c 10 t))) := by
  have b0 := before0_0_of m (dats m 0 c) rfl (fun _ => rfl) t d0
  have b1 := before0_1_of m (dats m 0 c) rfl (fun _ => rfl) t d1
  have b2 := before0_2_of m (dats m 0 c) rfl (fun _ => rfl) t d2
  have b3 := before0_3_of m (dats m 0 c) rfl (fun _ => rfl) t d3
  have b4 := before0_4_of m (dats m 0 c) rfl (fun _ => rfl) t d4
  have b5 := before0_5_of m (dats m 0 c) rfl (fun _ => rfl) t d5
  let s₀ : Spec.St F := { s with
    x1 := (dats m 0 c).before 0 t d0, x2 := (dats m 0 c).before 1 t d1, x3 := (dats m 0 c).before 2 t d2
    x4 := (dats m 0 c).before 3 t d3, x5 := (dats m 0 c).before 4 t d4, x6 := (dats m 0 c).before 5 t d5
    x7 := (dats m 0 c).before 6 t d6, x8 := (dats m 0 c).before 7 t d7, x9 := (dats m 0 c).before 8 t d8
    x10 := (dats m 0 c).before 9 t d9, x11 := (dats m 0 c).before 10 t d10 }
  have hk₀ : Kn m c t.val s₀ := fun h h' => ⟨(hk h h').act, (hk h h').hs, (hk h h').gw, (hk h h').ws, (hk h h').qg, (hk h h').kg⟩
  obtain ⟨s', hs', hk', f1, f2, f3, f4, f5, f6, f7, f10, f11⟩ := point m c t s₀ hk₀ b0 b1 b2 b3 b4 b5
    (fun l => before_9 m c t l d9) (fun l => before_10 m c t l d10)
  refine ⟨s', hk', f7, ?_⟩
  have hb := Spec.ok_body (nD := nD) (τ := τ) (Ix := Unit) (Name := ℕ) (U := UR sig nD τ) (Lvl := ℕ) (c := c) (A := Args t)
    (defs := (defs₀ (F := F))) (𝒱 := 𝒱₀) (E := Set.univ) (inv_d := (inv : F .f32)) (one_at t) s₀
  rw [hs'] at hb
  unfold Spec.Ok at hb
  rw [body_at]
  have g1 : s'.x1 = after m c 0 t := f1.trans b0
  have g2 : s'.x2 = after m c 1 t := f2.trans b1
  have g3 : s'.x3 = after m c 2 t := f3.trans b2
  have g4 : s'.x4 = after m c 3 t := f4.trans b3
  have g5 : s'.x5 = after m c 4 t := f5.trans b4
  have g6 : s'.x6 = after m c 5 t := f6.trans b5
  rw [← g1, ← g2, ← g3, ← g4, ← g5, ← g6, ← f10, ← f11]
  refine (show _ ⊢ Spec.own c (Args t) s₀ from ?_).trans (hb.trans (wp_mono _ _ _ fun _ => ?_))
  · unfold scr Spec.own
    iintro ⟨⟨H12, H13, H14, H15, H16, H17, H18⟩, H1, H2, H3, H4, H5, H6, H7, H8, H9, H10, H11⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · unfold scr Spec.own
    iintro ⟨H1, H2, H3, H4, H5, H6, H7, H8, H9, H10, H11, H12, H13, H14, H15, H16, H17, H18⟩
    isplitl [H12 H13 H14 H15 H16 H17 H18]
    · isplitl [H12]; · iexact H12
      isplitl [H13]; · iexact H13
      isplitl [H14]; · iexact H14
      isplitl [H15]; · iexact H15
      isplitl [H16]; · iexact H16
      isplitl [H17]; · iexact H17
      iexact H18
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem obligation (𝒱₀ : Variants) : BodyObligationLoose (dats m 0 c) (defs₀ (F := F)) 𝒱₀ () Set.univ := fun t => by
  rw [bigSep_W0, bigSep_W0]
  simp only
  rw [show (dats m 0 c).owesAt () t.succ = (dats m 0 c).owesAt () t.castSucc from rfl,
    show (dats m 0 c).Φ t.castSucc = Ph m c t.val from rfl, show (dats m 0 c).Φ t.succ = Ph m c (t.val + 1) from rfl]
  unfold Ph
  iintro ⟨⟨⟨%s, %hk, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨s', hk', h7, hrun⟩ := body_run m c t d0 d1 d2 d3 d4 d5 d6 d7 d8 d9 d10 s hk 𝒱₀
  iapply (wp_wand_r _ _ _)
  isplitl [Hs H0 H1 H2 H3 H4 H5 H6 H7 H8 H9 H10]
  · iapply hrun
    isplitl [Hs]; · iexact Hs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %a ⟨Hs, H0, H1, H2, H3, H4, H5, H6, H7, H8, H9, H10⟩
  isplitl [Hs Hr]
  · isplitl [Hs]
    · iexists s'
      isplitr
      · ipureintro; exact hk'
      iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  have h9 : idle0 9 (grid0.coords t) = true → (win0 9).flush t = true := fun h => (flush_c t).1.2 (by have := (idle_c t).1.1 h; omega)
  have h10 : idle0 10 (grid0.coords t) = true → (win0 10).flush t = true := fun h => (flush_c t).2.2 (by have := (idle_c t).2.1 h; omega)
  isplitl [H6]
  · by_cases z : t.val = 0
    · rw [if_pos z] at h7
      rw [show idle0 6 (grid0.coords t) = true from (idle_q t).1.2 z,
        show (win0 6).flush t = false from Bool.eq_false_iff.2 fun h => absurd ((flush_q t).1.1 h) (by omega)]
      simp only
      iexists d6
      rw [h7.1]
      iexact H6
    · rw [if_neg z] at h7
      rw [show idle0 6 (grid0.coords t) = false from Bool.eq_false_iff.2 fun h => z ((idle_q t).1.1 h)]
      rw [h7.1]
      iexact H6
  isplitl [H7]
  · by_cases z : t.val = 0
    · rw [if_pos z] at h7
      rw [show idle0 7 (grid0.coords t) = true from (idle_q t).2.1.2 z,
        show (win0 7).flush t = false from Bool.eq_false_iff.2 fun h => absurd ((flush_q t).2.1.1 h) (by omega)]
      simp only
      iexists d7
      rw [h7.2.1]
      iexact H7
    · rw [if_neg z] at h7
      rw [show idle0 7 (grid0.coords t) = false from Bool.eq_false_iff.2 fun h => z ((idle_q t).2.1.1 h)]
      rw [h7.2.1]
      iexact H7
  isplitl [H8]
  · by_cases z : t.val = 0
    · rw [if_pos z] at h7
      rw [show idle0 8 (grid0.coords t) = true from (idle_q t).2.2.2 z,
        show (win0 8).flush t = false from Bool.eq_false_iff.2 fun h => absurd ((flush_q t).2.2.1 h) (by omega)]
      simp only
      iexists d8
      rw [h7.2.2]
      iexact H8
    · rw [if_neg z] at h7
      rw [show idle0 8 (grid0.coords t) = false from Bool.eq_false_iff.2 fun h => z ((idle_q t).2.2.1 h)]
      rw [h7.2.2]
      iexact H8
  isplitl [H9]
  · cases hi : idle0 9 (grid0.coords t)
    · iexact H9
    · rw [h9 hi]
      iexact H9
  · cases hi : idle0 10 (grid0.coords t)
    · iexact H10
    · rw [h10 hi]
      iexact H10

/-! ## The launch -/

theorem enter : (Pipeline.ΦA spec0 c : sProp 𝕄) ⊢ (dats m 0 c).Φ 0 := by
  rw [show (dats m 0 c).Φ 0 = Ph m c 0 from rfl]
  unfold Pipeline.ΦA Ph
  rw [scopedRest0_eq]
  iintro ⟨⟨⟨%f0, H0⟩, ⟨%f1, H1⟩, ⟨%f2, H2⟩, ⟨%f3, H3⟩, ⟨%f4, H4⟩, ⟨%f5, H5⟩, ⟨%f6, H6⟩⟩, Hr⟩
  isplitr [Hr]
  · iexists (⟨iblk m c 0 (pt 0), iblk m c 1 (pt 0), iblk m c 2 (pt 0), iblk m c 3 (pt 0), iblk m c 4 (pt 0), iblk m c 5 (pt 0),
      after m c 6 (pt 0), after m c 7 (pt 0), after m c 8 (pt 0), after m c 9 (pt 0), after m c 10 (pt 0), f0, f1, f2, f3, f4, f5, f6⟩ : Spec.St F)
    isplitr
    · ipureintro; exact fun h => absurd h (by decide)
    unfold scr
    simp only [ownsTc, owns_whole]
    isplitl [H0]; · iexact H0
    isplitl [H1]; · iexact H1
    isplitl [H2]; · iexact H2
    isplitl [H3]; · iexact H3
    isplitl [H4]; · iexact H4
    isplitl [H5]; · iexact H5
    iexact H6
  iexact Hr

theorem leave : (dats m 0 c).Φ (Fin.last cfg0.N) ⊢ (Pipeline.ΦA spec0 c : sProp 𝕄) := by
  rw [show (dats m 0 c).Φ (Fin.last cfg0.N) = Ph m c cfg0.N from rfl]
  unfold Pipeline.ΦA Ph
  rw [scopedRest0_eq]
  iintro ⟨⟨%s, %hk, Hs⟩, Hr⟩
  isplitr [Hr]
  · unfold scr
    simp only [ownsTc, owns_whole]
    icases Hs with ⟨H0, H1, H2, H3, H4, H5, H6⟩
    isplitl [H0]; · iexists s.x12; iexact H0
    isplitl [H1]; · iexists s.x13; iexact H1
    isplitl [H2]; · iexists s.x14; iexact H2
    isplitl [H3]; · iexists s.x15; iexact H3
    isplitl [H4]; · iexists s.x16; iexact H4
    isplitl [H5]; · iexists s.x17; iexact H5
    iexists s.x18; iexact H6
  iexact Hr

/-- What every buffer outside the windows holds after the host lines that follow the kernel. -/
abbrev tail : (c : Dev nD) → (b : Ref sig .tc) → Buf (Elt F) ((c : Thread nD τ).loc b) :=
  Pipeline.afterTail₀ cfgs (dats m) 0 (V0 m) [hostOps1]

theorem run (𝒱₀ : Variants) : θ_run defs (onTc (τ := τ) (main (F := F))) ⟨m, fun _ => 0, ρ⟩
    (fun r => Pipeline.FramePost cfgs (dats m) 0 (tail m) r ∧ r.2.sem = fun _ => 0) :=
  Pipeline.θ_run_frame_around_track cfgs (dats m) 0 launch0 defs₀ 𝒱₀ m ρ main
    (fun c => obligation m c 𝒱₀) (fun c => (dats m 0 c).share_full fun _ => rfl) (fun _ _ => rfl)
    (V0 m) [hostOps1] sfx_sub sfx_fresh sfx_keeps (hmain m 𝒱₀) (fun _ _ => rfl)
    (fun c => enter m c) (fun c => leave m c)
    (Q' := fun r => Pipeline.FramePost cfgs (dats m) 0 (tail m) r ∧ r.2.sem = fun _ => 0) (hQ' := fun _ h => h)

/-- The arguments end as they were, and nothing is left signalled. -/
theorem quiet (𝒱₀ : Variants) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).1 1).trans (((dats m 0 c).arrAt_in 1 rfl _).trans (V_main_arg1 m c)),
      ((h.1 c).1 2).trans (((dats m 0 c).arrAt_in 2 rfl _).trans (V_main_arg2 m c)),
      ((h.1 c).1 3).trans (((dats m 0 c).arrAt_in 3 rfl _).trans (V_main_arg3 m c)),
      ((h.1 c).1 4).trans (((dats m 0 c).arrAt_in 4 rfl _).trans (V_main_arg4 m c)),
      ((h.1 c).1 5).trans (((dats m 0 c).arrAt_in 5 rfl _).trans (V_main_arg5 m c))⟩, h.2⟩) (run m ρ 𝒱₀)

end Cert.KernelIdeal.Run
-- ==== Proof.Row.Scale.lean ====
module

public import Idealize.ShloMosaic.Lib.IdealHost
public import Idealize.ShloMosaic.PureOps.Ideal.Laws
public import Mathlib.Analysis.SpecialFunctions.Log.Basic
public import Mathlib.Analysis.SpecialFunctions.Pow.Real

/-! A row's scale on the extended reals: the kernel finds the exponent of `y` by testing one bit after another,
    the reference by the logarithm; below 2^126 the two scales agree, and so do their reciprocals. -/

@[expose] public section

noncomputable section

namespace Cert.Row

open Idealize.ShloMosaic

/-- The float whose exponent field is the word `b`. -/
def pwW (b : BitVec 32) : EReal := Ideal.ofBits .f32 (IntOp.shli .vector b 23#32)

/-- One bit of the search. -/
def bitS (y : EReal) (b be : BitVec 32) : BitVec 32 :=
  Scalar.select (Ideal.cmp .oge y (pwW (IntOp.addi be b))) (IntOp.addi be b) be

/-- The exponent field found. -/
def fieldS (y : EReal) : BitVec 32 :=
  bitS y 1#32 <| bitS y 2#32 <| bitS y 4#32 <| bitS y 8#32 <| bitS y 16#32 <| bitS y 32#32 <| bitS y 64#32 <| bitS y 128#32 0#32

/-- The field, that of one half where nothing was found. -/
def expS (y : EReal) : BitVec 32 := Scalar.select (IntOp.cmpi .eq (fieldS y) 0#32) 126#32 (fieldS y)

/-- The kernel's scale. -/
def scaleS (y : EReal) : EReal := pwW (IntOp.addi (expS y) 1#32)
/-- The kernel's reciprocal scale. -/
def invS (y : EReal) : EReal := pwW (IntOp.subi 253#32 (expS y))

/-- The float whose exponent field is `n`. -/
def pw (n : Nat) : EReal := pwW (BitVec.ofNat 32 n)

theorem fields : ∀ n : Fin 256,
    ((IntOp.shli .vector (BitVec.ofNat 32 n.val) 23#32).extractLsb' 23 8).toNat = n.val ∧
    ((IntOp.shli .vector (BitVec.ofNat 32 n.val) 23#32).extractLsb' 0 23).toNat = 0 ∧
    ((IntOp.shli .vector (BitVec.ofNat 32 n.val) 23#32).extractLsb' 31 1 == 1#1) = false := by decide +kernel

theorem pw_zero : pw 0 = 0 := by
  obtain ⟨h1, h2, h3⟩ := fields 0
  simp only [Fin.val_zero] at h1 h2 h3
  simp only [pw, pwW, Ideal.ofBits, Ideal.ieee, h1, h2, h3]
  norm_num

theorem zpow_split (k : ℤ) : (1 : ℝ) * ((2 ^ 23 + 0 : Nat) : ℝ) * (2 : ℝ) ^ (k - 127 - 23) = (2 : ℝ) ^ (k - 127) := by
  have e : (2 : ℝ) ^ (k - 127) = (2 : ℝ) ^ (23 : ℤ) * (2 : ℝ) ^ (k - 127 - 23) := by
    rw [← zpow_add₀ (by norm_num)]; congr 1; ring
  rw [e, one_mul, Nat.add_zero]; norm_cast

theorem ieee_normal (b : BitVec 32) (n : Nat) (e1 : (b.extractLsb' 23 8).toNat = n) (e2 : (b.extractLsb' 0 23).toNat = 0)
    (e3 : (b.extractLsb' 31 1 == 1#1) = false) (h1 : n ≠ 0) (h2 : n ≠ 255) :
    Ideal.ieee 8 23 b = (((2 : ℝ) ^ ((n : ℤ) - 127) : ℝ) : EReal) := by
  have a1 : ¬ n = 2 ^ 8 - 1 := h2
  unfold Ideal.ieee
  simp only [e1, e2, e3]
  rw [if_neg a1, if_neg h1]
  exact congrArg Real.toEReal (zpow_split n)

theorem pw_mid (n : Nat) (h1 : 1 ≤ n) (h2 : n ≤ 254) : pw n = (((2 : ℝ) ^ ((n : ℤ) - 127) : ℝ) : EReal) := by
  obtain ⟨e1, e2, e3⟩ := fields ⟨n, by omega⟩
  exact ieee_normal _ n e1 e2 e3 (by omega) (by omega)

theorem pw_top : pw 255 = ⊤ := by
  obtain ⟨h1, h2, h3⟩ := fields 255
  simp only [show ((255 : Fin 256) : Nat) = 255 from rfl] at h1 h2 h3
  simp only [pw, pwW, Ideal.ofBits, Ideal.ieee, h1, h2, h3]
  norm_num

theorem pw_mono {s t : Nat} (h : s ≤ t) (ht : t ≤ 255) : pw s ≤ pw t := by
  rcases Nat.eq_or_lt_of_le ht with rfl | ht
  · rw [pw_top]; exact le_top
  rcases Nat.eq_zero_or_pos s with rfl | hs
  · rw [pw_zero]
    rcases Nat.eq_zero_or_pos t with rfl | h0
    · rw [pw_zero]
    · rw [pw_mid t h0 (by omega)]; exact_mod_cast (zpow_pos (by norm_num : (0 : ℝ) < 2) _).le
  · rw [pw_mid s hs (by omega), pw_mid t (by omega) (by omega)]
    have h4 : (s : ℤ) - 127 ≤ (t : ℤ) - 127 := by omega
    exact EReal.coe_le_coe_iff.mpr (zpow_le_zpow_right₀ (by norm_num : (1 : ℝ) ≤ 2) h4)

/-- One bit tried, `2 * b` numbers being still open. -/
theorem bit_step {y : EReal} (n b : Nat) (hb : n + 2 * b ≤ 256) (h0 : pw n ≤ y) (h1 : ∀ t, n + 2 * b ≤ t → t ≤ 255 → ¬ pw t ≤ y) :
    ∃ m, bitS y (BitVec.ofNat 32 b) (BitVec.ofNat 32 n) = BitVec.ofNat 32 m ∧ m + b ≤ 256 ∧ pw m ≤ y ∧
      ∀ t, m + b ≤ t → t ≤ 255 → ¬ pw t ≤ y := by
  have e : IntOp.addi (BitVec.ofNat 32 n) (BitVec.ofNat 32 b) = BitVec.ofNat 32 (n + b) := (BitVec.ofNat_add n b).symm
  unfold bitS
  rw [e]
  by_cases h : pw (n + b) ≤ y
  · refine ⟨n + b, ?_, by omega, h, fun t ht => h1 t (by omega)⟩
    rw [show Ideal.cmp .oge y (pwW (BitVec.ofNat 32 (n + b))) = 1#1 from congrArg BitVec.ofBool (decide_eq_true h)]; rfl
  · refine ⟨n, ?_, by omega, h0, fun t ht ht' hp => h ((pw_mono ht ht').trans hp)⟩
    rw [show Ideal.cmp .oge y (pwW (BitVec.ofNat 32 (n + b))) = 0#1 from congrArg BitVec.ofBool (decide_eq_false h)]; rfl

/-- The field found is that of the greatest power of two not above `y`. -/
theorem field_spec {y : EReal} (hy : 0 ≤ y) : ∃ n : Nat, fieldS y = BitVec.ofNat 32 n ∧ n ≤ 255 ∧ pw n ≤ y ∧
    ∀ t, n + 1 ≤ t → t ≤ 255 → ¬ pw t ≤ y := by
  obtain ⟨n0, e0, l0, p0, q0⟩ := bit_step (y := y) 0 128 (by norm_num) (by rw [pw_zero]; exact hy) (fun t h1 h2 => by omega)
  obtain ⟨n1, e1, l1, p1, q1⟩ := bit_step n0 64 l0 p0 q0
  obtain ⟨n2, e2, l2, p2, q2⟩ := bit_step n1 32 l1 p1 q1
  obtain ⟨n3, e3, l3, p3, q3⟩ := bit_step n2 16 l2 p2 q2
  obtain ⟨n4, e4, l4, p4, q4⟩ := bit_step n3 8 l3 p3 q3
  obtain ⟨n5, e5, l5, p5, q5⟩ := bit_step n4 4 l4 p4 q4
  obtain ⟨n6, e6, l6, p6, q6⟩ := bit_step n5 2 l5 p5 q5
  obtain ⟨n7, e7, l7, p7, q7⟩ := bit_step n6 1 l6 p6 q6
  refine ⟨n7, ?_, by omega, p7, q7⟩
  unfold fieldS
  rw [e0, e1, e2, e3, e4, e5, e6, e7]

/-! ## The reference's scale -/

/-- The reference's exponent: zero below the least normal number, else one more than the floor of the binary logarithm. -/
def expR (y : EReal) : EReal :=
  Scalar.select (Ideal.cmp .olt y (Ideal.ofBits .f32 0x00800000#32)) (Ideal.ofBits .f32 0x00000000#32)
    (Ideal.liftRound Int.floor (Ideal.div (Ideal.log y) (Ideal.log (Ideal.ofBits .f32 0x40000000#32))) + Ideal.ofBits .f32 0x3F800000#32)

def scaleR (y : EReal) : EReal := Ideal.pow (Ideal.ofBits .f32 0x40000000#32) (expR y)
def invR (y : EReal) : EReal := Ideal.pow (Ideal.ofBits .f32 0x40000000#32) (-expR y)

theorem least_normal : Ideal.ofBits .f32 0x00800000#32 = pw 1 := rfl
theorem two_bits : Ideal.ofBits .f32 0x40000000#32 = ((2 : ℝ) : EReal) := by
  rw [show Ideal.ofBits .f32 0x40000000#32 = pw 128 from rfl, pw_mid 128 (by norm_num) (by norm_num)]; norm_num

theorem pow_two (k : ℤ) : Ideal.pow (Ideal.ofBits .f32 0x40000000#32) (((k : ℝ) : ℝ) : EReal) = (((2 : ℝ) ^ k : ℝ) : EReal) := by
  rw [two_bits, Ideal.pow_coe_coe]; congr 1; exact Real.rpow_intCast 2 k

/-- The exponent both find. -/
theorem agree {y : ℝ} (hy : 0 ≤ y) (hlt : y < (2 : ℝ) ^ (126 : ℤ)) : ∃ k : ℤ, ∃ n : Nat, 126 ≤ n + 125 ∧ n ≤ 252 ∧ k = n - 126 ∧
    expS (y : EReal) = BitVec.ofNat 32 n ∧ expR (y : EReal) = ((k : ℝ) : EReal) := by
  obtain ⟨n, e, hn, h1, h2⟩ := field_spec (y := (y : EReal)) (by exact_mod_cast hy)
  have hn2 : n ≤ 252 := by
    by_contra h
    have := (pw_mono (s := 253) (by omega : 253 ≤ n) hn).trans h1
    rw [pw_mid 253 (by norm_num) (by norm_num)] at this
    have h3 : (2 : ℝ) ^ (((253 : Nat) : ℤ) - 127) ≤ y := by exact_mod_cast this
    exact absurd hlt (not_lt.mpr (by norm_num at h3 ⊢; exact h3))
  rcases Nat.eq_zero_or_pos n with rfl | hn0
  · refine ⟨0, 126, by norm_num, by norm_num, by norm_num, ?_, ?_⟩
    · unfold expS; rw [e]; rfl
    · have : (y : EReal) < pw 1 := not_le.mp (h2 1 (by norm_num) (by norm_num))
      unfold expR
      rw [least_normal, show Ideal.cmp .olt (y : EReal) (pw 1) = 1#1 from congrArg BitVec.ofBool (decide_eq_true this)]
      simp [Scalar.select]
  · refine ⟨n - 126, n, by omega, hn2, rfl, ?_, ?_⟩
    · unfold expS; rw [e]
      have : ∀ m : Fin 256, 0 < m.val → IntOp.cmpi .eq (BitVec.ofNat 32 m.val) 0#32 = 0#1 := by decide +kernel
      rw [this ⟨n, by omega⟩ hn0]; rfl
    · have hp : pw 1 ≤ (y : EReal) := (pw_mono (s := 1) hn0 hn).trans h1
      have hlo : (2 : ℝ) ^ ((n : ℤ) - 127) ≤ y := by rw [pw_mid n hn0 (by omega)] at h1; exact_mod_cast h1
      have hhi : y < (2 : ℝ) ^ ((n : ℤ) - 126) := by
        have := not_le.mp (h2 (n + 1) (by omega) (by omega))
        rw [pw_mid (n + 1) (by omega) (by omega)] at this
        have h3 : y < (2 : ℝ) ^ (((n + 1 : Nat) : ℤ) - 127) := by exact_mod_cast this
        rwa [show (((n + 1 : Nat) : ℤ) - 127) = (n : ℤ) - 126 by push_cast; ring] at h3
      have hpos : 0 < y := lt_of_lt_of_le (zpow_pos (by norm_num) _) hlo
      unfold expR
      rw [least_normal, show Ideal.cmp .olt (y : EReal) (pw 1) = 0#1 from congrArg BitVec.ofBool (decide_eq_false (not_lt.mpr hp))]
      show Ideal.liftRound Int.floor _ + _ = _
      rw [two_bits, Ideal.log_coe, Ideal.log_coe, if_neg (not_le.mpr hpos), if_neg (by norm_num), Ideal.ofBits_one_f32]
      have hl2 : Real.log 2 ≠ 0 := (Real.log_pos (by norm_num)).ne'
      rw [Ideal.div_coe hl2, ← EReal.coe_mul, Ideal.liftRound_coe]
      have : ⌊Real.log y * (1 / Real.log 2)⌋ = (n : ℤ) - 127 := by
        rw [mul_one_div, Int.floor_eq_iff]
        have hl : 0 < Real.log 2 := Real.log_pos (by norm_num)
        constructor
        · rw [le_div_iff₀ hl, ← Real.log_zpow]; exact Real.log_le_log (zpow_pos (by norm_num) _) hlo
        · rw [div_lt_iff₀ hl, show (((n : ℤ) - 127 : ℤ) : ℝ) + 1 = (((n : ℤ) - 126 : ℤ) : ℝ) by push_cast; ring, ← Real.log_zpow]
          exact Real.log_lt_log hpos hhi
      rw [this]
      have h1' : (1 : EReal) = ((1 : ℝ) : EReal) := rfl
      rw [h1', ← EReal.coe_add]; congr 1; push_cast; ring

theorem scale_agree {y : ℝ} (hy : 0 ≤ y) (hlt : y < (2 : ℝ) ^ (126 : ℤ)) : scaleS (y : EReal) = scaleR (y : EReal) ∧
    ∃ k : ℤ, scaleR (y : EReal) = (((2 : ℝ) ^ k : ℝ) : EReal) := by
  obtain ⟨k, n, h1, h2, h3, e1, e2⟩ := agree hy hlt
  have hR : scaleR (y : EReal) = (((2 : ℝ) ^ k : ℝ) : EReal) := by unfold scaleR; rw [e2, pow_two]
  refine ⟨?_, k, hR⟩
  rw [hR]; unfold scaleS
  rw [e1, show IntOp.addi (BitVec.ofNat 32 n) 1#32 = BitVec.ofNat 32 (n + 1) from (BitVec.ofNat_add n 1).symm]
  show pw (n + 1) = _
  rw [pw_mid _ (by omega) (by omega), h3]; congr 2; push_cast; ring

theorem inv_agree {y : ℝ} (hy : 0 ≤ y) (hlt : y < (2 : ℝ) ^ (126 : ℤ)) : invS (y : EReal) = invR (y : EReal) ∧
    ∃ k : ℤ, invR (y : EReal) = (((2 : ℝ) ^ k : ℝ) : EReal) := by
  obtain ⟨k, n, h1, h2, h3, e1, e2⟩ := agree hy hlt
  have hR : invR (y : EReal) = (((2 : ℝ) ^ (-k) : ℝ) : EReal) := by
    unfold invR; rw [e2, ← EReal.coe_neg, ← Int.cast_neg, pow_two]
  refine ⟨?_, -k, hR⟩
  rw [hR]; unfold invS
  have : ∀ m : Fin 253, IntOp.subi 253#32 (BitVec.ofNat 32 m.val) = BitVec.ofNat 32 (253 - m.val) := by decide +kernel
  rw [e1, this ⟨n, by omega⟩]
  show pw (253 - n) = _
  rw [pw_mid _ (by omega) (by omega), h3]; congr 2; rw [Nat.cast_sub (by omega)]; push_cast; ring

end Cert.Row
-- ==== Proof.Row.Row.lean ====
module

public import proofs.«01_k».proof.Proof.Row.Scale

/-! One row on the extended reals: its scale and its codes as the kernel forms them and as the reference does, and
    one head of its projection. The two forms agree for gains a bf16 can hold. -/

@[expose] public section

noncomputable section

namespace Cert.Row

open Idealize.ShloMosaic

def eps : EReal := Ideal.ofBits .f32 0x358637BD#32
def rcp448 : EReal := Ideal.ofBits .f32 0x3B124925#32
def lo448 : EReal := Ideal.ofBits .f32 0xC3E00000#32
def hi448 : EReal := Ideal.ofBits .f32 0x43E00000#32
def w3584 : EReal := Ideal.ofBits .f32 0x45600000#32
def w128 : EReal := Ideal.ofBits .f32 0x43000000#32
def gMax : EReal := Ideal.ofBits .f32 0x7F7F0000#32
/-- Clipping to the range of the codes. -/
def clip (x : EReal) : EReal := min hi448 (max lo448 x)

theorem eps_eq : ∃ e : ℝ, 0 < e ∧ eps = ((e : ℝ) : EReal) := by
  refine ⟨(8388608 + 407485) * 2 ^ (-43 : ℤ), by positivity, ?_⟩
  unfold eps
  simp [Ideal.ofBits, Ideal.ieee, -EReal.coe_mul]; norm_num
theorem rcp448_eq : ∃ e : ℝ, 0 < e ∧ e ≤ 1 / 440 ∧ rcp448 = ((e : ℝ) : EReal) := by
  refine ⟨(8388608 + 1198373) * 2 ^ (-32 : ℤ), by positivity, by norm_num, ?_⟩
  unfold rcp448
  simp [Ideal.ofBits, Ideal.ieee, -EReal.coe_mul]; norm_num
theorem w3584_eq : w3584 = ((3584 : ℝ) : EReal) := by
  unfold w3584
  simp [Ideal.ofBits, Ideal.ieee, -EReal.coe_mul]; norm_num
theorem gMax_eq : gMax = ((255 * 2 ^ 120 : ℝ) : EReal) := by
  unfold gMax
  simp [Ideal.ofBits, Ideal.ieee, -EReal.coe_mul]; norm_num

section
variable (X G : Fin 3584 → EReal)

/-! ## As the kernel forms them -/

def msK : EReal := (∑ j, X j * X j) * ((1 / 3584 : ℝ) : EReal)
def rK : EReal := Ideal.rsqrt (msK X + eps)
def amK : EReal := Finset.univ.sup fun j => max (X j * G j) (-(X j * G j))
def yK : EReal := amK X G * rK X * rcp448
def scK : EReal := scaleS (yK X G)
def cdK (j : Fin 3584) : EReal := clip (X j * G j * (rK X * invS (yK X G)))

/-! ## As the reference forms them -/

def msR : EReal := Ideal.div (∑ j, X j * X j) w3584
def rR : EReal := Ideal.rsqrt (msR X + eps)
def hR (j : Fin 3584) : EReal := X j * rR X * G j
def amR : EReal := Finset.univ.sup fun j => max (hR X G j) (-(hR X G j))
def yR : EReal := amR X G * rcp448
def scR : EReal := scaleR (yR X G)
def cdR (j : Fin 3584) : EReal := clip (hR X G j * invR (yR X G))

theorem msR_eq : msR X = msK X := by
  unfold msR msK; rw [w3584_eq, Ideal.div_coe (by norm_num)]

theorem rR_eq : rR X = rK X := by unfold rR rK; rw [msR_eq]

theorem sq_nonneg' (x : EReal) : 0 ≤ x * x := by
  induction x with
  | bot => simp
  | top => simp
  | coe r => exact_mod_cast mul_self_nonneg r

/-- A row with an infinite element: both forms give scale one and codes zero. -/
theorem infinite (h : ∃ j, X j = ⊤ ∨ X j = ⊥) : rK X = 0 := by
  obtain ⟨j, hj⟩ := h
  have h1 : X j * X j = ⊤ := by rcases hj with h | h <;> rw [h] <;> simp
  have h2 : (∑ j, X j * X j) = ⊤ := top_le_iff.mp (h1 ▸ Finset.single_le_sum (f := fun j => X j * X j) (fun i _ => sq_nonneg' _) (Finset.mem_univ j))
  obtain ⟨e, _, he⟩ := eps_eq
  unfold rK msK
  rw [h2, EReal.top_mul_coe_of_pos (by norm_num), he, EReal.top_add_coe, Ideal.rsqrt_top]

theorem sup_const_zero : (Finset.univ.sup fun _ : Fin 3584 => max (0 : EReal) (-0)) = 0 := by
  rw [neg_zero, max_self]
  exact le_antisymm (Finset.sup_le fun _ _ => le_rfl) (Finset.le_sup (f := fun _ : Fin 3584 => (0 : EReal)) (Finset.mem_univ 0))

/-- The greatest magnitude of real numbers is attained. -/
theorem sup_abs (f : Fin 3584 → ℝ) : ∃ j, (∀ i, |f i| ≤ |f j|) ∧
    (Finset.univ.sup fun i => max ((f i : ℝ) : EReal) (-((f i : ℝ) : EReal))) = ((|f j| : ℝ) : EReal) := by
  obtain ⟨j, hj⟩ := Finite.exists_max fun i => |f i|
  have e : ∀ i, max ((f i : ℝ) : EReal) (-((f i : ℝ) : EReal)) = ((|f i| : ℝ) : EReal) := fun i => by
    rw [← EReal.coe_neg, abs_eq_max_neg]; exact (EReal.coe_strictMono.monotone.map_max).symm
  refine ⟨j, hj, ?_⟩
  simp only [e]
  exact le_antisymm (Finset.sup_le fun i _ => EReal.coe_le_coe_iff.mpr (hj i))
    (Finset.le_sup (f := fun i => ((|f i| : ℝ) : EReal)) (Finset.mem_univ j))

/-- The two forms agree. -/
theorem row_agree (hG : ∀ j, max (G j) (-(G j)) ≤ gMax) : scK X G = scR X G ∧ ∀ j, cdK X G j = cdR X G j := by
  obtain ⟨c, hc0, hc1, hc⟩ := rcp448_eq
  obtain ⟨e, he0, he⟩ := eps_eq
  have hg : ∃ g : Fin 3584 → ℝ, (∀ j, G j = ((g j : ℝ) : EReal)) ∧ ∀ j, |g j| ≤ 255 * 2 ^ 120 := by
    have : ∀ j, ∃ r : ℝ, G j = ((r : ℝ) : EReal) ∧ |r| ≤ 255 * 2 ^ 120 := fun j => by
      have h := hG j
      rw [gMax_eq] at h
      induction hx : G j with
      | bot => rw [hx, EReal.neg_bot] at h; exact absurd ((le_max_right _ _).trans h) (not_le.mpr (EReal.coe_lt_top _))
      | top => rw [hx] at h; exact absurd ((le_max_left _ _).trans h) (not_le.mpr (EReal.coe_lt_top _))
      | coe r =>
        rw [hx] at h
        refine ⟨r, rfl, abs_le'.mpr ⟨?_, ?_⟩⟩
        · exact_mod_cast (le_max_left _ _).trans h
        · have := (le_max_right _ _).trans h; rw [← EReal.coe_neg] at this; exact EReal.coe_le_coe_iff.mp this
    choose g h using this
    exact ⟨g, fun j => (h j).1, fun j => (h j).2⟩
  obtain ⟨g, hg, hgb⟩ := hg
  have z126 : (0 : ℝ) < 2 ^ (126 : ℤ) := by positivity
  by_cases h : ∃ j, X j = ⊤ ∨ X j = ⊥
  · have r0 := infinite X h
    have hy : yK X G = ((0 : ℝ) : EReal) := by unfold yK; rw [r0, mul_zero, zero_mul]; rfl
    have hR0 : ∀ j, hR X G j = 0 := fun j => by unfold hR; rw [rR_eq, r0, mul_zero, zero_mul]
    have hy' : yR X G = ((0 : ℝ) : EReal) := by
      unfold yR amR; simp only [hR0]; rw [sup_const_zero, zero_mul]; rfl
    refine ⟨?_, fun j => ?_⟩
    · unfold scK scR; rw [hy, hy']; exact (scale_agree le_rfl z126).1
    · unfold cdK cdR; rw [r0, hR0, zero_mul, zero_mul, mul_zero]
  · have hx : ∀ j, ∃ r : ℝ, X j = ((r : ℝ) : EReal) := fun j => by
      induction hx : X j with
      | bot => exact absurd ⟨j, .inr hx⟩ h
      | top => exact absurd ⟨j, .inl hx⟩ h
      | coe r => exact ⟨r, rfl⟩
    choose x hx using hx
    obtain ⟨s, hs0, hsx, hms⟩ : ∃ s : ℝ, 0 ≤ s ∧ (∀ j, x j * x j ≤ 3584 * s) ∧ msK X = ((s : ℝ) : EReal) := by
      refine ⟨(∑ j, x j * x j) * (1 / 3584), mul_nonneg (Finset.sum_nonneg fun i _ => mul_self_nonneg _) (by norm_num), fun j => ?_, ?_⟩
      · have := Finset.single_le_sum (f := fun j => x j * x j) (fun i _ => mul_self_nonneg _) (Finset.mem_univ j)
        linarith
      · unfold msK; simp only [hx, ← EReal.coe_mul]
        rw [show (∑ j, ((x j * x j : ℝ) : EReal)) = ((∑ j, x j * x j : ℝ) : EReal) from ?_, ← EReal.coe_mul]
        exact (map_sum (⟨⟨Real.toEReal, EReal.coe_zero⟩, EReal.coe_add⟩ : ℝ →+ EReal) _ _).symm
    have hse : 0 < s + e := by linarith
    have hsq : 0 < Real.sqrt (s + e) := Real.sqrt_pos.mpr hse
    obtain ⟨r, hr0, hr, hrx⟩ : ∃ r : ℝ, 0 < r ∧ rK X = ((r : ℝ) : EReal) ∧ ∀ j, |x j| * r ≤ 60 := by
      refine ⟨(Real.sqrt (s + e))⁻¹, inv_pos.mpr hsq, ?_, fun j => ?_⟩
      · unfold rK; rw [hms, he, ← EReal.coe_add, Ideal.rsqrt_coe, if_neg (not_lt.mpr hse.le), if_neg hse.ne']
      · rw [← div_eq_mul_inv, div_le_iff₀ hsq]
        have h60 : x j ^ 2 ≤ (60 * Real.sqrt (s + e)) ^ 2 := by rw [mul_pow, Real.sq_sqrt hse.le]; nlinarith [hsx j]
        exact abs_le_of_sq_le_sq h60 (by positivity)
    have eK : ∀ j, X j * G j = ((x j * g j : ℝ) : EReal) := fun j => by rw [hx, hg, EReal.coe_mul]
    have eR : ∀ j, hR X G j = ((x j * r * g j : ℝ) : EReal) := fun j => by
      unfold hR; rw [rR_eq, hr, hx, hg, EReal.coe_mul, EReal.coe_mul]
    obtain ⟨j0, hj0, hK⟩ := sup_abs fun j => x j * g j
    obtain ⟨j1, hj1, hR'⟩ := sup_abs fun j => x j * r * g j
    have hab : |x j1 * r * g j1| = |x j0 * g j0| * r := by
      have e1 : ∀ j, |x j * r * g j| = |x j * g j| * r := fun j => by
        rw [show x j * r * g j = x j * g j * r by ring, abs_mul, abs_of_pos hr0]
      refine le_antisymm ?_ ?_
      · rw [e1]; exact mul_le_mul_of_nonneg_right (hj0 j1) hr0.le
      · rw [← e1]; exact hj1 j0
    have hyK : yK X G = ((|x j0 * g j0| * r * c : ℝ) : EReal) := by
      unfold yK amK; simp only [eK]; rw [hK, hr, hc, ← EReal.coe_mul, ← EReal.coe_mul]
    have hyR : yR X G = ((|x j0 * g j0| * r * c : ℝ) : EReal) := by
      unfold yR amR; simp only [eR]; rw [hR', hc, hab, ← EReal.coe_mul]
    have y0 : 0 ≤ |x j0 * g j0| * r * c := by positivity
    have y1 : |x j0 * g j0| * r * c < 2 ^ (126 : ℤ) := by
      have h1 : |x j0 * g j0| * r = |x j0| * r * |g j0| := by rw [abs_mul]; ring
      have h2 : |x j0| * r * |g j0| ≤ 60 * (255 * 2 ^ 120) := mul_le_mul (hrx j0) (hgb j0) (abs_nonneg _) (by norm_num)
      calc |x j0 * g j0| * r * c ≤ 60 * (255 * 2 ^ 120) * (1 / 440) := by
            rw [h1]; exact mul_le_mul h2 hc1 hc0.le (by positivity)
        _ < 2 ^ (126 : ℤ) := by norm_num
    refine ⟨?_, fun j => ?_⟩
    · unfold scK scR; rw [hyK, hyR]; exact (scale_agree y0 y1).1
    · obtain ⟨e1, k, e2⟩ := inv_agree y0 y1
      unfold cdK cdR; rw [hyK, hyR, e1, e2, eK, eR, hr, ← EReal.coe_mul, ← EReal.coe_mul, ← EReal.coe_mul]
      exact congrArg (fun t : ℝ => clip (t : EReal)) (by ring)

end

/-! ## One head of the row's projection -/

/-- The row's product with one column. -/
def dotS (cd : Fin 3584 → EReal) (w : Fin 3584 → EReal) : EReal := ∑ j, cd j * w j

/-- The reciprocal root mean square of one head. -/
def rHead (d : Fin 128 → EReal) : EReal := Ideal.rsqrt (Ideal.div (∑ k, d k * d k) w128 + eps)

/-- One head normalized. -/
def headS (d gain : Fin 128 → EReal) (l : Fin 128) : EReal := d l * rHead d * gain l

end Cert.Row
-- ==== Proof.Row.Tile.lean ====
module

public import proofs.«01_k».proof.Proof.Slot
public import proofs.«01_k».proof.Proof.Row.Row
public import Idealize.ShloMosaic.Lib.IdealHost
public import Idealize.ShloMosaic.Lib.ValueIdx
public import Idealize.ShloMosaic.PureOps.Ideal.Laws

/-! A tile's codes and scales on the extended reals, read at an index: those of its rows. -/

@[expose] public section

noncomputable section

namespace Cert.Row

open Idealize.ShloMosaic
open Cert.Spec hiding ix2 ix3
open ValueIdx (ix1 ix2 ix3 ix4)

/-- A sum over a row taken in fourteen blocks of two halves. -/
theorem sum_blocks (f : Fin 3584 → EReal) :
    ∑ l : Fin 128, ((∑ c : Fin 14, f ⟨256 * c.val + l.val, by omega⟩) + ∑ c : Fin 14, f ⟨256 * c.val + (128 + l.val), by omega⟩)
      = ∑ j, f j := by
  rw [Finset.sum_add_distrib, Finset.sum_comm, Finset.sum_comm (s := (Finset.univ : Finset (Fin 128))), ← Finset.sum_add_distrib]
  rw [← (finProdFinEquiv (m := 14) (n := 256)).sum_comp f, Fintype.sum_prod_type]
  refine Finset.sum_congr rfl fun c _ => ?_
  refine Eq.trans ?_ (Fin.sum_univ_add (a := 128) (b := 128) (fun m => f (finProdFinEquiv (c, m)))).symm
  refine congrArg₂ (· + ·) ?_ ?_
  · refine Finset.sum_congr rfl fun l _ => congrArg f (Fin.ext ?_)
    show 256 * c.val + l.val = l.val + 256 * c.val; omega
  · refine Finset.sum_congr rfl fun l _ => congrArg f (Fin.ext ?_)
    show 256 * c.val + (128 + l.val) = (128 + l.val) + 256 * c.val; omega

section
variable (x : S256x3584.Idx → EReal) (gw : S1x3584.Idx → EReal)

/-- A row of the tile. -/
def rowX (r : Fin 256) : Fin 3584 → EReal := fun j => x (ix2 r j)
/-- The gains. -/
def rowG : Fin 3584 → EReal := fun j => gw (ix2 0 j)

theorem self_at {s : Shape} {α : Type} (v : s.Idx → α) (h : s.ShapeCasts s) (i : s.Idx) : shapeCast s v h i = v i := by
  rw [shapeCast_self]

theorem sqV_at (g : Fin 8) (k : Fin 4) (c : Fin 14) (r : Fin 8) (l : Fin 256) :
    sqV (F := Ideal) x g k c (ix2 r l)
      = rowX x ⟨32 * g.val + 8 * k.val + r.val, by omega⟩ ⟨256 * c.val + l.val, by omega⟩
        * rowX x ⟨32 * g.val + 8 * k.val + r.val, by omega⟩ ⟨256 * c.val + l.val, by omega⟩ := by
  have e : (shapeCast S8x256 (blk x ![32 * g.val + 8 * k.val, 256 * c.val] ![8, 256] (in2 (by omega) (by omega))) (by decide) : S8x256.Idx → EReal) (ix2 r l)
      = rowX x ⟨32 * g.val + 8 * k.val + r.val, by omega⟩ ⟨256 * c.val + l.val, by omega⟩ := by
    refine (self_at (s := S8x256) _ _ _).trans (congrArg x ?_)
    funext a; apply Fin.ext
    fin_cases a
    · show 32 * g.val + 8 * k.val + 1 * r.val = 32 * g.val + 8 * k.val + r.val; omega
    · show 256 * c.val + 1 * l.val = 256 * c.val + l.val; omega
  exact congrArg₂ (fun p q : EReal => p * q) e e

theorem sqAcc_at (g : Fin 8) (k : Fin 4) (i : S8x256.Idx) (n : Nat) :
    sqAcc (F := Ideal) x g k n i
      = ∑ c ∈ Finset.range (n + 1), (if h : c < 14 then (sqV (F := Ideal) x g k ⟨c, h⟩ i : EReal) else 0) := by
  induction n with
  | zero => simp [sqAcc]
  | succ n ih =>
    rw [Finset.sum_range_succ, ← ih]
    by_cases h : n + 1 < 14
    · rw [dif_pos h, sqAcc, dif_pos h]; rfl
    · rw [dif_neg h, sqAcc, dif_neg h, add_zero]

theorem sqAcc_sum (g : Fin 8) (k : Fin 4) (i : S8x256.Idx) :
    sqAcc (F := Ideal) x g k 13 i = ∑ c : Fin 14, (sqV (F := Ideal) x g k c i : EReal) := by
  rw [sqAcc_at, Finset.sum_range]
  exact Finset.sum_congr rfl fun c _ => dif_pos c.isLt

theorem foldSq_at (v : FVec Ideal S8x256 .f32) (r : Fin 8) :
    foldSq v (ix2 r 0) = ∑ l : Fin 128, ((v (ix2 r ⟨l.val, by omega⟩) : EReal) + v (ix2 r ⟨128 + l.val, by omega⟩)) := by
  unfold foldSq
  refine (shapeCast_apply _ _ (ix2 r 0) (ix1 r) ?_).trans ?_
  · rw [Shape.rowMajor_val_one, Shape.rowMajor_val_two]; show r.val = r.val * 1 + 0; omega
  refine (Ideal.multiReduction_add_single _ _ _ _ _ _).trans ?_
  refine Finset.sum_congr rfl fun l _ => ?_
  refine congrArg₂ (fun p q : EReal => p + q) ?_ ?_
  · refine extractStridedSlice_apply _ _ _ _ _ ?_
    intro a; fin_cases a
    · show r.val = 0 + r.val; omega
    · show l.val = 0 + l.val; omega
  · refine extractStridedSlice_apply _ _ _ _ _ ?_
    intro a; fin_cases a
    · show r.val = 0 + r.val; omega
    · rfl

theorem rows_at (g : Fin 8) (k : Fin 4) (r : Fin 8) :
    foldSq (sqAcc (F := Ideal) x g k 13) (ix2 r 0)
      = ∑ j, rowX x ⟨32 * g.val + 8 * k.val + r.val, by omega⟩ j * rowX x ⟨32 * g.val + 8 * k.val + r.val, by omega⟩ j := by
  rw [foldSq_at, ← sum_blocks]
  refine Finset.sum_congr rfl fun l _ => ?_
  rw [sqAcc_sum, sqAcc_sum]
  refine congrArg₂ (fun p q : EReal => p + q) ?_ ?_ <;> exact Finset.sum_congr rfl fun c _ => sqV_at x g k c r _

def invD : EReal := ((1 / 3584 : ℝ) : EReal)

theorem msV_at (g : Fin 8) (r : Fin 32) :
    msV (F := Ideal) invD x g (ix2 r 0) = msK (rowX x ⟨32 * g.val + r.val, by omega⟩) := by
  have e := concatenate_ofFn_apply (t := S32x1) (s₁ := S8x1) 0 (N := 4) (fun k => foldSq (sqAcc (F := Ideal) x g k 13)) concat4 rfl 8 rfl
    (ix2 r 0) ⟨r.val / 8, by omega⟩ rfl (ix2 ⟨r.val % 8, by omega⟩ 0) rfl (by
      intro b hb; fin_cases b
      · exact absurd rfl hb
      · rfl)
  rw [rows_at] at e
  refine congrArg (fun p : EReal => p * invD) (e.trans ?_)
  have hr : (⟨32 * g.val + 8 * (r.val / 8) + r.val % 8, by omega⟩ : Fin 256) = ⟨32 * g.val + r.val, by omega⟩ := Fin.ext (by show 32 * g.val + 8 * (r.val / 8) + r.val % 8 = 32 * g.val + r.val; omega)
  exact congrArg (fun R => ∑ j, rowX x R j * rowX x R j) hr

theorem rV_at (g : Fin 8) (r : Fin 32) :
    rV (F := Ideal) invD x g (ix2 r 0) = rK (rowX x ⟨32 * g.val + r.val, by omega⟩) :=
  congrArg (fun p : EReal => Ideal.rsqrt (p + eps)) (msV_at x g r)

theorem uV_at (g : Fin 8) (c : Fin 28) (r : Fin 32) (l : Fin 128) :
    uV (F := Ideal) x gw g c (ix2 r l)
      = rowX x ⟨32 * g.val + r.val, by omega⟩ ⟨128 * c.val + l.val, by omega⟩ * rowG gw ⟨128 * c.val + l.val, by omega⟩ := by
  refine congrArg₂ (fun p q : EReal => p * q) ?_ ?_
  · refine (self_at (s := S32x128) (blk x ![32 * g.val, 128 * c.val] ![32, 128] (in2 (by omega) (by omega))) (by decide) (ix2 r l)).trans (congrArg x ?_)
    funext a; apply Fin.ext
    fin_cases a
    · show 32 * g.val + 1 * r.val = 32 * g.val + r.val; omega
    · show 128 * c.val + 1 * l.val = 128 * c.val + l.val; omega
  · refine (broadcastTo_apply (s := S1x128) _ _ _ (ix2 0 l) ?_).trans (congrArg gw ?_)
    · intro a; fin_cases a <;> rfl
    · funext a; apply Fin.ext
      fin_cases a
      · rfl
      · show 128 * c.val + 1 * l.val = 128 * c.val + l.val; omega

theorem uMax_le (g : Fin 8) (i : S32x128.Idx) (z : EReal) (n : Nat) :
    (uMax (F := Ideal) x gw g n i : EReal) ≤ z
      ↔ ∀ c : Fin 28, c.val ≤ n → max (uV (F := Ideal) x gw g c i : EReal) (-(uV (F := Ideal) x gw g c i : EReal)) ≤ z := by
  induction n with
  | zero =>
    refine ⟨fun h c hc => ?_, fun h => h 0 (Nat.le_refl _)⟩
    have : c = 0 := Fin.ext (by show c.val = 0; omega)
    rw [this]; exact h
  | succ n ih =>
    by_cases h : n + 1 < 28
    · rw [uMax, dif_pos h]
      have e : (maximumf (uMax (F := Ideal) x gw g n) (absf (uV (F := Ideal) x gw g ⟨n + 1, h⟩)) i : EReal)
          = max (uMax (F := Ideal) x gw g n i : EReal)
              (max (uV (F := Ideal) x gw g ⟨n + 1, h⟩ i : EReal) (-(uV (F := Ideal) x gw g ⟨n + 1, h⟩ i : EReal))) := rfl
      rw [e, max_le_iff, ih]
      refine ⟨fun ⟨h1, h2⟩ c hc => ?_, fun h1 => ⟨fun c hc => h1 c (by omega), h1 _ (Nat.le_refl _)⟩⟩
      rcases Nat.lt_or_ge n c.val with h3 | h3
      · have : c = ⟨n + 1, h⟩ := Fin.ext (by show c.val = n + 1; omega)
        rw [this]; exact h2
      · exact h1 c h3
    · rw [uMax, dif_neg h, ih]
      exact ⟨fun h1 c hc => h1 c (by have := c.isLt; omega), fun h1 c hc => h1 c (by omega)⟩

theorem negInf : (FloatOps.ofBits (F := Ideal) .f32 0xFF800000#32 : EReal) = ⊥ := by
  show Ideal.ofBits .f32 0xFF800000#32 = ⊥
  simp [Ideal.ofBits, Ideal.ieee]

theorem amax_at (g : Fin 8) (r : Fin 32) (h₁ h₂ h₃ h₄) :
    (shapeCast S32x1 (multiReduction .maximumf [1] S32 (uMax (F := Ideal) x gw g 27) 0xFF800000#32 h₁ h₂ h₃) h₄ : S32x1.Idx → EReal) (ix2 r 0)
      = amK (rowX x ⟨32 * g.val + r.val, by omega⟩) (rowG gw) := by
  refine (shapeCast_apply _ _ (ix2 r 0) (ix1 r) ?_).trans ?_
  · rw [Shape.rowMajor_val_one, Shape.rowMajor_val_two]; show r.val = r.val * 1 + 0; omega
  refine (Ideal.multiReduction_maximumf_single _ _ _ _ _ _).trans ?_
  refine eq_of_forall_ge_iff fun z => ?_
  refine (Finset.fold_max_le _).trans ?_
  unfold amK
  rw [Finset.sup_le_iff]
  have hl : ∀ l : Fin 128, (uMax (F := Ideal) x gw g 27 (Shape.Reduces.lift (s := S32x128) (a := 1) (t := S32) (by decide) (ix1 r) l) : EReal)
      = uMax (F := Ideal) x gw g 27 (ix2 r l) := fun l => congrArg _ (by funext a; apply Fin.ext; fin_cases a <;> rfl)
  constructor
  · rintro ⟨-, h⟩ j -
    have := le_of_eq_of_le (hl ⟨j.val % 128, by omega⟩).symm (h ⟨j.val % 128, Nat.mod_lt _ (by decide)⟩ (Finset.mem_univ _))
    have := (uMax_le x gw g _ z 27).1 this ⟨j.val / 128, by omega⟩ (by show j.val / 128 ≤ 27; omega)
    rw [uV_at] at this
    have hj : (⟨128 * (j.val / 128) + j.val % 128, by omega⟩ : Fin 3584) = j := Fin.ext (Nat.div_add_mod _ _)
    simpa only [hj] using this
  · intro h
    refine ⟨by rw [negInf]; exact bot_le, fun l _ => ?_⟩
    refine le_of_eq_of_le (hl l) ?_
    refine (uMax_le x gw g _ z 27).2 fun c _ => ?_
    exact le_of_eq_of_le (congrArg (fun p : EReal => max p (-p)) (uV_at x gw g c r l)) (h _ (Finset.mem_univ _))

theorem yV_at (g : Fin 8) (r : Fin 32) :
    yV (F := Ideal) invD x gw g (ix2 r 0) = yK (rowX x ⟨32 * g.val + r.val, by omega⟩) (rowG gw) :=
  congrArg₂ (fun p q : EReal => p * q * rcp448) (amax_at x gw g r _ _ _ _) (rV_at x g r)

theorem bitStep_at (y : FVec Ideal S32x1 .f32) (b : BitVec 32) (be : IVec S32x1 32) (i : S32x1.Idx) :
    bitStep y b be i = bitS (y i) b (be i) := rfl

theorem expField_at (y : FVec Ideal S32x1 .f32) (i : S32x1.Idx) : expField y i = fieldS (y i) := by
  unfold expField fieldS
  rw [bitStep_at, bitStep_at, bitStep_at, bitStep_at, bitStep_at, bitStep_at, bitStep_at, bitStep_at]
  rfl

theorem expOf_at (y : FVec Ideal S32x1 .f32) (i : S32x1.Idx) : expOf y i = expS (y i) := by
  unfold expS; rw [← expField_at]; rfl

theorem scaleOf_at (y : FVec Ideal S32x1 .f32) (i : S32x1.Idx) : scaleOf y i = scaleS (y i) := by
  unfold scaleS; rw [← expOf_at]; rfl
theorem invOf_at (y : FVec Ideal S32x1 .f32) (i : S32x1.Idx) : invOf y i = invS (y i) := by
  unfold invS; rw [← expOf_at]; rfl

theorem scV_at (g : Fin 8) (r : Fin 32) :
    scV (F := Ideal) invD x gw g (ix2 r 0) = scK (rowX x ⟨32 * g.val + r.val, by omega⟩) (rowG gw) := by
  unfold scV; rw [scaleOf_at, yV_at]; rfl

theorem sV_at (g : Fin 8) (r : Fin 32) :
    sV (F := Ideal) invD x gw g (ix2 r 0)
      = rK (rowX x ⟨32 * g.val + r.val, by omega⟩) * invS (yK (rowX x ⟨32 * g.val + r.val, by omega⟩) (rowG gw)) := by
  refine congrArg₂ (fun p q : EReal => p * q) (rV_at x g r) ?_
  rw [invOf_at, yV_at]

theorem codeV_at (g : Fin 8) (c : Fin 28) (r : Fin 32) (l : Fin 128) :
    codeV (F := Ideal) invD x gw g c (ix2 r l)
      = cdK (rowX x ⟨32 * g.val + r.val, by omega⟩) (rowG gw) ⟨128 * c.val + l.val, by omega⟩ := by
  refine congrArg₂ (fun p q : EReal => clip (p * q)) ((self_at _ _ _).trans (uV_at x gw g c r l)) ?_
  refine (broadcastTo_apply (s := S32x1) _ _ _ (ix2 r 0) ?_).trans (sV_at x gw g r)
  intro a; fin_cases a <;> rfl

theorem codesOf_at (r : Fin 256) (j : Fin 3584) :
    codesOf (F := Ideal) invD x gw (ix2 r j) = cdK (rowX x r) (rowG gw) j := by
  have hl : locOf (s := S256x3584) pos2 (ix2 r j) = (ix2 (⟨r.val % 32, by omega⟩ : Fin 32) (⟨j.val % 128, by omega⟩ : Fin 128) : S32x128.Idx) := by
    funext a; fin_cases a <;> rfl
  have e := codeV_at x gw ⟨r.val / 32, by omega⟩ ⟨j.val / 128, by omega⟩ ⟨r.val % 32, by omega⟩ ⟨j.val % 128, by omega⟩
  have hr : (⟨32 * (r.val / 32) + r.val % 32, by omega⟩ : Fin 256) = r := Fin.ext (Nat.div_add_mod _ _)
  have hj : (⟨128 * (j.val / 128) + j.val % 128, by omega⟩ : Fin 3584) = j := Fin.ext (Nat.div_add_mod _ _)
  simp only [hr, hj] at e
  rw [← e]
  unfold codesOf tiled f10
  rw [hl]
  have h0 : Fin.ofNat 8 (blkOf (s := S256x3584) ![32, 128] (ix2 r j) 0) = ⟨r.val / 32, by omega⟩ := Fin.ext (Nat.mod_eq_of_lt (by show r.val / 32 < 8; omega))
  have h1 : Fin.ofNat 28 (blkOf (s := S256x3584) ![32, 128] (ix2 r j) 1) = ⟨j.val / 128, by omega⟩ := Fin.ext (Nat.mod_eq_of_lt (by show j.val / 128 < 28; omega))
  exact congrArg₂ (fun a b => codeV (F := Ideal) invD x gw a b _) h0 h1

theorem scB_at (g : Fin 8) (r : Fin 32) (l : Fin 128) :
    scB (F := Ideal) invD x gw g (ix2 r l) = scK (rowX x ⟨32 * g.val + r.val, by omega⟩) (rowG gw) := by
  refine (self_at (s := S32x128) _ _ _).trans ?_
  refine (broadcastTo_apply (s := S32x1) _ _ _ (ix2 r 0) ?_).trans ((self_at _ _ _).trans (scV_at x gw g r))
  intro a; fin_cases a <;> rfl

theorem hsT_at (r : Fin 256) (l : Fin 128) :
    hsT (F := Ideal) invD x gw (ix2 r l) = scK (rowX x r) (rowG gw) := by
  have hl : locOf (s := S256x128) pos2 (ix2 r l) = (ix2 (⟨r.val % 32, by omega⟩ : Fin 32) (⟨l.val % 128, by omega⟩ : Fin 128) : S32x128.Idx) := by
    funext a; fin_cases a <;> rfl
  have e := scB_at x gw ⟨r.val / 32, by omega⟩ ⟨r.val % 32, by omega⟩ ⟨l.val % 128, by omega⟩
  have hr : (⟨32 * (r.val / 32) + r.val % 32, by omega⟩ : Fin 256) = r := Fin.ext (Nat.div_add_mod _ _)
  simp only [hr] at e
  rw [← e]
  unfold hsT tiled
  rw [hl]
  have h0 : Fin.ofNat 8 (blkOf (s := S256x128) ![32, 128] (ix2 r l) 0) = ⟨r.val / 32, by omega⟩ := Fin.ext (Nat.mod_eq_of_lt (by show r.val / 32 < 8; omega))
  exact congrArg (fun a => scB (F := Ideal) invD x gw a _) h0

/-- A row's scale in the slot, at any lane. -/
theorem slot_at (k : Fin 2) (r : Fin 256) (l : Fin 128) :
    tiled (s := S2x256x128) pos3 (f14 (F := Ideal) invD x gw) (ix3 k r l) = scK (rowX x r) (rowG gw) := by
  have hl : tail2 (locOf (s := S2x256x128) pos3 (ix3 k r l)) = (ix2 (⟨r.val % 32, by omega⟩ : Fin 32) (⟨l.val % 128, by omega⟩ : Fin 128) : S32x128.Idx) := by
    funext a; fin_cases a <;> rfl
  have e := scB_at x gw ⟨r.val / 32, by omega⟩ ⟨r.val % 32, by omega⟩ ⟨l.val % 128, by omega⟩
  have hr : (⟨32 * (r.val / 32) + r.val % 32, by omega⟩ : Fin 256) = r := Fin.ext (Nat.div_add_mod _ _)
  simp only [hr] at e
  rw [← e]
  unfold tiled f14
  rw [hl]
  have h0 : Fin.ofNat 8 (blkOf (s := S2x256x128) ![1, 32, 128] (ix3 k r l) 1) = ⟨r.val / 32, by omega⟩ := Fin.ext (Nat.mod_eq_of_lt (by show r.val / 32 < 8; omega))
  exact congrArg (fun a => scB (F := Ideal) invD x gw a _) h0

theorem lanesOf_at (v : S1x128x128.Idx → EReal) (l : Fin 128) :
    lanesOf (F := Ideal) v (ix3 0 0 l) = v (ix3 0 l 0) := by
  unfold lanesOf
  refine (shapeCast_apply (s := S1x128) _ _ (ix3 0 0 l) (ix2 0 l) ?_).trans ?_
  · rw [Shape.rowMajor_val_two, Shape.rowMajor_val_three]; show 0 * 128 + l.val = (0 * 1 + 0) * 128 + l.val; omega
  refine (extractStridedSlice_apply _ _ _ _ (ix2 0 l) ?_).trans ?_
  · intro a; fin_cases a
    · rfl
    · show l.val = 0 + l.val; omega
  refine (transpose_apply _ _ _ _ (ix2 l 0) ?_).trans ?_
  · intro a; fin_cases a <;> rfl
  refine shapeCast_apply (s := S1x128x128) _ _ (ix2 l 0) (ix3 0 l 0) ?_
  rw [Shape.rowMajor_val_two, Shape.rowMajor_val_three]; show (0 * 128 + l.val) * 128 + 0 = l.val * 128 + 0; omega

theorem scalesOf_at (r : Fin 256) :
    scalesOf (F := Ideal) invD x gw (ix3 0 0 r) = scK (rowX x r) (rowG gw) := by
  have hl : locOf (s := S1x1x256) pos11 (ix3 0 0 r) = (ix3 0 0 (⟨r.val % 128, by omega⟩ : Fin 128) : S1x1x128.Idx) := by
    funext a; fin_cases a <;> rfl
  unfold scalesOf tiled f11
  rw [hl]
  refine (lanesOf_at _ _).trans (Eq.trans ?_ (slot_at x gw 0 r 0))
  refine congrArg (tiled (s := S2x256x128) pos3 (f14 (F := Ideal) invD x gw)) ?_
  funext a; apply Fin.ext
  fin_cases a
  · rfl
  · show 128 * ((r.val / 128) % 2) + 1 * (r.val % 128) = r.val; omega
  · rfl

end

end Cert.Row
-- ==== Proof.Row.Head.lean ====
module

public import proofs.«01_k».proof.Proof.Row.Tile
public import Idealize.ShloMosaic.Lib.MatmulPlain

/-! A tile's heads on the extended reals, read at an index: those of its rows. -/

@[expose] public section

noncomputable section

namespace Cert.Row

open Idealize.ShloMosaic
open Cert.Spec hiding ix2 ix3
open ValueIdx (ix1 ix2 ix3 ix4)

/-- A row's product with column `n`, dequantized: by the column's scale, then by the row's. -/
def deqK (X G : Fin 3584 → EReal) (wc : Fin 1152 → Fin 3584 → EReal) (s : Fin 1152 → EReal) (n : Fin 1152) : EReal :=
  dotS (cdK X G) (wc n) * s n * scK X G

/-- The same by the row's scale, then by the column's. -/
def deqR (X G : Fin 3584 → EReal) (wc : Fin 1152 → Fin 3584 → EReal) (s : Fin 1152 → EReal) (n : Fin 1152) : EReal :=
  dotS (cdR X G) (wc n) * scR X G * s n

theorem deq_agree (X G : Fin 3584 → EReal) (wc : Fin 1152 → Fin 3584 → EReal) (s : Fin 1152 → EReal)
    (hG : ∀ j, max (G j) (-(G j)) ≤ gMax) : deqK X G wc s = deqR X G wc s := by
  obtain ⟨h1, h2⟩ := row_agree X G hG
  funext n
  unfold deqK deqR
  rw [h1, show cdK X G = cdR X G from funext h2, mul_right_comm]

/-- Lane `l` of head `h`. -/
def lane (h : Fin 9) (l : Fin 128) : Fin 1152 := ⟨128 * h.val + l.val, by omega⟩

section
variable (x : S256x3584.Idx → EReal) (gw : S1x3584.Idx → EReal) (w : S3584x1152.Idx → EReal) (ws : S1x1152.Idx → EReal)
  (act : S256x3584.Idx → EReal) (hs : S256x128.Idx → EReal)

/-- The columns of the weights. -/
def colW : Fin 1152 → Fin 3584 → EReal := fun n j => w (ix2 j n)
/-- Their scales. -/
def colS : Fin 1152 → EReal := fun n => ws (ix2 0 n)
/-- A head's gains. -/
def gainG (g : S1x128.Idx → EReal) : Fin 128 → EReal := fun l => g (ix2 0 l)

theorem pairV_at (p : Fin 4) (r : Fin 256) (c : Fin 256) :
    pairV (F := Ideal) act w p (ix2 r c) = ∑ j : Fin 3584, act (ix2 r j) * w (ix2 j ⟨256 * p.val + c.val, by omega⟩) := by
  unfold pairV
  refine (Ideal.matmul_plain_apply (M := 256) (K := 3584) (N := 256) (φ₁ := .fp8e4m3) (φ₂ := .fp8e4m3) none act
    (blk w ![0, 256 * p.val] ![3584, 256] (in2 (by omega) (by omega))) (constant S256x256 .f32 0x00000000#32) r c).trans ?_
  rw [show (constant (F := Ideal) S256x256 .f32 0x00000000#32 (ix2 r c) : EReal) = 0 from Ideal.ofBits_zero_f32, zero_add]
  refine Finset.sum_congr rfl fun j _ => congrArg (fun q : EReal => act (ix2 r j) * q) (congrArg w ?_)
  funext a; apply Fin.ext
  fin_cases a
  · show 0 + 1 * j.val = j.val; omega
  · show 256 * p.val + 1 * c.val = 256 * p.val + c.val; omega

theorem accV_at (h : Fin 8) (r : Fin 256) (l : Fin 128) :
    accV (F := Ideal) act w h (ix2 r l) = ∑ j : Fin 3584, act (ix2 r j) * colW w (lane h.castSucc l) j := by
  unfold accV
  by_cases hh : h.val % 2 = 0
  · rw [if_pos hh]
    unfold lo
    refine (extractStridedSlice_apply _ _ _ _ (ix2 r ⟨l.val, by omega⟩) ?_).trans ((pairV_at w act _ _ _).trans ?_)
    · intro a; fin_cases a
      · show r.val = 0 + r.val; omega
      · show l.val = 0 + l.val; omega
    · refine Finset.sum_congr rfl fun j _ => congrArg (fun q : EReal => act (ix2 r j) * q) (congrArg (fun n => w (ix2 j n)) (Fin.ext ?_))
      show 256 * (h.val / 2) + l.val = 128 * h.val + l.val; omega
  · rw [if_neg hh]
    unfold hi
    refine (extractStridedSlice_apply _ _ _ _ (ix2 r ⟨128 + l.val, by omega⟩) ?_).trans ((pairV_at w act _ _ _).trans ?_)
    · intro a; fin_cases a
      · show r.val = 0 + r.val; omega
      · rfl
    · refine Finset.sum_congr rfl fun j _ => congrArg (fun q : EReal => act (ix2 r j) * q) (congrArg (fun n => w (ix2 j n)) (Fin.ext ?_))
      show 256 * (h.val / 2) + (128 + l.val) = 128 * h.val + l.val; omega

theorem deq_at (acc : S256x128.Idx → EReal) (b : S1x128.Idx → EReal) (r : Fin 256) (l : Fin 128) :
    deq (F := Ideal) acc b hs (ix2 r l) = acc (ix2 r l) * b (ix2 0 l) * hs (ix2 r l) := by
  refine congrArg (fun q : EReal => acc (ix2 r l) * q * hs (ix2 r l)) ?_
  refine broadcastTo_apply (s := S1x128) _ _ _ (ix2 0 l) ?_
  intro a; fin_cases a <;> rfl

theorem blkS_at (n : Nat) (h : Fin 9) (hn : n = 128 * h.val) (hb) (l : Fin 128) :
    blk ws ![0, n] ![1, 128] hb (ix2 0 l) = colS ws (lane h l) := by
  subst hn
  refine congrArg ws ?_
  funext a; apply Fin.ext
  fin_cases a
  · rfl
  · show 128 * h.val + 1 * l.val = 128 * h.val + l.val; omega

theorem headOf_at (y : S256x128.Idx → EReal) (g : S1x128.Idx → EReal) (r : Fin 256) (l : Fin 128) :
    headOf (F := Ideal) y g (ix2 r l) = headS (fun k => y (ix2 r k)) (gainG g) l := by
  refine congrArg₂ (fun p q : EReal => y (ix2 r l) * p * q) ?_ ?_
  · refine (broadcastTo_apply (s := S256x1) _ _ _ (ix2 r 0) ?_).trans ?_
    · intro a; fin_cases a <;> rfl
    refine congrArg (fun p : EReal => Ideal.rsqrt (Ideal.div p w128 + eps)) ?_
    refine (shapeCast_apply _ _ (ix2 r 0) (ix1 r) ?_).trans ?_
    · rw [Shape.rowMajor_val_one, Shape.rowMajor_val_two]; show r.val = r.val * 1 + 0; omega
    refine (Ideal.multiReduction_add_single _ _ _ _ _ _).trans ?_
    refine Finset.sum_congr rfl fun k _ => congrArg (fun i => y i * y i) ?_
    funext a; apply Fin.ext; fin_cases a <;> rfl
  · refine broadcastTo_apply (s := S1x128) _ _ _ (ix2 0 l) ?_
    intro a; fin_cases a <;> rfl

theorem acc_codes (n : Fin 1152) (r : Fin 256) :
    ∑ j : Fin 3584, codesOf (F := Ideal) invD x gw (ix2 r j) * colW w n j = dotS (cdK (rowX x r) (rowG gw)) (colW w n) :=
  Finset.sum_congr rfl fun j _ => congrArg (fun q : EReal => q * colW w n j) (codesOf_at x gw r j)

theorem headV7_at (h : Fin 8) (g : S1x128.Idx → EReal) (r : Fin 256) (l : Fin 128) :
    headV7 (F := Ideal) (codesOf (F := Ideal) invD x gw) (hsT (F := Ideal) invD x gw) w ws h g (ix2 r l)
      = headS (fun k => deqK (rowX x r) (rowG gw) (colW w) (colS ws) (lane h.castSucc k)) (gainG g) l := by
  unfold headV7
  refine (headOf_at _ _ _ _).trans (congrArg (fun d => headS d (gainG g) l) (funext fun k => ?_))
  refine (deq_at _ _ _ _ _).trans ?_
  have e1 := (accV_at w (codesOf (F := Ideal) invD x gw) h r k).trans (acc_codes x gw w _ r)
  have e2 := blkS_at ws (128 * h.val) h.castSucc rfl (in2 (by omega) (by omega)) k
  have e3 := hsT_at x gw r k
  exact congrArg₂ (fun p q : EReal => p * q) (congrArg₂ (fun p q : EReal => p * q) e1 e2) e3

theorem qT_at (g : S1x128.Idx → EReal) (h : Fin 7) (r : Fin 256) (l : Fin 128) :
    qT (F := Ideal) invD x gw w ws g (ix4 0 h r l)
      = headS (fun k => deqK (rowX x r) (rowG gw) (colW w) (colS ws) (lane ⟨h.val, by omega⟩ k)) (gainG g) l := by
  have hl : locOf (s := S1x7x256x128) pos7 (ix4 0 h r l) = (ix4 (0 : Fin 1) (0 : Fin 1) r l : S1x1x256x128.Idx) := by
    funext a; apply Fin.ext
    fin_cases a
    · rfl
    · show h.val % 1 = 0; omega
    · show r.val % 256 = r.val; omega
    · show l.val % 128 = l.val; omega
  unfold qT qOf tiled f7
  rw [hl]
  refine (shapeCast_apply (s := S256x128) _ _ (ix4 (0 : Fin 1) (0 : Fin 1) r l) (ix2 r l) ?_).trans ?_
  · rw [Shape.rowMajor_val_two, Shape.rowMajor_val_four]; show r.val * 128 + l.val = ((0 * 1 + 0) * 256 + r.val) * 128 + l.val; omega
  have h0 : Fin.ofNat 7 (blkOf (s := S1x7x256x128) ![1, 1, 256, 128] (ix4 0 h r l) 1) = h :=
    Fin.ext (by show h.val / 1 % 7 = h.val; omega)
  rw [h0]
  exact headV7_at x gw w ws h.castSucc g r l

theorem kT_at (g : S1x128.Idx → EReal) (r : Fin 256) (l : Fin 128) :
    kT (F := Ideal) invD x gw w ws g (ix2 r l)
      = headS (fun k => deqK (rowX x r) (rowG gw) (colW w) (colS ws) (lane 7 k)) (gainG g) l :=
  headV7_at x gw w ws 7 g r l

theorem vT_at (r : Fin 256) (l : Fin 128) :
    vT (F := Ideal) invD x gw w ws (ix2 r l) = deqK (rowX x r) (rowG gw) (colW w) (colS ws) (lane 8 l) := by
  refine (deq_at _ _ _ r l).trans ?_
  refine congrArg₂ (fun p q : EReal => p * q) (congrArg₂ (fun p q : EReal => p * q) ?_ (blkS_at ws 1024 8 rfl (in2 (by omega) (by omega)) l)) (hsT_at x gw r l)
  refine (Ideal.matmul_plain_apply (M := 256) (K := 3584) (N := 128) (φ₁ := .fp8e4m3) (φ₂ := .fp8e4m3) none (codesOf (F := Ideal) invD x gw)
    (blk w ![0, 1024] ![3584, 128] (in2 (by omega) (by omega))) (constant S256x128 .f32 0x00000000#32) r l).trans ?_
  rw [show (constant (F := Ideal) S256x128 .f32 0x00000000#32 (ix2 r l) : EReal) = 0 from Ideal.ofBits_zero_f32, zero_add]
  refine Eq.trans ?_ (acc_codes x gw w (lane 8 l) r)
  refine Finset.sum_congr rfl fun j _ => congrArg (fun q : EReal => codesOf (F := Ideal) invD x gw (ix2 r j) * q) (congrArg w ?_)
  funext a; apply Fin.ext
  fin_cases a
  · show 0 + 1 * j.val = j.val; omega
  · show 1024 + 1 * l.val = 128 * 8 + l.val; omega

theorem gwOf_at (v : S3584.Idx → EReal) : rowG (gwOf (F := Ideal) v) = fun j => v (ix1 j) := by
  funext j
  refine (self_at (s := S1x3584) _ _ _).trans ?_
  refine shapeCast_apply (s := S3584) _ _ (ix2 0 j) (ix1 j) ?_
  rw [Shape.rowMajor_val_one, Shape.rowMajor_val_two]; show j.val = 0 * 3584 + j.val; omega
theorem wsOf_at (v : S1152.Idx → EReal) : colS (wsOf (F := Ideal) v) = fun j => v (ix1 j) := by
  funext j
  refine (self_at (s := S1x1152) _ _ _).trans ?_
  refine shapeCast_apply (s := S1152) _ _ (ix2 0 j) (ix1 j) ?_
  rw [Shape.rowMajor_val_one, Shape.rowMajor_val_two]; show j.val = 0 * 1152 + j.val; omega
theorem gainOf_at (v : S128.Idx → EReal) : gainG (gainOf (F := Ideal) v) = fun j => v (ix1 j) := by
  funext j
  refine (self_at (s := S1x128) _ _ _).trans ?_
  refine shapeCast_apply (s := S128) _ _ (ix2 0 j) (ix1 j) ?_
  rw [Shape.rowMajor_val_one, Shape.rowMajor_val_two]; show j.val = 0 * 128 + j.val; omega

end

end Cert.Row
-- ==== Proof.Value.Rows.lean ====
module

public import proofs.«01_k».proof.Proof.Row.Head

/-! The kernel's five arrays and the five results on the extended reals, as functions of the six arguments. -/

@[expose] public section

noncomputable section

namespace Cert.Row

open Idealize.ShloMosaic
open ValueIdx (ix1 ix2 ix3 ix4)

/-- The six arguments. -/
structure Inp where
  a0 : (⟨3, ![4, 4096, 3584]⟩ : Shape).Idx → EReal
  a1 : (⟨1, ![3584]⟩ : Shape).Idx → EReal
  a2 : (⟨2, ![3584, 1152]⟩ : Shape).Idx → EReal
  a3 : (⟨1, ![1152]⟩ : Shape).Idx → EReal
  a4 : (⟨1, ![128]⟩ : Shape).Idx → EReal
  a5 : (⟨1, ![128]⟩ : Shape).Idx → EReal

variable (I : Inp)

/-- Row `n` of the activations, the batches one after another. -/
def Inp.row (n : Nat) : Fin 3584 → EReal := fun j => I.a0 (ix3 ⟨n / 4096 % 4, Nat.mod_lt _ (by decide)⟩ ⟨n % 4096, Nat.mod_lt _ (by decide)⟩ j)
def Inp.gain : Fin 3584 → EReal := fun j => I.a1 (ix1 j)
def Inp.col : Fin 1152 → Fin 3584 → EReal := fun n j => I.a2 (ix2 j n)
def Inp.scl : Fin 1152 → EReal := fun n => I.a3 (ix1 n)
def Inp.qg : Fin 128 → EReal := fun l => I.a4 (ix1 l)
def Inp.kg : Fin 128 → EReal := fun l => I.a5 (ix1 l)

/-- Row `n`'s projections. -/
def Inp.dq (n : Nat) : Fin 1152 → EReal := deqK (I.row n) I.gain I.col I.scl
/-- Row `n`'s head `h`, normalized. -/
def Inp.hd (n : Nat) (h : Fin 9) (g : Fin 128 → EReal) (l : Fin 128) : EReal := headS (fun k => I.dq n (lane h k)) g l

/-- The arrays the kernel writes. -/
def Inp.k0 : (⟨4, ![4, 7, 4096, 128]⟩ : Shape).Idx → EReal := fun i => I.hd (4096 * (i 0).val + (i 2).val) ⟨(i 1).val, Nat.lt_of_lt_of_le (i 1).isLt (by decide)⟩ I.qg (i 3)
def Inp.k1 : (⟨2, ![16384, 128]⟩ : Shape).Idx → EReal := fun i => I.hd (i 0).val 7 I.kg (i 1)
def Inp.k2 : (⟨2, ![16384, 128]⟩ : Shape).Idx → EReal := fun i => I.dq (i 0).val (lane 8 (i 1))
def Inp.k3 : (⟨2, ![16384, 3584]⟩ : Shape).Idx → EReal := fun i => cdK (I.row (i 0).val) I.gain (i 1)
def Inp.k4 : (⟨3, ![4, 1, 4096]⟩ : Shape).Idx → EReal := fun i => scK (I.row (4096 * (i 0).val + (i 2).val)) I.gain

/-- The results. -/
def Inp.r0 : (⟨4, ![4, 4096, 7, 128]⟩ : Shape).Idx → EReal := fun i => I.hd (4096 * (i 0).val + (i 1).val) ⟨(i 2).val, Nat.lt_of_lt_of_le (i 2).isLt (by decide)⟩ I.qg (i 3)
def Inp.r1 : (⟨4, ![4, 4096, 1, 128]⟩ : Shape).Idx → EReal := fun i => I.hd (4096 * (i 0).val + (i 1).val) 7 I.kg (i 3)
def Inp.r2 : (⟨4, ![4, 4096, 1, 128]⟩ : Shape).Idx → EReal := fun i => I.dq (4096 * (i 0).val + (i 1).val) (lane 8 (i 3))
def Inp.r3 : (⟨3, ![4, 4096, 3584]⟩ : Shape).Idx → EReal := fun i => cdK (I.row (4096 * (i 0).val + (i 1).val)) I.gain (i 2)
def Inp.r4 : (⟨3, ![4, 4096, 1]⟩ : Shape).Idx → EReal := fun i => scK (I.row (4096 * (i 0).val + (i 1).val)) I.gain

theorem Inp.row_at (n : Nat) (b : Fin 4) (s : Fin 4096) (h : n = 4096 * b.val + s.val) (j : Fin 3584) : I.row n j = I.a0 (ix3 b s j) := by
  have e1 : (⟨n / 4096 % 4, Nat.mod_lt _ (by decide)⟩ : Fin 4) = b := Fin.ext (by show n / 4096 % 4 = b.val; omega)
  have e2 : (⟨n % 4096, Nat.mod_lt _ (by decide)⟩ : Fin 4096) = s := Fin.ext (by show n % 4096 = s.val; omega)
  unfold Inp.row; rw [e1, e2]

/-- An array of rows read back as one of batches of rows. -/
theorem cast4 {α : Type} (v : (⟨2, ![16384, 128]⟩ : Shape).Idx → α) (h : (⟨2, ![16384, 128]⟩ : Shape).ShapeCasts ⟨4, ![4, 4096, 1, 128]⟩)
    (b : Fin 4) (s : Fin 4096) (l : Fin 128) : shapeCast ⟨4, ![4, 4096, 1, 128]⟩ v h (ix4 b s 0 l) = v (ix2 ⟨4096 * b.val + s.val, by omega⟩ l) := by
  refine shapeCast_apply _ _ (ix4 b s 0 l) _ ?_
  rw [Shape.rowMajor_val_two, Shape.rowMajor_val_four]
  show (4096 * b.val + s.val) * 128 + l.val = ((b.val * 4096 + s.val) * 1 + 0) * 128 + l.val
  omega
theorem cast3 {α : Type} {n : Nat} (v : (⟨2, ![16384, n]⟩ : Shape).Idx → α) (h : (⟨2, ![16384, n]⟩ : Shape).ShapeCasts ⟨3, ![4, 4096, n]⟩)
    (b : Fin 4) (s : Fin 4096) (l : Fin n) : shapeCast ⟨3, ![4, 4096, n]⟩ v h (ix3 b s l) = v (ix2 ⟨4096 * b.val + s.val, by omega⟩ l) := by
  refine shapeCast_apply _ _ (ix3 b s l) _ ?_
  rw [Shape.rowMajor_val_two, Shape.rowMajor_val_three]
  show (4096 * b.val + s.val) * n + l.val = (b.val * 4096 + s.val) * n + l.val
  rw [Nat.mul_comm 4096]
/-- The rows of the batches one after another. -/
theorem flat3 {α : Type} {n : Nat} (v : (⟨3, ![4, 4096, n]⟩ : Shape).Idx → α) (h : (⟨3, ![4, 4096, n]⟩ : Shape).ShapeCasts ⟨2, ![16384, n]⟩)
    (R : Fin 16384) (l : Fin n) : shapeCast ⟨2, ![16384, n]⟩ v h (ix2 R l) = v (ix3 ⟨R.val / 4096, by omega⟩ ⟨R.val % 4096, by omega⟩ l) := by
  refine shapeCast_apply _ _ (ix2 R l) _ ?_
  rw [Shape.rowMajor_val_two, Shape.rowMajor_val_three]
  show (R.val / 4096 * 4096 + R.val % 4096) * n + l.val = R.val * n + l.val
  rw [Nat.div_add_mod']
/-- An index whose third axis has one place. -/
theorem eq4 (i : (⟨4, ![4, 4096, 1, 128]⟩ : Shape).Idx) : i = ix4 (i 0) (i 1) 0 (i 3) := by
  funext a
  match a with
  | ⟨0, _⟩ => rfl
  | ⟨1, _⟩ => rfl
  | ⟨2, _⟩ => exact Subsingleton.elim (α := Fin 1) _ _
  | ⟨3, _⟩ => rfl
theorem eq3 (i : (⟨3, ![4, 4096, 1]⟩ : Shape).Idx) : i = ix3 (i 0) (i 1) 0 := by
  funext a
  match a with
  | ⟨0, _⟩ => rfl
  | ⟨1, _⟩ => rfl
  | ⟨2, _⟩ => exact Subsingleton.elim (α := Fin 1) _ _

end Cert.Row
-- ==== Proof.Value.Kernel.lean ====
module

public import proofs.«01_k».proof.Proof.Run.KernelIdeal
public import proofs.«01_k».proof.Proof.Value.Rows
public import Idealize.ShloMosaic.Lib.StableHlo.ReadAt
public import Idealize.ShloMosaic.Lib.Pipeline.ValueKit.Geometry

/-! What the kernel's run leaves in its arrays and results, on the extended reals. -/

@[expose] public section

set_option maxRecDepth 16384

noncomputable section

namespace Cert.KernelIdeal.Value

open Cert.KernelIdeal Cert.KernelIdeal.Gen Cert.KernelIdeal.Run
open Idealize.ShloMosaic hiding ix1 ix2 ix3 ix4
open Idealize.ShloMosaic.TcCoe
open Cert.Row
open ValueIdx (ix1 ix2 ix3 ix4)

variable (m : (ℓ : Loc nD τ sig) → Buf (Elt Ideal) ℓ) (c : Dev nD)

/-- The arguments of device `c`. -/
def inp : Inp where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)

theorem inv_eq : (inv : Ideal .f32) = invD := IdealRules.named_const.ideal_named_scalar _ _ _ _ rfl

theorem idx_0 : ∀ t : Fin grid0.N, win0_0.index t 0 = min t.val 63 ∧ win0_0.index t 1 = 0 := by decide +kernel

/-- The activations laid row after row. -/
theorem V_v0 (R : Fin 16384) (j : Fin 3584) : (V m c main_v0 : (⟨2, ![16384, 3584]⟩ : Shape).Idx → EReal) (ix2 R j) = (inp m c).row R.val j := by
  have e : (V m c main_v0 : (⟨2, ![16384, 3584]⟩ : Shape).Idx → EReal)
      = shapeCast S16384x3584 (m ((c.tc : Thread nD τ).loc main_arg0)) shapeCasts_S4x4096x3584_S16384x3584 := by
    show StableHlo.after (hostOps0 ++ []) (fun b => m (c, b)) (Proc.devRef .tc main_v0) = _
    after_reads_simp
    rfl
  rw [e, (inp m c).row_at R.val ⟨R.val / 4096, by omega⟩ ⟨R.val % 4096, by omega⟩ (by show R.val = 4096 * (R.val / 4096) + R.val % 4096; omega)]
  refine shapeCast_apply (s := S4x4096x3584) _ _ (ix2 R j) _ ?_
  rw [Shape.rowMajor_val_two, Shape.rowMajor_val_three]
  show (R.val / 4096 * 4096 + R.val % 4096) * 3584 + j.val = R.val * 3584 + j.val
  rw [Nat.div_add_mod']

theorem rowX_at (n : Nat) (hn : n ≤ 63) (r : Fin 256) : rowX (X m c n) r = (inp m c).row (256 * n + r.val) := by
  funext j
  refine Eq.trans ?_ (V_v0 m c ⟨256 * n + r.val, by omega⟩ j)
  unfold rowX X iblk
  rw [View.read_apply]
  show V m c main_v0 _ = V m c main_v0 _
  congr 1
  funext a
  apply Fin.ext
  have h := idx_0 (pt n)
  have hp : (pt n).val = n := by show min n 64 = n; omega
  match a with
  | ⟨0, _⟩ => show win0_0.index (pt n) 0 * 256 + 1 * r.val = 256 * n + r.val; rw [h.1, hp]; omega
  | ⟨1, _⟩ => show win0_0.index (pt n) 1 * 3584 + 1 * j.val = j.val; rw [h.2]; omega

theorem gw_at : rowG (gw m c) = (inp m c).gain := by
  refine (gwOf_at _).trans ?_
  funext j
  refine Eq.trans ?_ (congrFun (V_main_arg1 m c) (ix1 j))
  unfold iblk
  rw [View.read_apply]
  show V m c main_arg1 _ = V m c main_arg1 _
  congr 1
  funext a
  apply Fin.ext
  match a with
  | ⟨0, _⟩ => show win0_1.index (pt 0) 0 * 3584 + 1 * j.val = j.val; rw [show win0_1.index (pt 0) 0 = 0 from rfl]; omega

theorem col_at (t : Fin cfg0.N) : colW (W m c t) = (inp m c).col := by
  funext n j
  refine Eq.trans ?_ (congrFun (V_main_arg2 m c) (ix2 j n))
  unfold colW W iblk
  rw [View.read_apply]
  show V m c main_arg2 _ = V m c main_arg2 _
  congr 1
  funext a
  apply Fin.ext
  match a with
  | ⟨0, _⟩ => show win0_2.index t 0 * 3584 + 1 * j.val = j.val; rw [show win0_2.index t 0 = 0 from rfl]; omega
  | ⟨1, _⟩ => show win0_2.index t 1 * 1152 + 1 * n.val = n.val; rw [show win0_2.index t 1 = 0 from rfl]; omega

theorem scl_at : colS (ws m c) = (inp m c).scl := by
  refine (wsOf_at _).trans ?_
  funext j
  refine Eq.trans ?_ (congrFun (V_main_arg3 m c) (ix1 j))
  unfold iblk
  rw [View.read_apply]
  show V m c main_arg3 _ = V m c main_arg3 _
  congr 1
  funext a
  apply Fin.ext
  match a with
  | ⟨0, _⟩ => show win0_3.index (pt 0) 0 * 1152 + 1 * j.val = j.val; rw [show win0_3.index (pt 0) 0 = 0 from rfl]; omega

theorem qg_at : gainG (qg m c) = (inp m c).qg := by
  refine (gainOf_at _).trans ?_
  funext j
  refine Eq.trans ?_ (congrFun (V_main_arg4 m c) (ix1 j))
  unfold iblk
  rw [View.read_apply]
  show V m c main_arg4 _ = V m c main_arg4 _
  congr 1
  funext a
  apply Fin.ext
  match a with
  | ⟨0, _⟩ => show win0_4.index (pt 0) 0 * 128 + 1 * j.val = j.val; rw [show win0_4.index (pt 0) 0 = 0 from rfl]; omega

theorem kg_at : gainG (kg m c) = (inp m c).kg := by
  refine (gainOf_at _).trans ?_
  funext j
  refine Eq.trans ?_ (congrFun (V_main_arg5 m c) (ix1 j))
  unfold iblk
  rw [View.read_apply]
  show V m c main_arg5 _ = V m c main_arg5 _
  congr 1
  funext a
  apply Fin.ext
  match a with
  | ⟨0, _⟩ => show win0_5.index (pt 0) 0 * 128 + 1 * j.val = j.val; rw [show win0_5.index (pt 0) 0 = 0 from rfl]; omega

/-! ## The arrays -/

theorem deq_row (n : Nat) (hn : n ≤ 63) (t : Fin cfg0.N) (r : Fin 256) :
    deqK (rowX (X m c n) r) (rowG (gw m c)) (colW (W m c t)) (colS (ws m c)) = (inp m c).dq (256 * n + r.val) := by
  rw [rowX_at m c n hn, gw_at, col_at, scl_at]; rfl

/-! ## What the body leaves, row by row -/

theorem codes_row (n : Nat) (hn : n ≤ 63) (r : Fin 256) (j : Fin 3584) :
    Spec.codesOf (inv : Ideal .f32) (X m c n) (gw m c) (ix2 r j) = cdK ((inp m c).row (256 * n + r.val)) (inp m c).gain j := by
  rw [inv_eq, codesOf_at, rowX_at m c n hn, gw_at]
theorem scales_row (n : Nat) (hn : n ≤ 63) (r : Fin 256) :
    Spec.scalesOf (inv : Ideal .f32) (X m c n) (gw m c) (ix3 0 0 r) = scK ((inp m c).row (256 * n + r.val)) (inp m c).gain := by
  rw [inv_eq, scalesOf_at, rowX_at m c n hn, gw_at]
theorem v_row (n : Nat) (hn : n ≤ 63) (t : Fin cfg0.N) (r : Fin 256) (l : Fin 128) :
    Spec.vT (inv : Ideal .f32) (X m c n) (gw m c) (W m c t) (ws m c) (ix2 r l) = (inp m c).dq (256 * n + r.val) (lane 8 l) := by
  rw [inv_eq, vT_at, deq_row m c n hn]
theorem k_row (n : Nat) (hn : n ≤ 63) (t : Fin cfg0.N) (r : Fin 256) (l : Fin 128) :
    Spec.kT (inv : Ideal .f32) (X m c n) (gw m c) (W m c t) (ws m c) (kg m c) (ix2 r l) = (inp m c).hd (256 * n + r.val) 7 (inp m c).kg l := by
  rw [inv_eq, kT_at, deq_row m c n hn, kg_at]; rfl
theorem q_row (n : Nat) (hn : n ≤ 63) (t : Fin cfg0.N) (h : Fin 7) (r : Fin 256) (l : Fin 128) :
    Spec.qT (inv : Ideal .f32) (X m c n) (gw m c) (W m c t) (ws m c) (qg m c) (ix4 0 h r l)
      = (inp m c).hd (256 * n + r.val) ⟨h.val, by omega⟩ (inp m c).qg l := by
  rw [inv_eq, qT_at, deq_row m c n hn, qg_at]; rfl

theorem idx_6 : ∀ t : Fin grid0.N, win0_6.index t 0 = (t.val - 1) / 16 ∧ win0_6.index t 1 = 0 ∧ win0_6.index t 2 = (t.val - 1) % 16 ∧ win0_6.index t 3 = 0 := by decide +kernel
theorem idx_7 : ∀ t : Fin grid0.N, win0_7.index t 0 = t.val - 1 ∧ win0_7.index t 1 = 0 := by decide +kernel
theorem idx_8 : ∀ t : Fin grid0.N, win0_8.index t 0 = t.val - 1 ∧ win0_8.index t 1 = 0 := by decide +kernel
theorem idx_9 : ∀ t : Fin grid0.N, win0_9.index t 0 = min t.val 63 ∧ win0_9.index t 1 = 0 := by decide +kernel
theorem idx_10 : ∀ t : Fin grid0.N, win0_10.index t 0 = min t.val 63 / 16 ∧ win0_10.index t 1 = 0 ∧ win0_10.index t 2 = min t.val 63 % 16 := by decide +kernel

theorem arr_9 : (dats m 0 c).arrAt 9 cfg0.N = (inp m c).k3 := by
  refine (dats m 0 c).arrAt_eq_of_covers 9 _ (by decide +kernel) fun t hf y => ?_
  have h := idx_9 t
  let z : Spec.S256x3584.Idx := (cfg0.win 9).xinj (cfg0.grid.coords t) y
  show Spec.codesOf (inv : Ideal .f32) (X m c (min t.val 63)) (gw m c) z = _
  refine (congrArg _ (ValueIdx.eq_ix2 z)).trans ((codes_row m c _ (by omega) (z 0) (z 1)).trans ?_)
  show _ = cdK ((inp m c).row (win0_9.index t 0 * 256 + 1 * (y 0).val)) (inp m c).gain _
  rw [h.1]
  refine congrArg₂ (fun n j => cdK ((inp m c).row n) (inp m c).gain j) ?_ (Fin.ext ?_)
  · show 256 * min t.val 63 + (y 0).val = min t.val 63 * 256 + 1 * (y 0).val; omega
  · show (y 1).val = win0_9.index t 1 * 3584 + 1 * (y 1).val; rw [h.2]; omega

theorem arr_10 : (dats m 0 c).arrAt 10 cfg0.N = (inp m c).k4 := by
  refine (dats m 0 c).arrAt_eq_of_covers 10 _ (by decide +kernel) fun t hf y => ?_
  have h := idx_10 t
  let z : Spec.S1x1x256.Idx := (cfg0.win 10).xinj (cfg0.grid.coords t) y
  have y0 : (y 0).val = 0 := Nat.lt_one_iff.1 (z 0).isLt
  have hz : z = ix3 0 0 (z 2) := by
    funext a
    match a with
    | ⟨0, _⟩ => exact Subsingleton.elim (α := Fin 1) _ _
    | ⟨1, _⟩ => exact Subsingleton.elim (α := Fin 1) _ _
    | ⟨2, _⟩ => rfl
  show Spec.scalesOf (inv : Ideal .f32) (X m c (min t.val 63)) (gw m c) z = _
  refine (congrArg _ hz).trans ((scales_row m c _ (by omega) (z 2)).trans ?_)
  show _ = scK ((inp m c).row (4096 * (win0_10.index t 0 * 1 + 1 * (y 0).val) + (win0_10.index t 2 * 256 + 1 * (y 2).val))) (inp m c).gain
  refine congrArg (fun n => scK ((inp m c).row n) (inp m c).gain) ?_
  rw [h.1, h.2.2, y0]
  show 256 * min t.val 63 + (y 2).val = _
  omega

theorem arr_8 : (dats m 0 c).arrAt 8 cfg0.N = (inp m c).k2 := by
  refine (dats m 0 c).arrAt_eq_of_covers 8 _ (by decide +kernel) fun t hf y => ?_
  have h := idx_8 t
  have ht : t.val < 65 := by have := t.isLt; have h : cfg0.N = 65 := N_0; exact h ▸ this
  let z : Spec.S256x128.Idx := (cfg0.win 8).xinj (cfg0.grid.coords t) y
  show Spec.vT (inv : Ideal .f32) (X m c (t.val - 1)) (gw m c) (W m c t) (ws m c) z = _
  refine (congrArg _ (ValueIdx.eq_ix2 z)).trans ((v_row m c _ (by omega) t (z 0) (z 1)).trans ?_)
  show _ = (inp m c).dq (win0_8.index t 0 * 256 + 1 * (y 0).val) (lane 8 _)
  rw [h.1]
  refine congrArg₂ (fun n j => (inp m c).dq n (lane 8 j)) ?_ (Fin.ext ?_)
  · show 256 * (t.val - 1) + (y 0).val = (t.val - 1) * 256 + 1 * (y 0).val; omega
  · show (y 1).val = win0_8.index t 1 * 128 + 1 * (y 1).val; rw [h.2]; omega

theorem arr_7 : (dats m 0 c).arrAt 7 cfg0.N = (inp m c).k1 := by
  refine (dats m 0 c).arrAt_eq_of_covers 7 _ (by decide +kernel) fun t hf y => ?_
  have h := idx_7 t
  have ht : t.val < 65 := by have := t.isLt; have h : cfg0.N = 65 := N_0; exact h ▸ this
  let z : Spec.S256x128.Idx := (cfg0.win 7).xinj (cfg0.grid.coords t) y
  show Spec.kT (inv : Ideal .f32) (X m c (t.val - 1)) (gw m c) (W m c t) (ws m c) (kg m c) z = _
  refine (congrArg _ (ValueIdx.eq_ix2 z)).trans ((k_row m c _ (by omega) t (z 0) (z 1)).trans ?_)
  show _ = (inp m c).hd (win0_7.index t 0 * 256 + 1 * (y 0).val) 7 (inp m c).kg _
  rw [h.1]
  refine congrArg₂ (fun n j => (inp m c).hd n 7 (inp m c).kg j) ?_ (Fin.ext ?_)
  · show 256 * (t.val - 1) + (y 0).val = (t.val - 1) * 256 + 1 * (y 0).val; omega
  · show (y 1).val = win0_7.index t 1 * 128 + 1 * (y 1).val; rw [h.2]; omega

theorem arr_6 : (dats m 0 c).arrAt 6 cfg0.N = (inp m c).k0 := by
  refine (dats m 0 c).arrAt_eq_of_covers 6 _ (by decide +kernel) fun t hf y => ?_
  have h := idx_6 t
  have ht : t.val < 65 := by have := t.isLt; have h : cfg0.N = 65 := N_0; exact h ▸ this
  let z : Spec.S1x7x256x128.Idx := (cfg0.win 6).xinj (cfg0.grid.coords t) y
  have y0 : (y 0).val = 0 := Nat.lt_one_iff.1 (z 0).isLt
  have hz : z = ix4 0 (z 1) (z 2) (z 3) := by
    funext a
    match a with
    | ⟨0, _⟩ => exact Subsingleton.elim (α := Fin 1) _ _
    | ⟨1, _⟩ => rfl
    | ⟨2, _⟩ => rfl
    | ⟨3, _⟩ => rfl
  show Spec.qT (inv : Ideal .f32) (X m c (t.val - 1)) (gw m c) (W m c t) (ws m c) (qg m c) z = _
  refine (congrArg _ hz).trans ((q_row m c _ (by omega) t (z 1) (z 2) (z 3)).trans ?_)
  have e1 : 4096 * (win0_6.index t 0 * 1 + 1 * (y 0).val) + (win0_6.index t 2 * 256 + 1 * (y 2).val) = 256 * (t.val - 1) + (y 2).val := by
    rw [h.1, h.2.2.1, y0]; omega
  have e2 : win0_6.index t 1 * 7 + 1 * (y 1).val = (y 1).val := by rw [h.2.1]; omega
  have e3 : win0_6.index t 3 * 128 + 1 * (y 3).val = (y 3).val := by rw [h.2.2.2]; omega
  have y1 : (y 1).val < 7 := (z 1).isLt
  have y3 : (y 3).val < 128 := (z 3).isLt
  have g : ∀ (n n' h h' l l' : Nat) (hh : h < 9) (hh' : h' < 9) (hl : l < 128) (hl' : l' < 128), n = n' → h = h' → l = l' →
      (inp m c).hd n ⟨h, hh⟩ (inp m c).qg ⟨l, hl⟩ = (inp m c).hd n' ⟨h', hh'⟩ (inp m c).qg ⟨l', hl'⟩ := by
    intro n n' h h' l l' _ _ _ _ e1 e2 e3; subst e1 e2 e3; rfl
  exact g _ _ _ _ _ _ (by omega) (lt_of_eq_of_lt e2 (by omega)) y3 (lt_of_eq_of_lt e3 y3) e1.symm e2.symm e3.symm

/-! ## The results -/

/-- The buffers the kernel leaves to the host lines after it. -/
abbrev mid : Valuation τ sig (Elt Ideal) := Pipeline.withArrays (cfgs 0).spec c (V0 m c) fun w => (dats m 0 c).arrAt w (cfgs 0).N

theorem mid_0 : mid m c (Proc.devRef .tc main_v1_0) = (inp m c).k0 :=
  (Pipeline.withArrays_arr (cfgs 0).spec winFacts0.arr_inj c (V0 m c) (fun w => (dats m 0 c).arrAt w (cfgs 0).N) 6).trans (arr_6 m c)
theorem mid_1 : mid m c (Proc.devRef .tc main_v1_1) = (inp m c).k1 :=
  (Pipeline.withArrays_arr (cfgs 0).spec winFacts0.arr_inj c (V0 m c) (fun w => (dats m 0 c).arrAt w (cfgs 0).N) 7).trans (arr_7 m c)
theorem mid_2 : mid m c (Proc.devRef .tc main_v1_2) = (inp m c).k2 :=
  (Pipeline.withArrays_arr (cfgs 0).spec winFacts0.arr_inj c (V0 m c) (fun w => (dats m 0 c).arrAt w (cfgs 0).N) 8).trans (arr_8 m c)
theorem mid_3 : mid m c (Proc.devRef .tc main_v1_3) = (inp m c).k3 :=
  (Pipeline.withArrays_arr (cfgs 0).spec winFacts0.arr_inj c (V0 m c) (fun w => (dats m 0 c).arrAt w (cfgs 0).N) 9).trans (arr_9 m c)
theorem mid_4 : mid m c (Proc.devRef .tc main_v1_4) = (inp m c).k4 :=
  (Pipeline.withArrays_arr (cfgs 0).spec winFacts0.arr_inj c (V0 m c) (fun w => (dats m 0 c).arrAt w (cfgs 0).N) 10).trans (arr_10 m c)

theorem res_0 : tail m c main_v2 = (inp m c).r0 := by
  have e := mid_0 m c
  show StableHlo.after (hostOps1 ++ []) (mid m c) (Proc.devRef .tc main_v2) = _
  generalize mid m c = M at e
  after_reads_simp
  rw [e]
  funext i
  refine (transpose_apply (s := S4x7x4096x128) _ _ _ i (ix4 (i 0) (i 2) (i 1) (i 3)) ?_).trans rfl
  intro b; fin_cases b <;> rfl

theorem res_1 : tail m c main_v3 = (inp m c).r1 := by
  have e := mid_1 m c
  show StableHlo.after (hostOps1 ++ []) (mid m c) (Proc.devRef .tc main_v3) = _
  generalize mid m c = M at e
  after_reads_simp
  rw [e]
  funext i
  exact (congrArg _ (eq4 i)).trans (cast4 _ _ (i 0) (i 1) (i 3))

theorem res_2 : tail m c main_v4 = (inp m c).r2 := by
  have e := mid_2 m c
  show StableHlo.after (hostOps1 ++ []) (mid m c) (Proc.devRef .tc main_v4) = _
  generalize mid m c = M at e
  after_reads_simp
  rw [e]
  funext i
  exact (congrArg _ (eq4 i)).trans (cast4 _ _ (i 0) (i 1) (i 3))

theorem res_3 : tail m c main_v5 = (inp m c).r3 := by
  have e := mid_3 m c
  show StableHlo.after (hostOps1 ++ []) (mid m c) (Proc.devRef .tc main_v5) = _
  generalize mid m c = M at e
  after_reads_simp
  rw [e]
  funext i
  exact (congrArg _ (ValueIdx.eq_ix3 i)).trans (cast3 _ _ (i 0) (i 1) (i 2))

theorem res_4 : tail m c main_v6 = (inp m c).r4 := by
  have e := mid_4 m c
  show StableHlo.after (hostOps1 ++ []) (mid m c) (Proc.devRef .tc main_v6) = _
  generalize mid m c = M at e
  after_reads_simp
  rw [e]
  funext i
  refine (transpose_apply (s := S4x1x4096) _ _ _ i (ix3 (i 0) (i 2) (i 1)) ?_).trans rfl
  intro b; fin_cases b <;> rfl

/-- The run, its results read. -/
theorem run_values (ρ : Dev nD → PrngReg) (𝒱₀ : Variants) : θ_run defs (onTc (τ := τ) (main (F := Ideal))) ⟨m, fun _ => 0, ρ⟩ (fun r => ∀ c : Dev nD,
      (r.2.mem ((c.tc : Thread nD τ).loc main_v2) = (inp m c).r0
      ∧ r.2.mem ((c.tc : Thread nD τ).loc main_v3) = (inp m c).r1
      ∧ r.2.mem ((c.tc : Thread nD τ).loc main_v4) = (inp m c).r2
      ∧ r.2.mem ((c.tc : Thread nD τ).loc main_v5) = (inp m c).r3
      ∧ r.2.mem ((c.tc : Thread nD τ).loc main_v6) = (inp m c).r4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨⟨
      ((h.1 c).2 main_v2 (Pipeline.mem_restRefs_of main_v2 (by decide) (by decide))).trans (res_0 m c),
      ((h.1 c).2 main_v3 (Pipeline.mem_restRefs_of main_v3 (by decide) (by decide))).trans (res_1 m c),
      ((h.1 c).2 main_v4 (Pipeline.mem_restRefs_of main_v4 (by decide) (by decide))).trans (res_2 m c),
      ((h.1 c).2 main_v5 (Pipeline.mem_restRefs_of main_v5 (by decide) (by decide))).trans (res_3 m c),
      ((h.1 c).2 main_v6 (Pipeline.mem_restRefs_of main_v6 (by decide) (by decide))).trans (res_4 m c)⟩,
      ((h.1 c).2 main_arg0 (Pipeline.mem_restRefs_of main_arg0 (by decide) (by decide))).trans (W_main_arg0 m (dats m) c),
      ((h.1 c).1 1).trans (((dats m 0 c).arrAt_in 1 rfl _).trans (V_main_arg1 m c)),
      ((h.1 c).1 2).trans (((dats m 0 c).arrAt_in 2 rfl _).trans (V_main_arg2 m c)),
      ((h.1 c).1 3).trans (((dats m 0 c).arrAt_in 3 rfl _).trans (V_main_arg3 m c)),
      ((h.1 c).1 4).trans (((dats m 0 c).arrAt_in 4 rfl _).trans (V_main_arg4 m c)),
      ((h.1 c).1 5).trans (((dats m 0 c).arrAt_in 5 rfl _).trans (V_main_arg5 m c))⟩) (run m ρ 𝒱₀)

end Cert.KernelIdeal.Value
-- ==== Proof.Value.RefTile.lean ====
module

public import proofs.«01_k».proof.ReferenceIdeal
public import proofs.«01_k».proof.Proof.Value.Rows

/-! The reference's host lines on the extended reals, read at an index. -/

@[expose] public section

set_option maxRecDepth 16384

noncomputable section

namespace Cert.ReferenceIdeal.Value

open Cert.ReferenceIdeal
open Cert.ReferenceIdeal.Facts₀ Cert.ReferenceIdeal.Facts
open Idealize.ShloMosaic
open Cert.Row
open ValueIdx (ix1 ix2 ix3 ix4)

variable [Facts]
variable (x : FVec Ideal S4x4096x3584 .bf16) (g : FVec Ideal S3584 .bf16)

/-- A word spread over the rows. -/
abbrev rowC (v : BitVec 32) : FVec Ideal S4x4096x1 .f32 := broadcastInDim S4x4096x1 ![] bcast_S_S4x4096x1 (constant S_ .f32 v)

def xOf : FVec Ideal S4x4096x3584 .f32 := extf .f32 x bitsLt_bf16_f32
def sqOf : FVec Ideal S4x4096 .f32 :=
  Host.reduceAdd (mulf (xOf x) (xOf x)) (constant S_ .f32 0x00000000#32) reducesTo_S4x4096x3584_S4x4096_d2 h_S_
def rsOf : FVec Ideal S4x4096x1 .f32 :=
  Host.rsqrt (addf (Host.divf (broadcastInDim S4x4096x1 ![0, 1] bcast_S4x4096_S4x4096x1_0_1 (sqOf x)) (rowC 0x45600000#32)) (rowC 0x358637BD#32))
/-- The normalized activations. -/
def hOf : FVec Ideal S4x4096x3584 .f32 :=
  mulf (mulf (xOf x) (broadcastInDim S4x4096x3584 ![0, 1, 2] bcast_S4x4096x1_S4x4096x3584_0_1_2 (rsOf x)))
    (broadcastInDim S4x4096x3584 ![0, 1, 2] bcast_S1x1x3584_S4x4096x3584_0_1_2
      (broadcastInDim S1x1x3584 ![2] bcast_S3584_S1x1x3584_2 (extf .f32 g bitsLt_bf16_f32)))
def mxOf : FVec Ideal S4x4096 .f32 :=
  Host.reduce FloatOps.maximumf (Host.absf (hOf x g)) (constant S_ .f32 0xFF800000#32) reducesTo_S4x4096x3584_S4x4096_d2 h_S_
/-- The scales before rounding. -/
def yOf : FVec Ideal S4x4096x1 .f32 :=
  mulf (broadcastInDim S4x4096x1 ![0, 1] bcast_S4x4096_S4x4096x1_0_1 (mxOf x g)) (rowC 0x3B124925#32)
/-- The exponents of the scales. -/
def eOf : FVec Ideal S4x4096x1 .f32 :=
  select (cmpf .olt (yOf x g) (rowC 0x00800000#32)) (broadcastInDim S4x4096x1 ![] bcast_S_S4x4096x1 (id (constant S_ .f32 0x00000000#32)))
    (addf (Host.floor (Host.divf (Host.log (yOf x g)) (broadcastInDim S4x4096x1 ![] bcast_S_S4x4096x1 (Host.log (constant S_ .f32 0x40000000#32)))))
      (rowC 0x3F800000#32))
/-- The scales. -/
def sOf : FVec Ideal S4x4096x1 .f32 := Host.powf (rowC 0x40000000#32) (eOf x g)
/-- Their reciprocals. -/
def iOf : FVec Ideal S4x4096x1 .f32 := Host.powf (rowC 0x40000000#32) (Host.negf (eOf x g))

abbrev xr (b : Fin 4) (s : Fin 4096) : Fin 3584 → EReal := fun j => x (ix3 b s j)
abbrev gr : Fin 3584 → EReal := fun j => g (ix1 j)

theorem rowC_at (v : BitVec 32) (i : S4x4096x1.Idx) : rowC v i = Ideal.ofBits .f32 v :=
  ValueIdx.broadcastInDim_scalar_apply _ _ i

theorem lift2 (h : S4x4096x3584.Reduces [2] S4x4096) (b : Fin 4) (s : Fin 4096) (k : Fin 3584) : h.lift (ix2 b s) k = ix3 b s k := by
  funext a; apply Fin.ext; fin_cases a <;> rfl

theorem red2 : S4x4096x3584.Reduces [2] S4x4096 := by decide

theorem sq_at (b : Fin 4) (s : Fin 4096) : sqOf x (ix2 b s) = ∑ j, xr x b s j * xr x b s j := by
  refine (Ideal.hostReduceAdd_single _ red2 _ _ (ix2 b s)).trans ?_
  refine (congrArg₂ (· + ·) Ideal.ofBits_zero_f32 (Finset.sum_congr rfl fun k _ => ?_)).trans (zero_add _)
  exact congrArg (fun i => mulf (xOf x) (xOf x) i) (lift2 red2 b s k)

theorem up_at (v : S4x4096.Idx → EReal) (b : Fin 4) (s : Fin 4096) (h) :
    broadcastInDim S4x4096x1 ![0, 1] h v (ix3 b s 0) = v (ix2 b s) :=
  broadcastInDim_apply (s := S4x4096) (t := S4x4096x1) ![0, 1] h v (ix3 b s 0) (ix2 b s) (by intro a; fin_cases a <;> rfl)

theorem along_at (v : S4x4096x1.Idx → EReal) (b : Fin 4) (s : Fin 4096) (j : Fin 3584) (h) :
    broadcastInDim S4x4096x3584 ![0, 1, 2] h v (ix3 b s j) = v (ix3 b s 0) :=
  broadcastInDim_apply (s := S4x4096x1) (t := S4x4096x3584) ![0, 1, 2] h v (ix3 b s j) (ix3 b s 0) (by intro a; fin_cases a <;> rfl)

theorem rs_at (b : Fin 4) (s : Fin 4096) : rsOf x (ix3 b s 0) = rR (xr x b s) := by
  show Ideal.rsqrt (Ideal.div (broadcastInDim S4x4096x1 ![0, 1] bcast_S4x4096_S4x4096x1_0_1 (sqOf x) (ix3 b s 0)) (rowC 0x45600000#32 (ix3 b s 0))
    + rowC 0x358637BD#32 (ix3 b s 0)) = _
  rw [rowC_at, rowC_at, up_at, sq_at]; rfl

theorem gain_at (b : Fin 4) (s : Fin 4096) (j : Fin 3584) (v : S3584.Idx → EReal) (h h') :
    broadcastInDim S4x4096x3584 ![0, 1, 2] h (broadcastInDim S1x1x3584 ![2] h' v) (ix3 b s j) = v (ix1 j) := by
  refine (broadcastInDim_apply (s := S1x1x3584) (t := S4x4096x3584) ![0, 1, 2] h _ (ix3 b s j) (ix3 0 0 j) (by intro a; fin_cases a <;> rfl)).trans ?_
  exact broadcastInDim_apply (s := S3584) (t := S1x1x3584) ![2] h' v (ix3 0 0 j) (ix1 j) (by intro a; fin_cases a; rfl)

theorem h_at (b : Fin 4) (s : Fin 4096) (j : Fin 3584) : hOf x g (ix3 b s j) = hR (xr x b s) (gr g) j := by
  show x (ix3 b s j) * broadcastInDim S4x4096x3584 ![0, 1, 2] bcast_S4x4096x1_S4x4096x3584_0_1_2 (rsOf x) (ix3 b s j)
    * broadcastInDim S4x4096x3584 ![0, 1, 2] bcast_S1x1x3584_S4x4096x3584_0_1_2
      (broadcastInDim S1x1x3584 ![2] bcast_S3584_S1x1x3584_2 (extf .f32 g bitsLt_bf16_f32)) (ix3 b s j) = _
  rw [along_at, gain_at, rs_at]; rfl

theorem mx_at (b : Fin 4) (s : Fin 4096) : mxOf x g (ix2 b s) = amR (xr x b s) (gr g) := by
  refine (Host.reduce_eq_fold_single (FloatOps.maximumf (F := Ideal) (φ := .f32)) _ _ _ red2 _ (ix2 b s)).trans ?_
  refine eq_of_forall_ge_iff fun z => ?_
  refine (Finset.fold_max_le _).trans ?_
  unfold amR
  rw [Finset.sup_le_iff]
  have hl : ∀ j : Fin 3584, (Host.absf (hOf x g) (red2.lift (ix2 b s) j) : EReal) = max (hR (xr x b s) (gr g) j) (-(hR (xr x b s) (gr g) j)) := fun j => by
    rw [lift2]; exact congrArg (fun p : EReal => max p (-p)) (h_at x g b s j)
  constructor
  · rintro ⟨-, h⟩ j -
    exact le_of_eq_of_le (hl j).symm (h j (Finset.mem_univ _))
  · intro h
    exact ⟨by refine le_of_eq_of_le negInf bot_le, fun j _ => le_of_eq_of_le (hl j) (h j (Finset.mem_univ _))⟩

theorem mul_at {S : Shape} (a b : FVec Ideal S .f32) (i : S.Idx) : mulf a b i = (a i : EReal) * b i := rfl
theorem add_at {S : Shape} (a b : FVec Ideal S .f32) (i : S.Idx) : addf a b i = (a i : EReal) + b i := rfl
theorem div_at {S : Shape} (a b : FVec Ideal S .f32) (i : S.Idx) : Host.divf a b i = Ideal.div (a i) (b i) := rfl
theorem rsqrt_at {S : Shape} (a : FVec Ideal S .f32) (i : S.Idx) : Host.rsqrt a i = Ideal.rsqrt (a i) := rfl
theorem log_at {S : Shape} (a : FVec Ideal S .f32) (i : S.Idx) : Host.log a i = Ideal.log (a i) := rfl
theorem floor_at {S : Shape} (a : FVec Ideal S .f32) (i : S.Idx) : Host.floor a i = Ideal.liftRound Int.floor (a i) := rfl
theorem pow_at {S : Shape} (a b : FVec Ideal S .f32) (i : S.Idx) : Host.powf a b i = Ideal.pow (a i) (b i) := rfl
theorem neg_at {S : Shape} (a : FVec Ideal S .f32) (i : S.Idx) : Host.negf a i = -(a i : EReal) := rfl
theorem cmp_at {S : Shape} (a b : FVec Ideal S .f32) (i : S.Idx) : cmpf .olt a b i = Ideal.cmp .olt (a i) (b i) := rfl
theorem sel_at {S : Shape} (c : IVec S 1) (a b : FVec Ideal S .f32) (i : S.Idx) : select c a b i = Scalar.select (c i) (a i) (b i) := rfl
theorem const_at (v : BitVec 32) (i : S_.Idx) : constant (F := Ideal) S_ .f32 v i = Ideal.ofBits .f32 v := rfl

theorem y_at (b : Fin 4) (s : Fin 4096) : yOf x g (ix3 b s 0) = yR (xr x b s) (gr g) := by
  unfold yOf yR rcp448
  exact (mul_at _ _ _).trans (congrArg₂ (· * ·) ((up_at _ b s _).trans (mx_at x g b s)) (rowC_at _ _))

theorem e_at (b : Fin 4) (s : Fin 4096) : eOf x g (ix3 b s 0) = expR (yR (xr x b s) (gr g)) := by
  have e := y_at x g b s
  unfold eOf expR
  generalize yOf x g = Y at e ⊢
  rw [sel_at, cmp_at, add_at, floor_at, div_at, log_at, rowC_at, rowC_at, ValueIdx.broadcastInDim_scalar_apply, ValueIdx.broadcastInDim_scalar_apply, log_at,
    const_at, e]
  rfl

theorem s_at (b : Fin 4) (s : Fin 4096) : sOf x g (ix3 b s 0) = scR (xr x b s) (gr g) := by
  unfold sOf scR scaleR
  rw [pow_at, rowC_at, e_at]

theorem i_at (b : Fin 4) (s : Fin 4096) : iOf x g (ix3 b s 0) = invR (yR (xr x b s) (gr g)) := by
  unfold iOf invR
  rw [pow_at, rowC_at, neg_at, e_at]

end Cert.ReferenceIdeal.Value
-- ==== Proof.Value.RefTail.lean ====
module

public import proofs.«01_k».proof.Proof.Value.RefTile

/-! The reference's host lines after the product, read at an index. -/

@[expose] public section

set_option maxRecDepth 16384

noncomputable section

namespace Cert.ReferenceIdeal.Value

open Cert.ReferenceIdeal
open Cert.ReferenceIdeal.Facts₀ Cert.ReferenceIdeal.Facts
open Idealize.ShloMosaic
open Cert.Row
open ValueIdx (ix1 ix2 ix3 ix4)

variable [Facts]

/-- The product scaled back. -/
def deqOf (p : FVec Ideal S16384x1152 .f32) (s : FVec Ideal S4x4096x1 .f32) (w : FVec Ideal S1152 .f32) : FVec Ideal S4x4096x1152 .f32 :=
  mulf (mulf (shapeCast S4x4096x1152 p shapeCasts_S16384x1152_S4x4096x1152) (broadcastInDim S4x4096x1152 ![0, 1, 2] bcast_S4x4096x1_S4x4096x1152_0_1_2 s))
    (broadcastInDim S4x4096x1152 ![0, 1, 2] bcast_S1x1x1152_S4x4096x1152_0_1_2 (broadcastInDim S1x1x1152 ![2] bcast_S1152_S1x1x1152_2 w))

theorem deqOf_at (p : FVec Ideal S16384x1152 .f32) (s : FVec Ideal S4x4096x1 .f32) (w : FVec Ideal S1152 .f32) (b : Fin 4) (t : Fin 4096) (n : Fin 1152) :
    deqOf p s w (ix3 b t n) = (p (ix2 ⟨4096 * b.val + t.val, by omega⟩ n) : EReal) * s (ix3 b t 0) * w (ix1 n) := by
  unfold deqOf
  refine (mul_at _ _ _).trans (congrArg₂ (· * ·) ((mul_at _ _ _).trans (congrArg₂ (· * ·) (cast3 p _ b t n) ?_)) ?_)
  · exact broadcastInDim_apply (s := S4x4096x1) (t := S4x4096x1152) ![0, 1, 2] _ s (ix3 b t n) (ix3 b t 0) (by intro a; fin_cases a <;> rfl)
  · refine (broadcastInDim_apply (s := S1x1x1152) (t := S4x4096x1152) ![0, 1, 2] _ _ (ix3 b t n) (ix3 0 0 n) (by intro a; fin_cases a <;> rfl)).trans ?_
    exact broadcastInDim_apply (s := S1152) (t := S1x1x1152) ![2] _ w (ix3 0 0 n) (ix1 n) (by intro a; fin_cases a; rfl)

/-- The heads of the queries, of the keys and of the values. -/
def qOf (d : FVec Ideal S4x4096x1152 .f32) : FVec Ideal S4x4096x7x128 .f32 :=
  shapeCast S4x4096x7x128 (extractStridedSlice S4x4096x896 ![0, 0, 0] d slices_S4x4096x1152_S4x4096x896_0_0_0) shapeCasts_S4x4096x896_S4x4096x7x128
def kOf (d : FVec Ideal S4x4096x1152 .f32) : FVec Ideal S4x4096x1x128 .f32 :=
  shapeCast S4x4096x1x128 (extractStridedSlice S4x4096x128 ![0, 0, 896] d slices_S4x4096x1152_S4x4096x128_0_0_896) shapeCasts_S4x4096x128_S4x4096x1x128
def vOf (d : FVec Ideal S4x4096x1152 .f32) : FVec Ideal S4x4096x1x128 .f32 :=
  shapeCast S4x4096x1x128 (extractStridedSlice S4x4096x128 ![0, 0, 1024] d slices_S4x4096x1152_S4x4096x128_0_0_1024) shapeCasts_S4x4096x128_S4x4096x1x128

theorem qOf_at (d : FVec Ideal S4x4096x1152 .f32) (b : Fin 4) (t : Fin 4096) (h : Fin 7) (l : Fin 128) :
    qOf d (ix4 b t h l) = d (ix3 b t (lane ⟨h.val, by omega⟩ l)) := by
  refine (shapeCast_apply (s := S4x4096x896) (t := S4x4096x7x128) _ _ (ix4 b t h l) (ix3 b t ⟨128 * h.val + l.val, by omega⟩) ?_).trans ?_
  · rw [Shape.rowMajor_val_three, Shape.rowMajor_val_four]
    show (b.val * 4096 + t.val) * 896 + (128 * h.val + l.val) = ((b.val * 4096 + t.val) * 7 + h.val) * 128 + l.val
    omega
  · exact extractStridedSlice_apply (s := S4x4096x1152) (t := S4x4096x896) ![0, 0, 0] d _ _ (ix3 b t (lane ⟨h.val, by omega⟩ l))
      (by intro a; fin_cases a <;> exact (Nat.zero_add _).symm)

theorem cast1 (v : S4x4096x128.Idx → EReal) (h) (b : Fin 4) (t : Fin 4096) (l : Fin 128) :
    shapeCast S4x4096x1x128 v h (ix4 b t 0 l) = v (ix3 b t l) := by
  refine shapeCast_apply (s := S4x4096x128) (t := S4x4096x1x128) _ _ (ix4 b t 0 l) (ix3 b t l) ?_
  rw [Shape.rowMajor_val_three, Shape.rowMajor_val_four]
  show (b.val * 4096 + t.val) * 128 + l.val = ((b.val * 4096 + t.val) * 1 + 0) * 128 + l.val
  omega

theorem kOf_at (d : FVec Ideal S4x4096x1152 .f32) (b : Fin 4) (t : Fin 4096) (l : Fin 128) : kOf d (ix4 b t 0 l) = d (ix3 b t (lane 7 l)) := by
  refine (cast1 _ _ b t l).trans ?_
  exact extractStridedSlice_apply (s := S4x4096x1152) (t := S4x4096x128) ![0, 0, 896] d _ _ (ix3 b t (lane 7 l))
      (by intro a; fin_cases a <;> first | exact (Nat.zero_add _).symm | rfl)
theorem vOf_at (d : FVec Ideal S4x4096x1152 .f32) (b : Fin 4) (t : Fin 4096) (l : Fin 128) : vOf d (ix4 b t 0 l) = d (ix3 b t (lane 8 l)) := by
  refine (cast1 _ _ b t l).trans ?_
  exact extractStridedSlice_apply (s := S4x4096x1152) (t := S4x4096x128) ![0, 0, 1024] d _ _ (ix3 b t (lane 8 l))
      (by intro a; fin_cases a <;> first | exact (Nat.zero_add _).symm | rfl)

/-! ## Heads normalized -/

variable {n : Nat}

/-- Each head divided by the root of its mean square, times the gain. -/
def normOf (d : FVec Ideal ⟨4, ![4, 4096, n, 128]⟩ .f32) (g : FVec Ideal S128 .bf16)
    (h1 : (⟨4, ![4, 4096, n, 128]⟩ : Shape).ReducesTo [3] ⟨3, ![4, 4096, n]⟩)
    (h2 : (⟨3, ![4, 4096, n]⟩ : Shape).BroadcastsInDim ⟨4, ![4, 4096, n, 1]⟩ ![0, 1, 2])
    (h3 : S_.BroadcastsInDim ⟨4, ![4, 4096, n, 1]⟩ ![])
    (h4 : (⟨4, ![4, 4096, n, 1]⟩ : Shape).BroadcastsInDim ⟨4, ![4, 4096, n, 128]⟩ ![0, 1, 2, 3])
    (h5 : S1x1x1x128.BroadcastsInDim ⟨4, ![4, 4096, n, 128]⟩ ![0, 1, 2, 3]) : FVec Ideal ⟨4, ![4, 4096, n, 128]⟩ .bf16 :=
  truncf .bf16 (mulf (mulf d (broadcastInDim ⟨4, ![4, 4096, n, 128]⟩ ![0, 1, 2, 3] h4
      (Host.rsqrt (addf (Host.divf (broadcastInDim ⟨4, ![4, 4096, n, 1]⟩ ![0, 1, 2] h2
          (Host.reduceAdd (mulf d d) (constant S_ .f32 0x00000000#32) h1 h_S_))
        (broadcastInDim ⟨4, ![4, 4096, n, 1]⟩ ![] h3 (constant S_ .f32 0x43000000#32)))
        (broadcastInDim ⟨4, ![4, 4096, n, 1]⟩ ![] h3 (constant S_ .f32 0x358637BD#32))))))
    (broadcastInDim ⟨4, ![4, 4096, n, 128]⟩ ![0, 1, 2, 3] h5
      (broadcastInDim S1x1x1x128 ![3] bcast_S128_S1x1x1x128_3 (extf .f32 g bitsLt_bf16_f32)))) bitsLt_bf16_f32

theorem fin_unit (h : Fin n) : h.val = if n = 1 then 0 else h.val := by split <;> omega

theorem trunc_at {S : Shape} (a : FVec Ideal S .f32) (h) (i : S.Idx) : truncf .bf16 a h i = (a i : EReal) := rfl

theorem lift3 (h : (⟨4, ![4, 4096, n, 128]⟩ : Shape).Reduces [3] ⟨3, ![4, 4096, n]⟩) (b : Fin 4) (t : Fin 4096) (e : Fin n) (k : Fin 128) :
    h.lift (ix3 b t e) k = ix4 b t e k := by
  funext a; apply Fin.ext; fin_cases a <;> rfl

theorem normOf_at (d : FVec Ideal ⟨4, ![4, 4096, n, 128]⟩ .f32) (g : FVec Ideal S128 .bf16) (h0 : (⟨4, ![4, 4096, n, 128]⟩ : Shape).Reduces [3] ⟨3, ![4, 4096, n]⟩) (h1 h2 h3 h4 h5)
    (b : Fin 4) (t : Fin 4096) (e : Fin n) (l : Fin 128) :
    normOf d g h1 h2 h3 h4 h5 (ix4 b t e l) = headS (fun k => d (ix4 b t e k)) (fun k => g (ix1 k)) l := by
  unfold normOf headS rHead w128 eps
  refine (trunc_at _ _ _).trans ((mul_at _ _ _).trans (congrArg₂ (· * ·) ((mul_at _ _ _).trans (congrArg₂ (· * ·) rfl ?_)) ?_))
  · refine (broadcastInDim_apply (s := ⟨4, ![4, 4096, n, 1]⟩) (t := ⟨4, ![4, 4096, n, 128]⟩) ![0, 1, 2, 3] h4 _ (ix4 b t e l) (ix4 b t e 0)
      (by intro a; fin_cases a; · rfl
          · rfl
          · exact fin_unit e
          · rfl)).trans ?_
    refine (rsqrt_at _ _).trans (congrArg Ideal.rsqrt ((add_at _ _ _).trans (congrArg₂ (· + ·) ((div_at _ _ _).trans (congrArg₂ Ideal.div ?_ ?_)) ?_)))
    · refine (broadcastInDim_apply (s := ⟨3, ![4, 4096, n]⟩) (t := ⟨4, ![4, 4096, n, 1]⟩) ![0, 1, 2] h2 _ (ix4 b t e 0) (ix3 b t e)
        (by intro a; fin_cases a; · rfl
            · rfl
            · exact fin_unit e)).trans ?_
      refine (Ideal.hostReduceAdd_single _ h0 _ _ (ix3 b t e)).trans ?_
      refine (congrArg₂ (· + ·) Ideal.ofBits_zero_f32 (Finset.sum_congr rfl fun k _ => ?_)).trans (zero_add _)
      exact congrArg (fun i => mulf d d i) (lift3 h0 b t e k)
    · exact (ValueIdx.broadcastInDim_scalar_apply _ _ _).trans (const_at _ _)
    · exact (ValueIdx.broadcastInDim_scalar_apply _ _ _).trans (const_at _ _)
  · refine (broadcastInDim_apply (s := S1x1x1x128) (t := ⟨4, ![4, 4096, n, 128]⟩) ![0, 1, 2, 3] h5 _ (ix4 b t e l) (ix4 0 0 0 l)
      (by intro a; fin_cases a <;> rfl)).trans ?_
    exact broadcastInDim_apply (s := S128) (t := S1x1x1x128) ![3] _ _ (ix4 0 0 0 l) (ix1 l) (by intro a; fin_cases a; rfl)

end Cert.ReferenceIdeal.Value
-- ==== Proof.Value.RefHost.lean ====
module

public import proofs.«01_k».proof.Proof.Gen.ReferenceIdeal.Frame
public import proofs.«01_k».proof.Proof.Value.RefTail
public import Idealize.ShloMosaic.Lib.StableHlo.ReadAt

/-! What the buffers hold after the reference's host lines before the product, on the extended reals. -/

@[expose] public section

set_option maxRecDepth 16384

noncomputable section

namespace Cert.ReferenceIdeal.Value

open Cert.ReferenceIdeal Cert.ReferenceIdeal.Gen
open Idealize.ShloMosaic hiding ix1 ix2 ix3 ix4
open Idealize.ShloMosaic.TcCoe
open Cert.Row
open ValueIdx (ix1 ix2 ix3 ix4)

variable (m : (ℓ : Loc nD τ sig) → Buf (Elt Ideal) ℓ) (c : Dev nD)

/-- The buffers after each of the three runs of host lines before the product. -/
abbrev M1 : Valuation τ sig (Elt Ideal) := StableHlo.after hostOps0 (fun b => m (c, b))
abbrev M2 : Valuation τ sig (Elt Ideal) := StableHlo.after hostOps0_1 (M1 m c)

theorem V0_eq : V0 m c = StableHlo.after hostOps0_2 (M2 m c) := by
  show StableHlo.after (hostOps0 ++ (hostOps0_1 ++ (hostOps0_2 ++ []))) (fun b => m (c, b)) = _
  rw [StableHlo.after_append, StableHlo.after_append, List.append_nil]

theorem M1_cst_7 : (M1 m c (Proc.devRef .tc main_cst_7) : S_.Idx → EReal) = constant (F := Ideal) S_ .f32 0x00000000#32 := by
  unfold M1
  after_reads_simp

theorem M1_v28 : (M1 m c (Proc.devRef .tc main_v28) : S4x4096x1.Idx → BitVec 1) = cmpf .olt (yOf (m ((c.tc : Thread nD τ).loc main_arg0)) (m ((c.tc : Thread nD τ).loc main_arg1))) (rowC 0x00800000#32) := by
  unfold M1
  after_reads_simp
  rfl

theorem M1_v26 : (M1 m c (Proc.devRef .tc main_v26) : S4x4096x1.Idx → EReal)
    = addf (Host.floor (Host.divf (Host.log (yOf (m ((c.tc : Thread nD τ).loc main_arg0)) (m ((c.tc : Thread nD τ).loc main_arg1))))
        (broadcastInDim S4x4096x1 ![] bcast_S_S4x4096x1 (Host.log (constant S_ .f32 0x40000000#32))))) (rowC 0x3F800000#32) := by
  unfold M1
  after_reads_simp
  rfl

theorem M1_v14 : (M1 m c (Proc.devRef .tc main_v14) : S4x4096x3584.Idx → EReal) = hOf (m ((c.tc : Thread nD τ).loc main_arg0)) (m ((c.tc : Thread nD τ).loc main_arg1)) := by
  unfold M1
  after_reads_simp
  rfl

theorem M2_v29 : (M2 m c (Proc.devRef .tc main_v29) : S4x4096x1.Idx → EReal) = eOf (m ((c.tc : Thread nD τ).loc main_arg0)) (m ((c.tc : Thread nD τ).loc main_arg1)) := by
  have e1 := M1_v28 m c
  have e2 := M1_cst_7 m c
  have e3 := M1_v26 m c
  unfold M2 eOf
  generalize M1 m c = M at e1 e2 e3
  generalize yOf (m ((c.tc : Thread nD τ).loc main_arg0)) (m ((c.tc : Thread nD τ).loc main_arg1)) = Y at e1 e3 ⊢
  after_reads_simp
  rw [← e1, ← e2, ← e3]
  rfl

theorem M2_v14 : (M2 m c (Proc.devRef .tc main_v14) : S4x4096x3584.Idx → EReal) = hOf (m ((c.tc : Thread nD τ).loc main_arg0)) (m ((c.tc : Thread nD τ).loc main_arg1)) := by
  refine Eq.trans ?_ (M1_v14 m c)
  unfold M2
  generalize M1 m c = M
  after_reads_simp

theorem V_v31 : (V0 m c (Proc.devRef .tc main_v31) : S4x4096x1.Idx → EReal) = sOf (m ((c.tc : Thread nD τ).loc main_arg0)) (m ((c.tc : Thread nD τ).loc main_arg1)) := by
  have e := M2_v29 m c
  rw [V0_eq]
  unfold sOf
  generalize M2 m c = M at e
  after_reads_simp
  rw [← e]

theorem V_v36 : (V0 m c (Proc.devRef .tc main_v36) : S16384x1.Idx → EReal)
    = shapeCast S16384x1 (iOf (m ((c.tc : Thread nD τ).loc main_arg0)) (m ((c.tc : Thread nD τ).loc main_arg1))) shapeCasts_S4x4096x1_S16384x1 := by
  have e := M2_v29 m c
  rw [V0_eq]
  unfold iOf
  generalize M2 m c = M at e
  after_reads_simp
  rw [← e]
  rfl

theorem V_v35 : (V0 m c (Proc.devRef .tc main_v35) : S16384x3584.Idx → EReal)
    = shapeCast S16384x3584 (hOf (m ((c.tc : Thread nD τ).loc main_arg0)) (m ((c.tc : Thread nD τ).loc main_arg1))) shapeCasts_S4x4096x3584_S16384x3584 := by
  have e := M2_v14 m c
  rw [V0_eq]
  generalize M2 m c = M at e
  after_reads_simp
  rw [← e]
  rfl

end Cert.ReferenceIdeal.Value
-- ==== Proof.Value.Reference.lean ====
module

public import proofs.«01_k».proof.Proof.Value.RefHost
public import Idealize.ShloMosaic.Lib.Pipeline.ValueKit.Geometry

/-! What the reference's run leaves in its results, on the extended reals. -/

@[expose] public section

set_option maxRecDepth 16384

noncomputable section

namespace Cert.ReferenceIdeal.Value

open Cert.ReferenceIdeal Cert.ReferenceIdeal.Gen
open Idealize.ShloMosaic hiding ix1 ix2 ix3 ix4
open Idealize.ShloMosaic.TcCoe
open Cert.Row
open ValueIdx (ix1 ix2 ix3 ix4)

variable (m : (ℓ : Loc nD τ sig) → Buf (Elt Ideal) ℓ) (c : Dev nD)

/-- The arguments of device `c`. -/
def inp : Inp where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)

theorem row_at (b : Fin 4) (s : Fin 4096) : (inp m c).row (4096 * b.val + s.val) = xr (m ((c.tc : Thread nD τ).loc main_arg0)) b s := by
  funext j; exact (inp m c).row_at _ b s rfl j

theorem row_split (R : Fin 16384) : (inp m c).row R.val = xr (m ((c.tc : Thread nD τ).loc main_arg0)) ⟨R.val / 4096, by omega⟩ ⟨R.val % 4096, by omega⟩ := by
  funext j; exact (inp m c).row_at _ _ _ (by show R.val = 4096 * (R.val / 4096) + R.val % 4096; omega) j

theorem gain_eq : (inp m c).gain = gr (m ((c.tc : Thread nD τ).loc main_arg1)) := rfl

/-! ## The blocks read -/

theorem idx_0 : ∀ t : Fin grid0.N, win0_0.index t 0 = 0 ∧ win0_0.index t 1 = 0 := by decide +kernel
theorem idx_1 : ∀ t : Fin grid0.N, win0_1.index t 0 = 0 ∧ win0_1.index t 1 = 0 := by decide +kernel
theorem idx_2 : ∀ t : Fin grid0.N, win0_2.index t 0 = 0 ∧ win0_2.index t 1 = 0 := by decide +kernel
theorem idx_3 : ∀ t : Fin grid0.N, win0_3.index t 0 = 0 ∧ win0_3.index t 1 = 0 := by decide +kernel
theorem idx_4 : ∀ t : Fin grid0.N, win0_4.index t 0 = 0 ∧ win0_4.index t 1 = 0 := by decide +kernel

theorem flat1 (v : S4x4096x1.Idx → EReal) (h) (R : Fin 16384) : shapeCast S16384x1 v h (ix2 R 0) = v (ix3 ⟨R.val / 4096, by omega⟩ ⟨R.val % 4096, by omega⟩ 0) :=
  flat3 (n := 1) v h R 0
theorem flatX (v : S4x4096x3584.Idx → EReal) (h) (R : Fin 16384) (j : Fin 3584) :
    shapeCast S16384x3584 v h (ix2 R j) = v (ix3 ⟨R.val / 4096, by omega⟩ ⟨R.val % 4096, by omega⟩ j) :=
  flat3 (n := 3584) v h R j

theorem V35_at (R : Fin 16384) (j : Fin 3584) : (V0 m c (Proc.devRef .tc main_v35) : S16384x3584.Idx → EReal) (ix2 R j) = hR ((inp m c).row R.val) (inp m c).gain j := by
  rw [row_split, gain_eq, V_v35, flatX, h_at]

theorem V36_at (R : Fin 16384) : (V0 m c (Proc.devRef .tc main_v36) : S16384x1.Idx → EReal) (ix2 R 0) = invR (yR ((inp m c).row R.val) (inp m c).gain) := by
  rw [row_split, gain_eq, V_v36, flat1, i_at]

theorem read_0 (A : S16384x3584.Idx → EReal) (t : Fin cfg0.N) (R : Fin 16384) (j : Fin 3584) : ((((cfg0.win 0).blk t).view.read (Elt Ideal) A : S16384x3584.Idx → EReal)) (ix2 R j) = A (ix2 R j) := by
  rw [View.read_apply]
  refine congrArg A ?_
  funext a
  apply Fin.ext
  match a with
  | ⟨0, _⟩ => show win0_0.index t 0 * 16384 + 1 * R.val = R.val; rw [(idx_0 t).1]; omega
  | ⟨1, _⟩ => show win0_0.index t 1 * 3584 + 1 * j.val = j.val; rw [(idx_0 t).2]; omega

theorem iblk_0 (t : Fin cfg0.N) (R : Fin 16384) (j : Fin 3584) : (iblk m c 0 t : S16384x3584.Idx → EReal) (ix2 R j) = (V m c (Pipeline.arrRef spec0 0) : S16384x3584.Idx → EReal) (ix2 R j) := by
  unfold iblk
  generalize V m c (Pipeline.arrRef spec0 0) = A
  exact read_0 A t R j

theorem V_0 : V m c (Pipeline.arrRef spec0 0) = V0 m c (Proc.devRef .tc main_v35) := by
  dsimp only [V]

theorem read_1 (A : S16384x1.Idx → EReal) (t : Fin cfg0.N) (R : Fin 16384) : ((((cfg0.win 1).blk t).view.read (Elt Ideal) A : S16384x1.Idx → EReal)) (ix2 R 0) = A (ix2 R 0) := by
  rw [View.read_apply]
  refine congrArg A ?_
  funext a
  apply Fin.ext
  match a with
  | ⟨0, _⟩ => show win0_1.index t 0 * 16384 + 1 * R.val = R.val; rw [(idx_1 t).1]; omega
  | ⟨1, _⟩ => show win0_1.index t 1 * 1 + 1 * 0 = 0; rw [(idx_1 t).2]

theorem iblk_1 (t : Fin cfg0.N) (R : Fin 16384) : (iblk m c 1 t : S16384x1.Idx → EReal) (ix2 R 0) = (V m c (Pipeline.arrRef spec0 1) : S16384x1.Idx → EReal) (ix2 R 0) := by
  unfold iblk
  generalize V m c (Pipeline.arrRef spec0 1) = A
  exact read_1 A t R

theorem V_1 : V m c (Pipeline.arrRef spec0 1) = V0 m c (Proc.devRef .tc main_v36) := by
  dsimp only [V]

theorem read_2 (A : S3584x1152.Idx → EReal) (t : Fin cfg0.N) (j : Fin 3584) (n : Fin 1152) : ((((cfg0.win 2).blk t).view.read (Elt Ideal) A : S3584x1152.Idx → EReal)) (ix2 j n) = A (ix2 j n) := by
  rw [View.read_apply]
  refine congrArg A ?_
  funext a
  apply Fin.ext
  match a with
  | ⟨0, _⟩ => show win0_2.index t 0 * 3584 + 1 * j.val = j.val; rw [(idx_2 t).1]; omega
  | ⟨1, _⟩ => show win0_2.index t 1 * 1152 + 1 * n.val = n.val; rw [(idx_2 t).2]; omega

theorem iblk_2 (t : Fin cfg0.N) (j : Fin 3584) (n : Fin 1152) : (iblk m c 2 t : S3584x1152.Idx → EReal) (ix2 j n) = (V m c (Pipeline.arrRef spec0 2) : S3584x1152.Idx → EReal) (ix2 j n) := by
  unfold iblk
  generalize V m c (Pipeline.arrRef spec0 2) = A
  exact read_2 A t j n

theorem V_2 : V m c (Pipeline.arrRef spec0 2) = V0 m c (Proc.devRef .tc main_arg2) := by
  dsimp only [V]

theorem blk_0 (t : Fin cfg0.N) (R : Fin 16384) (j : Fin 3584) : (iblk m c 0 t : S16384x3584.Idx → EReal) (ix2 R j) = hR ((inp m c).row R.val) (inp m c).gain j :=
  (iblk_0 m c t R j).trans ((congrFun (V_0 m c) (ix2 R j)).trans (V35_at m c R j))

theorem blk_1 (t : Fin cfg0.N) (R : Fin 16384) : (iblk m c 1 t : S16384x1.Idx → EReal) (ix2 R 0) = invR (yR ((inp m c).row R.val) (inp m c).gain) :=
  (iblk_1 m c t R).trans ((congrFun (V_1 m c) (ix2 R 0)).trans (V36_at m c R))

theorem blk_2 (t : Fin cfg0.N) (j : Fin 3584) (n : Fin 1152) : (iblk m c 2 t : S3584x1152.Idx → EReal) (ix2 j n) = (inp m c).col n j :=
  (iblk_2 m c t j n).trans (congrFun ((V_2 m c).trans (V_main_arg2 m c)) (ix2 j n))

/-! ## The blocks written -/

theorem pay1_at (x0 : Vec Ideal S16384x3584 .f32) (x1 : Vec Ideal S16384x1 .f32) (R : Fin 16384) (j : Fin 3584) :
    (k0_pay1 x0 x1 (ix2 R j) : EReal) = clip ((x0 (ix2 R j) : EReal) * x1 (ix2 R 0)) := by
  refine congrArg clip (congrArg₂ (fun p q : EReal => p * q) ?_ ?_)
  · exact shapeCast_apply (s := S16384x3584) (t := S16384x3584) x0 _ (ix2 R j) (ix2 R j) rfl
  · refine (broadcastTo_apply (s := S16384x1) (t := S16384x3584) _ _ (ix2 R j) (ix2 R 0) ?_).trans ?_
    · intro a; fin_cases a <;> rfl
    · exact shapeCast_apply (s := S16384x1) (t := S16384x1) x1 _ (ix2 R 0) (ix2 R 0) rfl

theorem out3_at (x0 : Vec Ideal S16384x3584 .f32) (x1 : Vec Ideal S16384x1 .f32) (x2 : Vec Ideal S3584x1152 .fp8e4m3) (R : Fin 16384) (j : Fin 3584) :
    (out0_3 x0 x1 x2 (ix2 R j) : EReal) = clip ((x0 (ix2 R j) : EReal) * x1 (ix2 R 0)) := by
  refine Eq.trans (congrFun ?_ (ix2 R j)) (pay1_at x0 x1 R j)
  unfold out0_3
  rw [View.canon_cons_unit_lit _ _ _ (by decide), View.ld_unit_lit _ _ (by decide), View.ld_unit_lit _ _ (by decide)]

theorem out4_at (x0 : Vec Ideal S16384x3584 .f32) (x1 : Vec Ideal S16384x1 .f32) (x2 : Vec Ideal S3584x1152 .fp8e4m3) (R : Fin 16384) (n : Fin 1152) :
    (out0_4 x0 x1 x2 (ix2 R n) : EReal) = ∑ j : Fin 3584, clip ((x0 (ix2 R j) : EReal) * x1 (ix2 R 0)) * x2 (ix2 j n) := by
  have e : out0_4 x0 x1 x2 = k0_pay2 x0 x1 x2 := by
    unfold out0_4
    rw [View.canon_cons_unit_lit _ _ _ (by decide), View.ld_unit_lit _ _ (by decide), View.ld_unit_lit _ _ (by decide), View.ld_unit_lit _ _ (by decide)]
  rw [e]
  unfold k0_pay2
  refine (Ideal.matmul_plain_apply (M := 16384) (K := 3584) (N := 1152) (φ₁ := .fp8e4m3) (φ₂ := .fp8e4m3) none (k0_pay1 x0 x1) x2
    (constant S16384x1152 .f32 0x00000000#32) R n).trans ?_
  rw [show (constant (F := Ideal) S16384x1152 .f32 0x00000000#32 (ix2 R n) : EReal) = 0 from Ideal.ofBits_zero_f32, zero_add]
  exact Finset.sum_congr rfl fun j _ => congrArg (fun q : EReal => q * x2 (ix2 j n)) (pay1_at x0 x1 R j)

/-- The codes and the product, row by row. -/
def cds : S16384x3584.Idx → EReal := fun i => cdR ((inp m c).row (i 0).val) (inp m c).gain (i 1)
def prd : S16384x1152.Idx → EReal := fun i => dotS (cdR ((inp m c).row (i 0).val) (inp m c).gain) ((inp m c).col (i 1))

theorem after3_at (t : Fin cfg0.N) (R : Fin 16384) (j : Fin 3584) : ((dats m 0 c).after 3 t : S16384x3584.Idx → EReal) (ix2 R j) = cds m c (ix2 R j) := by
  rw [after0_3]
  refine (out3_at _ _ _ R j).trans ?_
  rw [blk_0, blk_1]; rfl

theorem after4_at (t : Fin cfg0.N) (R : Fin 16384) (n : Fin 1152) : ((dats m 0 c).after 4 t : S16384x1152.Idx → EReal) (ix2 R n) = prd m c (ix2 R n) := by
  rw [after0_4]
  refine (out4_at _ _ _ R n).trans ?_
  unfold prd dotS
  refine Finset.sum_congr rfl fun j _ => ?_
  rw [blk_0, blk_1, blk_2]; rfl

theorem arr_3 : (dats m 0 c).arrAt 3 cfg0.N = cds m c := by
  refine (dats m 0 c).arrAt_eq_of_covers 3 _ (by decide +kernel) fun t hf y => ?_
  let z : S16384x3584.Idx := (cfg0.win 3).xinj (cfg0.grid.coords t) y
  show ((dats m 0 c).after 3 t : S16384x3584.Idx → EReal) z = _
  refine (congrArg _ (ValueIdx.eq_ix2 z)).trans ((after3_at m c t (z 0) (z 1)).trans ?_)
  refine congrArg (cds m c) ?_
  funext a
  apply Fin.ext
  match a with
  | ⟨0, _⟩ => show (y 0).val = win0_3.index t 0 * 16384 + 1 * (y 0).val; rw [(idx_3 t).1]; omega
  | ⟨1, _⟩ => show (y 1).val = win0_3.index t 1 * 3584 + 1 * (y 1).val; rw [(idx_3 t).2]; omega

theorem arr_4 : (dats m 0 c).arrAt 4 cfg0.N = prd m c := by
  refine (dats m 0 c).arrAt_eq_of_covers 4 _ (by decide +kernel) fun t hf y => ?_
  let z : S16384x1152.Idx := (cfg0.win 4).xinj (cfg0.grid.coords t) y
  show ((dats m 0 c).after 4 t : S16384x1152.Idx → EReal) z = _
  refine (congrArg _ (ValueIdx.eq_ix2 z)).trans ((after4_at m c t (z 0) (z 1)).trans ?_)
  refine congrArg (prd m c) ?_
  funext a
  apply Fin.ext
  match a with
  | ⟨0, _⟩ => show (y 0).val = win0_4.index t 0 * 16384 + 1 * (y 0).val; rw [(idx_4 t).1]; omega
  | ⟨1, _⟩ => show (y 1).val = win0_4.index t 1 * 1152 + 1 * (y 1).val; rw [(idx_4 t).2]; omega

end Cert.ReferenceIdeal.Value
-- ==== Proof.Value.Agree.lean ====
module

public import proofs.«01_k».proof.Proof.Value.Rows

/-! The reference's five results as functions of the six arguments, and that they are the kernel's when no gain passes
    the largest finite number. -/

@[expose] public section

noncomputable section

namespace Cert.Row

open Idealize.ShloMosaic
open ValueIdx (ix1 ix2 ix3 ix4)

variable (I : Inp)

def Inp.dqR (n : Nat) : Fin 1152 → EReal := deqR (I.row n) I.gain I.col I.scl
def Inp.hdR (n : Nat) (h : Fin 9) (g : Fin 128 → EReal) (l : Fin 128) : EReal := headS (fun k => I.dqR n (lane h k)) g l

def Inp.s0 : (⟨4, ![4, 4096, 7, 128]⟩ : Shape).Idx → EReal := fun i => I.hdR (4096 * (i 0).val + (i 1).val) ⟨(i 2).val, Nat.lt_of_lt_of_le (i 2).isLt (by decide)⟩ I.qg (i 3)
def Inp.s1 : (⟨4, ![4, 4096, 1, 128]⟩ : Shape).Idx → EReal := fun i => I.hdR (4096 * (i 0).val + (i 1).val) 7 I.kg (i 3)
def Inp.s2 : (⟨4, ![4, 4096, 1, 128]⟩ : Shape).Idx → EReal := fun i => I.dqR (4096 * (i 0).val + (i 1).val) (lane 8 (i 3))
def Inp.s3 : (⟨3, ![4, 4096, 3584]⟩ : Shape).Idx → EReal := fun i => cdR (I.row (4096 * (i 0).val + (i 1).val)) I.gain (i 2)
def Inp.s4 : (⟨3, ![4, 4096, 1]⟩ : Shape).Idx → EReal := fun i => scR (I.row (4096 * (i 0).val + (i 1).val)) I.gain

variable (hG : ∀ j, max (I.gain j) (-(I.gain j)) ≤ gMax)
include hG

theorem Inp.dq_agree (n : Nat) : I.dqR n = I.dq n := (deq_agree _ _ _ _ hG).symm
theorem Inp.hd_agree (n : Nat) : I.hdR n = I.hd n := by
  funext h g l
  unfold Inp.hdR Inp.hd
  rw [I.dq_agree hG]

theorem Inp.agree : I.s0 = I.r0 ∧ I.s1 = I.r1 ∧ I.s2 = I.r2 ∧ I.s3 = I.r3 ∧ I.s4 = I.r4 := by
  refine ⟨?_, ?_, ?_, ?_, ?_⟩ <;> funext i
  · unfold Inp.s0 Inp.r0; rw [I.hd_agree hG]
  · unfold Inp.s1 Inp.r1; rw [I.hd_agree hG]
  · unfold Inp.s2 Inp.r2; rw [I.dq_agree hG]
  · unfold Inp.s3 Inp.r3; exact ((row_agree _ _ hG).2 _).symm
  · unfold Inp.s4 Inp.r4; exact (row_agree _ _ hG).1.symm

end Cert.Row
-- ==== Proof.Value.RefRun.lean ====
module

public import proofs.«01_k».proof.Proof.Value.Reference
public import proofs.«01_k».proof.Proof.Value.Agree

/-! What the reference's run leaves in its results, on the extended reals. -/

@[expose] public section

set_option maxRecDepth 16384

noncomputable section

namespace Cert.ReferenceIdeal.Value

open Cert.ReferenceIdeal Cert.ReferenceIdeal.Gen
open Idealize.ShloMosaic hiding ix1 ix2 ix3 ix4
open Idealize.ShloMosaic.TcCoe
open Cert.Row
open ValueIdx (ix1 ix2 ix3 ix4)

variable (m : (ℓ : Loc nD τ sig) → Buf (Elt Ideal) ℓ) (c : Dev nD)

/-- The buffers the product leaves to the host lines after it. -/
abbrev mid : Valuation τ sig (Elt Ideal) := Pipeline.withArrays (cfgs 0).spec c (V0 m c) fun w => (dats m 0 c).arrAt w (cfgs 0).N

theorem mid_p : mid m c (Proc.devRef .tc main_v37_1) = prd m c :=
  (Pipeline.withArrays_arr (cfgs 0).spec winFacts0.arr_inj c (V0 m c) (fun w => (dats m 0 c).arrAt w (cfgs 0).N) 4).trans (arr_4 m c)
theorem mid_c : mid m c (Proc.devRef .tc main_v37_0) = cds m c :=
  (Pipeline.withArrays_arr (cfgs 0).spec winFacts0.arr_inj c (V0 m c) (fun w => (dats m 0 c).arrAt w (cfgs 0).N) 3).trans (arr_3 m c)
theorem mid_s : (mid m c (Proc.devRef .tc main_v31) : S4x4096x1.Idx → EReal) = sOf (m ((c.tc : Thread nD τ).loc main_arg0)) (m ((c.tc : Thread nD τ).loc main_arg1)) :=
  (Pipeline.withArrays_of_ne (cfgs 0).spec c (V0 m c) (fun w => (dats m 0 c).arrAt w (cfgs 0).N) main_v31 (by exact (by decide : ∀ w, Pipeline.arrRef spec0 w ≠ main_v31))).trans (V_v31 m c)
theorem mid_3 : mid m c (Proc.devRef .tc main_arg3) = m ((c.tc : Thread nD τ).loc main_arg3) :=
  (Pipeline.withArrays_of_ne (cfgs 0).spec c (V0 m c) (fun w => (dats m 0 c).arrAt w (cfgs 0).N) main_arg3 (by exact (by decide : ∀ w, Pipeline.arrRef spec0 w ≠ main_arg3))).trans (V_main_arg3 m c)
theorem mid_4 : mid m c (Proc.devRef .tc main_arg4) = m ((c.tc : Thread nD τ).loc main_arg4) :=
  (Pipeline.withArrays_of_ne (cfgs 0).spec c (V0 m c) (fun w => (dats m 0 c).arrAt w (cfgs 0).N) main_arg4 (by exact (by decide : ∀ w, Pipeline.arrRef spec0 w ≠ main_arg4))).trans (V_main_arg4 m c)
theorem mid_5 : mid m c (Proc.devRef .tc main_arg5) = m ((c.tc : Thread nD τ).loc main_arg5) :=
  (Pipeline.withArrays_of_ne (cfgs 0).spec c (V0 m c) (fun w => (dats m 0 c).arrAt w (cfgs 0).N) main_arg5 (by exact (by decide : ∀ w, Pipeline.arrRef spec0 w ≠ main_arg5))).trans (V_main_arg5 m c)

/-! ## The host lines after the product -/

section
variable (M : Valuation τ sig (Elt Ideal)) (p : FVec Ideal S16384x1152 .f32) (s : FVec Ideal S4x4096x1 .f32) (w : FVec Ideal S1152 .f32)
  (hp : M (Proc.devRef .tc main_v37_1) = p) (hs : M (Proc.devRef .tc main_v31) = s) (hw : M (Proc.devRef .tc main_arg3) = w)
include hp hs hw

theorem post_q (g : FVec Ideal S128 .bf16) (hg : M (Proc.devRef .tc main_arg4) = g) :
    StableHlo.after hostOps1 M (Proc.devRef .tc main_v64) = normOf (n := 7) (qOf (deqOf p s w)) g reducesTo_S4x4096x7x128_S4x4096x7_d3
      bcast_S4x4096x7_S4x4096x7x1_0_1_2 bcast_S_S4x4096x7x1 bcast_S4x4096x7x1_S4x4096x7x128_0_1_2_3 bcast_S1x1x1x128_S4x4096x7x128_0_1_2_3 := by
  after_reads_simp
  rw [hp, hs, hw, hg]
  rfl

theorem post_k (g : FVec Ideal S128 .bf16) (hg : M (Proc.devRef .tc main_arg5) = g) :
    StableHlo.after hostOps1 M (Proc.devRef .tc main_v79) = normOf (n := 1) (kOf (deqOf p s w)) g reducesTo_S4x4096x1x128_S4x4096x1_d3
      bcast_S4x4096x1_S4x4096x1x1_0_1_2 bcast_S_S4x4096x1x1 bcast_S4x4096x1x1_S4x4096x1x128_0_1_2_3 bcast_S1x1x1x128_S4x4096x1x128_0_1_2_3 := by
  after_reads_simp
  rw [hp, hs, hw, hg]
  rfl

theorem post_v : StableHlo.after hostOps1 M (Proc.devRef .tc main_v80) = truncf (F := Ideal) .bf16 (vOf (deqOf p s w)) bitsLt_bf16_f32 := by
  after_reads_simp
  rw [hp, hs, hw]
  rfl
end

theorem post_c (M : Valuation τ sig (Elt Ideal)) (k : S16384x3584.Idx → EReal) (h : M (Proc.devRef .tc main_v37_0) = k) :
    StableHlo.after hostOps1 M (Proc.devRef .tc main_v81) = shapeCast S4x4096x3584 k shapeCasts_S16384x3584_S4x4096x3584 := by
  after_reads_simp
  rw [h]
  rfl

theorem post_s (M : Valuation τ sig (Elt Ideal)) : StableHlo.after hostOps1 M (Proc.devRef .tc main_v31) = M (Proc.devRef .tc main_v31) := by
  after_reads_simp

/-! ## The results -/

abbrev tail : (c : Dev nD) → (b : Ref sig .tc) → Buf (Elt Ideal) ((c : Thread nD τ).loc b) := Pipeline.afterTail₀ cfgs (dats m) 0 (V0 m) [hostOps1]

theorem tail_eq (b : Ref sig .tc) : tail m c b = StableHlo.after hostOps1 (mid m c) (Proc.devRef .tc b) := by
  show StableHlo.after (hostOps1 ++ []) (mid m c) (Proc.devRef .tc b) = _
  rw [List.append_nil]

/-- The scaled product of device `c`. -/
abbrev dq : FVec Ideal S4x4096x1152 .f32 :=
  deqOf (prd m c) (sOf (m ((c.tc : Thread nD τ).loc main_arg0)) (m ((c.tc : Thread nD τ).loc main_arg1))) (m ((c.tc : Thread nD τ).loc main_arg3))

theorem dq_at (b : Fin 4) (t : Fin 4096) (n : Fin 1152) : dq m c (ix3 b t n) = (inp m c).dqR (4096 * b.val + t.val) n := by
  refine (deqOf_at _ _ _ b t n).trans ?_
  rw [s_at]
  unfold Inp.dqR deqR
  rw [row_at, gain_eq]
  unfold prd
  show dotS (cdR ((inp m c).row (4096 * b.val + t.val)) (inp m c).gain) ((inp m c).col n) * _ * _ = _
  rw [row_at, gain_eq]
  rfl

theorem res_0 : tail m c main_v64 = (inp m c).s0 := by
  refine (tail_eq m c _).trans ((post_q (mid m c) _ _ _ (mid_p m c) (mid_s m c) (mid_3 m c) _ (mid_4 m c)).trans ?_)
  funext i
  refine (congrArg _ (ValueIdx.eq_ix4 i)).trans ((normOf_at _ _ (by decide) _ _ _ _ _ (i 0) (i 1) (i 2) (i 3)).trans ?_)
  unfold Inp.s0 Inp.hdR
  refine congrArg₂ (fun d g => headS d g (i 3)) ?_ rfl
  funext k
  exact (qOf_at _ (i 0) (i 1) (i 2) k).trans (dq_at m c (i 0) (i 1) _)

theorem res_1 : tail m c main_v79 = (inp m c).s1 := by
  refine (tail_eq m c _).trans ((post_k (mid m c) _ _ _ (mid_p m c) (mid_s m c) (mid_3 m c) _ (mid_5 m c)).trans ?_)
  funext i
  refine (congrArg _ (eq4 i)).trans ((normOf_at _ _ (by decide) _ _ _ _ _ (i 0) (i 1) 0 (i 3)).trans ?_)
  unfold Inp.s1 Inp.hdR
  refine congrArg₂ (fun d g => headS d g (i 3)) ?_ rfl
  funext k
  exact (kOf_at _ (i 0) (i 1) k).trans (dq_at m c (i 0) (i 1) _)

theorem res_2 : tail m c main_v80 = (inp m c).s2 := by
  refine (tail_eq m c _).trans ((post_v (mid m c) _ _ _ (mid_p m c) (mid_s m c) (mid_3 m c)).trans ?_)
  funext i
  refine (congrArg _ (eq4 i)).trans ((trunc_at _ _ _).trans ?_)
  exact (vOf_at _ (i 0) (i 1) (i 3)).trans (dq_at m c (i 0) (i 1) _)

theorem res_3 : tail m c main_v81 = (inp m c).s3 := by
  refine (tail_eq m c _).trans ((post_c (mid m c) _ (mid_c m c)).trans ?_)
  funext i
  exact (congrArg _ (ValueIdx.eq_ix3 i)).trans (cast3 _ _ (i 0) (i 1) (i 2))

theorem res_4 : tail m c main_v31 = (inp m c).s4 := by
  refine (tail_eq m c _).trans ((post_s (mid m c)).trans ((mid_s m c).trans ?_))
  funext i
  refine (congrArg _ (eq3 i)).trans ((s_at _ _ (i 0) (i 1)).trans ?_)
  unfold Inp.s4
  rw [gain_eq]
  exact congrArg (fun r => scR r _) (row_at m c (i 0) (i 1)).symm

/-- The run, its results read. -/
theorem run_values (ρ : Dev nD → PrngReg) : θ_run defs (onTc (τ := τ) (main (F := Ideal))) ⟨m, fun _ => 0, ρ⟩ (fun r => ∀ c : Dev nD,
      r.2.mem ((c.tc : Thread nD τ).loc main_v64) = (inp m c).s0
      ∧ r.2.mem ((c.tc : Thread nD τ).loc main_v79) = (inp m c).s1
      ∧ r.2.mem ((c.tc : Thread nD τ).loc main_v80) = (inp m c).s2
      ∧ r.2.mem ((c.tc : Thread nD τ).loc main_v81) = (inp m c).s3
      ∧ r.2.mem ((c.tc : Thread nD τ).loc main_v31) = (inp m c).s4) :=
  (θ_run defs _ _).mono (fun _ h c => ⟨
      ((h.1 c).2 main_v64 (Pipeline.mem_restRefs_of main_v64 (by decide) (by decide))).trans (res_0 m c),
      ((h.1 c).2 main_v79 (Pipeline.mem_restRefs_of main_v79 (by decide) (by decide))).trans (res_1 m c),
      ((h.1 c).2 main_v80 (Pipeline.mem_restRefs_of main_v80 (by decide) (by decide))).trans (res_2 m c),
      ((h.1 c).2 main_v81 (Pipeline.mem_restRefs_of main_v81 (by decide) (by decide))).trans (res_3 m c),
      ((h.1 c).2 main_v31 (Pipeline.mem_restRefs_of main_v31 (by decide) (by decide))).trans (res_4 m c)⟩) (run_main_quiescent m ρ)

end Cert.ReferenceIdeal.Value
-- ==== Proof.lean ====
module

public import proofs.«01_k».proof.Defs
public import proofs.«01_k».proof.Proof.Run.Kernel
public import proofs.«01_k».proof.Proof.Value.Kernel
public import proofs.«01_k».proof.Proof.Value.RefRun

@[expose] public section

noncomputable section

namespace Cert.Proof

open Idealize.ShloMosaic Idealize.SL.Sem

theorem preserves : Cert.preserves_Kernel_KernelIdeal :=
  IdealRules.named_const.statement Cert.KernelIdeal.κ "inv_d" .f32 0x39924925#32 ((1 / 3584 : ℝ) : EReal) rfl

/-- The kernel as printed names no constant; any reading of names will do. -/
abbrev noNames : Named Bits := ⟨fun _ _ {φ} b => FloatOps.ofBits φ b⟩

theorem facts : Cert.Pre_gain_is_finite.Facts := ⟨by decide, by decide⟩

/-- The precondition, gain by gain. -/
theorem gain_le (m : (ℓ : Loc Cert.KernelIdeal.nD Cert.KernelIdeal.τ Cert.KernelIdeal.sig) → Buf (Elt Ideal) ℓ)
    (h : Cert.Pre_KernelIdeal_gain_is_finite (hPre_gain_is_finite := facts) m) (c : Dev Cert.KernelIdeal.nD) (j : Fin 3584) :
    max ((Cert.KernelIdeal.Value.inp m c).gain j) (-((Cert.KernelIdeal.Value.inp m c).gain j)) ≤ Cert.Row.gMax := by
  have e : Ideal.cmp .ole (max ((Cert.KernelIdeal.Value.inp m c).gain j) (-((Cert.KernelIdeal.Value.inp m c).gain j))) Cert.Row.gMax = 1#1 :=
    congrFun (h c) (ValueIdx.ix1 j)
  by_contra hn
  have : Ideal.cmp .ole (max ((Cert.KernelIdeal.Value.inp m c).gain j) (-((Cert.KernelIdeal.Value.inp m c).gain j))) Cert.Row.gMax = 0#1 := by
    simp [Ideal.cmp, hn]
  rw [this] at e
  exact absurd e (by decide)

theorem inp_congr {a0 b0 a1 b1 a2 b2 a3 b3 a4 b4 a5 b5} (h0 : a0 = b0) (h1 : a1 = b1) (h2 : a2 = b2) (h3 : a3 = b3) (h4 : a4 = b4) (h5 : a5 = b5) :
    Cert.Row.Inp.mk a0 a1 a2 a3 a4 a5 = Cert.Row.Inp.mk b0 b1 b2 b3 b4 b5 := by
  rw [h0, h1, h2, h3, h4, h5]

theorem algebraic : Cert.algebraic_KernelIdeal_ReferenceIdeal_pre_gain_is_finite (hKernelIdeal := Cert.KernelIdeal.Gen.facts)
    (hReferenceIdeal := Cert.ReferenceIdeal.Gen.facts) (hPre_gain_is_finite := facts) := by
  intro m g m' g' hP hA
  have hi : ∀ c : Dev Cert.KernelIdeal.nD, Cert.ReferenceIdeal.Value.inp m' c = Cert.KernelIdeal.Value.inp m c := fun c =>
    inp_congr (hA c).1 (hA c).2.1 (hA c).2.2.1 (hA c).2.2.2.1 (hA c).2.2.2.2.1 (hA c).2.2.2.2.2
  have ha := fun c : Dev Cert.KernelIdeal.nD => (Cert.KernelIdeal.Value.inp m c).agree (gain_le m hP c)
  refine ⟨fun c => (Cert.KernelIdeal.Value.inp m c).r0, fun c => (Cert.KernelIdeal.Value.inp m c).r1, fun c => (Cert.KernelIdeal.Value.inp m c).r2,
    fun c => (Cert.KernelIdeal.Value.inp m c).r3, fun c => (Cert.KernelIdeal.Value.inp m c).r4, ?_, ?_⟩
  · refine (θ_run _ _ _).mono (fun r h c => ?_) (Cert.KernelIdeal.Value.run_values m g Variants.none)
    obtain ⟨⟨h0, h1, h2, h3, h4⟩, ht⟩ := h c
    exact ⟨h0, h1, h2, h3, h4, ht⟩
  · refine (θ_run _ _ _).mono (fun r h c => ?_) (θ_run_and (Cert.ReferenceIdeal.Value.run_values m' g') (Cert.ReferenceIdeal.Gen.unchanged m' g'))
    obtain ⟨h0, h1, h2, h3, h4⟩ := h.1 c
    rw [hi c] at h0 h1 h2 h3 h4
    exact ⟨h0.trans (ha c).1, h1.trans (ha c).2.1, h2.trans (ha c).2.2.1, h3.trans (ha c).2.2.2.1, h4.trans (ha c).2.2.2.2, h.2 c⟩

theorem claim : Cert.Claim := ⟨Cert.Kernel.Gen.facts, Cert.KernelIdeal.Gen.facts, Cert.ReferenceIdeal.Gen.facts, facts,
  fun m ρ _ => @Cert.Kernel.Run.quiet Bits _ noNames m ρ Variants.none,
  fun m ρ _ => Cert.KernelIdeal.Run.quiet m ρ Variants.none,
  fun m ρ _ => Cert.KernelIdeal.Run.quiet m ρ Variants.none,
  fun m ρ _ => Cert.ReferenceIdeal.Gen.frame m ρ,
  fun m ρ _ => Cert.ReferenceIdeal.Gen.frame m ρ,
  preserves, algebraic⟩

end Cert.Proof

end
